-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference3Ideal [hKernel5Ideal : Cert.Kernel5Ideal.Facts] [hReference3Ideal : Cert.Reference3Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel5Ideal m →
    (∀ c : Dev Cert.Kernel5Ideal.nD,
      m' ((c.tc : Thread Cert.Reference3Ideal.nD Cert.Reference3Ideal.τ).loc Cert.Reference3Ideal.main_arg0) = m ((c.tc : Thread Cert.Kernel5Ideal.nD Cert.Kernel5Ideal.τ).loc Cert.Kernel5Ideal.main_arg0)
      ∧ m' ((c.tc : Thread Cert.Reference3Ideal.nD Cert.Reference3Ideal.τ).loc Cert.Reference3Ideal.main_arg1) = m ((c.tc : Thread Cert.Kernel5Ideal.nD Cert.Kernel5Ideal.τ).loc Cert.Kernel5Ideal.main_arg1)
      ∧ m' ((c.tc : Thread Cert.Reference3Ideal.nD Cert.Reference3Ideal.τ).loc Cert.Reference3Ideal.main_arg2) = m ((c.tc : Thread Cert.Kernel5Ideal.nD Cert.Kernel5Ideal.τ).loc Cert.Kernel5Ideal.main_arg2)
      ∧ m' ((c.tc : Thread Cert.Reference3Ideal.nD Cert.Reference3Ideal.τ).loc Cert.Reference3Ideal.main_arg3) = m ((c.tc : Thread Cert.Kernel5Ideal.nD Cert.Kernel5Ideal.τ).loc Cert.Kernel5Ideal.main_arg3)
      ∧ m' ((c.tc : Thread Cert.Reference3Ideal.nD Cert.Reference3Ideal.τ).loc Cert.Reference3Ideal.main_arg4) = m ((c.tc : Thread Cert.Kernel5Ideal.nD Cert.Kernel5Ideal.τ).loc Cert.Kernel5Ideal.main_arg4)
      ∧ m' ((c.tc : Thread Cert.Reference3Ideal.nD Cert.Reference3Ideal.τ).loc Cert.Reference3Ideal.main_arg5) = m ((c.tc : Thread Cert.Kernel5Ideal.nD Cert.Kernel5Ideal.τ).loc Cert.Kernel5Ideal.main_arg5)
      ∧ m' ((c.tc : Thread Cert.Reference3Ideal.nD Cert.Reference3Ideal.τ).loc Cert.Reference3Ideal.main_arg6) = m ((c.tc : Thread Cert.Kernel5Ideal.nD Cert.Kernel5Ideal.τ).loc Cert.Kernel5Ideal.main_arg6)
      ∧ m' ((c.tc : Thread Cert.Reference3Ideal.nD Cert.Reference3Ideal.τ).loc Cert.Reference3Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference3Ideal (hKernel5Ideal := hKernel5Ideal) (hReference3Ideal := hReference3Ideal)
    ∧ preserves_Kernel6_Kernel6Ideal
    ∧ algebraic_Kernel6Ideal_Reference6Ideal (hKernel6Ideal := hKernel6Ideal) (hReference6Ideal := hReference6Ideal)
-- ==== Pre_routed.lean ====
abbrev S73728x1024 : Shape := ⟨2, ![73728, 1024]⟩
abbrev S608x1x256 : Shape := ⟨3, ![608, 1, 256]⟩
abbrev S608 : Shape := ⟨1, ![608]⟩
abbrev S4x32x1024x512 : Shape := ⟨4, ![4, 32, 1024, 512]⟩
abbrev S4x32x512x1024 : Shape := ⟨4, ![4, 32, 512, 1024]⟩
abbrev S_ : Shape := ⟨0, ![]⟩
abbrev S1 : Shape := ⟨1, ![1]⟩
abbrev S607 : Shape := ⟨1, ![607]⟩

class Facts : Prop where
  bcast_S_S608x1x256 : S_.BroadcastsInDim S608x1x256 (![] : Fin 0 → Fin S608x1x256.rank)
  bcast_S_S608 : S_.BroadcastsInDim S608 (![] : Fin 0 → Fin S608.rank)
  slices_S608_S1_0 : S608.Slices ![0] S1
  bcast_S_S1 : S_.BroadcastsInDim S1 (![] : Fin 0 → Fin S1.rank)
  slices_S608_S607_1 : S608.Slices ![1] S607
  slices_S608_S607_0 : S608.Slices ![0] S607

variable [Facts]

def fn {F : FTy → Type} [FloatOps F] (main_arg0 : FVec F S73728x1024 .f32) (main_arg1 : IVec S608x1x256 32) (main_arg2 : IVec S608 32) (main_arg3 : IVec S608 32) (main_arg4 : FVec F S4x32x1024x512 .f32) (main_arg5 : FVec F S4x32x1024x512 .f32) (main_arg6 : FVec F S4x32x512x1024 .f32) : IVec S608x1x256 1 × IVec S608 1 × IVec S608 1 × IVec S1 1 × IVec S607 1 :=
  let main_c : IVec S_ 32 := constantI S_ 32 0#32
  let main_v0 : IVec S608x1x256 32 := broadcastInDim S608x1x256 ![] bcast_S_S608x1x256 main_c
  let main_v1 : IVec S608x1x256 1 := cmpi .sge main_arg1 main_v0
  let main_c_0 : IVec S_ 32 := constantI S_ 32 73728#32
  let main_v2 : IVec S608x1x256 32 := broadcastInDim S608x1x256 ![] bcast_S_S608x1x256 main_c_0
  let main_v3 : IVec S608x1x256 1 := cmpi .slt main_arg1 main_v2
  let main_v4 : IVec S608x1x256 1 := andi main_v1 main_v3
  let main_c_1 : IVec S_ 32 := constantI S_ 32 0#32
  let main_v5 : IVec S608 32 := broadcastInDim S608 ![] bcast_S_S608 main_c_1
  let main_v6 : IVec S608 1 := cmpi .sge main_arg2 main_v5
  let main_c_2 : IVec S_ 32 := constantI S_ 32 32#32
  let main_v7 : IVec S608 32 := broadcastInDim S608 ![] bcast_S_S608 main_c_2
  let main_v8 : IVec S608 1 := cmpi .slt main_arg2 main_v7
  let main_v9 : IVec S608 1 := andi main_v6 main_v8
  let main_c_3 : IVec S_ 32 := constantI S_ 32 0#32
  let main_v10 : IVec S608 32 := broadcastInDim S608 ![] bcast_S_S608 main_c_3
  let main_v11 : IVec S608 1 := cmpi .sge main_arg3 main_v10
  let main_v12 : IVec S1 32 := (extractStridedSlice S1 ![0] · slices_S608_S1_0) main_arg3
  let main_c_4 : IVec S_ 32 := constantI S_ 32 1#32
  let main_v13 : IVec S1 32 := broadcastInDim S1 ![] bcast_S_S1 main_c_4
  let main_v14 : IVec S1 1 := cmpi .eq main_v12 main_v13
  let main_v15 : IVec S607 32 := (extractStridedSlice S607 ![1] · slices_S608_S607_1) main_arg3
  let main_v16 : IVec S607 32 := (extractStridedSlice S607 ![0] · slices_S608_S607_0) main_arg3
  let main_v17 : IVec S607 1 := cmpi .sle main_v15 main_v16
  (main_v4, main_v9, main_v11, main_v14, main_v17)
-- ==== Kernel.lean ====
abbrev S73728x1024 : Shape := ⟨2, ![73728, 1024]⟩
abbrev S608x1x256 : Shape := ⟨3, ![608, 1, 256]⟩
abbrev S608 : Shape := ⟨1, ![608]⟩
abbrev S4x32x1024x512 : Shape := ⟨4, ![4, 32, 1024, 512]⟩
abbrev S4x32x512x1024 : Shape := ⟨4, ![4, 32, 512, 1024]⟩
abbrev S155648x1024 : Shape := ⟨2, ![155648, 1024]⟩
abbrev S1x1x256 : Shape := ⟨3, ![1, 1, 256]⟩
abbrev S1 : Shape := ⟨1, ![1]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S2x256x1024 : Shape := ⟨3, ![2, 256, 1024]⟩
abbrev S1024x512 : Shape := ⟨2, ![1024, 512]⟩
abbrev S512x1024 : Shape := ⟨2, ![512, 1024]⟩
abbrev S2 : Shape := ⟨1, ![2]⟩
abbrev S1x1x1 : Shape := ⟨3, ![1, 1, 1]⟩
abbrev S_ : Shape := ⟨0, ![]⟩
abbrev S1x256x1024 : Shape := ⟨3, ![1, 256, 1024]⟩
abbrev S1x1024 : Shape := ⟨2, ![1, 1024]⟩
abbrev S256x512 : Shape := ⟨2, ![256, 512]⟩

abbrev nBuf : Space → Nat
  | .hbm => 6
  | .vmem => 12
  | .smem => 6
  | _ => 0

abbrev bufTy : (tb : Table) → Fin (tcTables nBuf tb) → BufTy
  | .hbm, ⟨0, _⟩ => ⟨S73728x1024, .f32⟩
  | .hbm, ⟨1, _⟩ => ⟨S608x1x256, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S155648x1024, .f32⟩
  | .local _ .vmem, ⟨0, _⟩ => ⟨S1x1x1024x512, .f32⟩
  | .local _ .vmem, ⟨1, _⟩ => ⟨S1x1x1024x512, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x512x1024, .f32⟩
  | .local _ .vmem, ⟨5, _⟩ => ⟨S1x1x512x1024, .f32⟩
  | .local _ .vmem, ⟨6, _⟩ => ⟨S256x1024, .f32⟩
  | .local _ .vmem, ⟨7, _⟩ => ⟨S256x1024, .f32⟩
  | .local _ .vmem, ⟨8, _⟩ => ⟨S2x256x1024, .f32⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .smem, ⟨0, _⟩ => ⟨S608, .i32⟩
  | .local _ .smem, ⟨1, _⟩ => ⟨S608, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.addi arg0 c1_i32
  let c607_i32 : BitVec 32 := 607#32
  let v1 : BitVec 32 := Scalar.minsi v0 c607_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_off3 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond1 (i : grid0.Coords) : BitVec 1 :=
  let arg0 : BitVec 32 := BitVec.ofNat 32 (i 0).val
  let c0_i32_2 : BitVec 32 := 0#32
  let v12 : BitVec 1 := Scalar.cmpi .eq arg0 c0_i32_2
  let v13 : BitVec 32 := Scalar.extui v12
  let c0_i32_3 : BitVec 32 := 0#32
  let v14 : BitVec 1 := Scalar.cmpi .ne v13 c0_i32_3
  v14

@[reducible] def k0_t1_loop : Scf.Loop 32 :=
  let c0_i32_9 : BitVec 32 := 0#32
  let c128_i32 : BitVec 32 := 128#32
  let v23 : BitVec 32 := Scalar.addi c0_i32_9 c128_i32
  let c1_i32_10 : BitVec 32 := 1#32
  ⟨c0_i32_9, v23, c1_i32_10⟩
def k0_off4 (k0_t1 : Fin k0_t1_loop.trips) : Fin 3 → Nat :=
  let c0 : Index := 0#32
  let c0_13 : Index := 0#32
  let c0_i32_9 : BitVec 32 := 0#32
  let c1_i32_10 : BitVec 32 := 1#32
  let arg15 : BitVec 32 := Scf.iv c0_i32_9 c1_i32_10 k0_t1
  let c2_i32 : BitVec 32 := 2#32
  let v24 : BitVec 32 := Scalar.muli arg15 c2_i32
  let c0_i32_12 : BitVec 32 := 0#32
  let v25 : BitVec 32 := Scalar.addi v24 c0_i32_12
  let v26 : Index := Scalar.indexCast v25
  ![0, 0, v26.toNat]
def k0_off5 (k0_t1 : Fin k0_t1_loop.trips) : Fin 2 → Nat :=
  let c0_i32_9 : BitVec 32 := 0#32
  let c1_i32_10 : BitVec 32 := 1#32
  let arg15 : BitVec 32 := Scf.iv c0_i32_9 c1_i32_10 k0_t1
  let c2_i32 : BitVec 32 := 2#32
  let v24 : BitVec 32 := Scalar.muli arg15 c2_i32
  let c0_i32_12 : BitVec 32 := 0#32
  let v25 : BitVec 32 := Scalar.addi v24 c0_i32_12
  let c0_i32_16 : BitVec 32 := 0#32
  ![v25.toNat, 0]
def k0_off6 (v27 : BitVec 32) : Fin 2 → Nat :=
  let c0_i32_17 : BitVec 32 := 0#32
  ![v27.toNat, 0]

def k0_chk1 (i : grid0.Coords) (v27 : BitVec 32) : Prop :=
  (∀ (k0_h1 : k0_cond1 i = 1#1), ∀ a, (k0_off6 v27) a + S1x1024.size a ≤ S73728x1024.size a)
theorem k0_off6_inb : ∀ (i : grid0.Coords) (v27 : BitVec 32) (k0_hw1 : k0_chk1 i v27), ∀ (k0_h1 : k0_cond1 i = 1#1), ∀ a, (k0_off6 v27) a + S1x1024.size a ≤ S73728x1024.size a := fun i v27 k0_hw1 k0_h1 => k0_hw1 k0_h1

def k0_off7 (k0_t1 : Fin k0_t1_loop.trips) : Fin 3 → Nat :=
  let c0_20 : Index := 0#32
  let c0_21 : Index := 0#32
  let c0_i32_9 : BitVec 32 := 0#32
  let c1_i32_10 : BitVec 32 := 1#32
  let arg15 : BitVec 32 := Scf.iv c0_i32_9 c1_i32_10 k0_t1
  let c2_i32_18 : BitVec 32 := 2#32
  let v34 : BitVec 32 := Scalar.muli arg15 c2_i32_18
  let c1_i32_19 : BitVec 32 := 1#32
  let v35 : BitVec 32 := Scalar.addi v34 c1_i32_19
  let v36 : Index := Scalar.indexCast v35
  ![0, 0, v36.toNat]
def k0_off8 (k0_t1 : Fin k0_t1_loop.trips) : Fin 2 → Nat :=
  let c0_i32_9 : BitVec 32 := 0#32
  let c1_i32_10 : BitVec 32 := 1#32
  let arg15 : BitVec 32 := Scf.iv c0_i32_9 c1_i32_10 k0_t1
  let c2_i32_18 : BitVec 32 := 2#32
  let v34 : BitVec 32 := Scalar.muli arg15 c2_i32_18
  let c1_i32_19 : BitVec 32 := 1#32
  let v35 : BitVec 32 := Scalar.addi v34 c1_i32_19
  let c0_i32_24 : BitVec 32 := 0#32
  ![v35.toNat, 0]
def k0_off9 (v37 : BitVec 32) : Fin 2 → Nat :=
  let c0_i32_25 : BitVec 32 := 0#32
  ![v37.toNat, 0]

def k0_chk2 (i : grid0.Coords) (v37 : BitVec 32) : Prop :=
  (∀ (k0_h1 : k0_cond1 i = 1#1), ∀ a, (k0_off9 v37) a + S1x1024.size a ≤ S73728x1024.size a)
theorem k0_off9_inb : ∀ (i : grid0.Coords) (v37 : BitVec 32) (k0_hw2 : k0_chk2 i v37), ∀ (k0_h1 : k0_cond1 i = 1#1), ∀ a, (k0_off9 v37) a + S1x1024.size a ≤ S73728x1024.size a := fun i v37 k0_hw2 k0_h1 => k0_hw2 k0_h1

@[reducible] def k0_t2_loop : Scf.Loop 32 :=
  let c0_i32_12 : BitVec 32 := 0#32
  let c256_i32 : BitVec 32 := 256#32
  let v33 : BitVec 32 := Scalar.addi c0_i32_12 c256_i32
  let c1_i32_13 : BitVec 32 := 1#32
  ⟨c0_i32_12, v33, c1_i32_13⟩
def k0_off10 (i : grid0.Coords) : Fin 1 → Nat :=
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  ![v32.toNat]
def k0_off11 (i : grid0.Coords) : Fin 3 → Nat :=
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_37 : BitVec 32 := 0#32
  let c0_i32_38 : BitVec 32 := 0#32
  ![v32.toNat, 0, 0]
def k0_off12 (k0_t2 : Fin k0_t2_loop.trips) : Fin 2 → Nat :=
  let c0_i32_12 : BitVec 32 := 0#32
  let c1_i32_13 : BitVec 32 := 1#32
  let arg15 : BitVec 32 := Scf.iv c0_i32_12 c1_i32_13 k0_t2
  let c0_i32_39 : BitVec 32 := 0#32
  ![arg15.toNat, 0]
def k0_off13 (k0_t2 : Fin k0_t2_loop.trips) : Fin 2 → Nat :=
  let c0_i32_12 : BitVec 32 := 0#32
  let c1_i32_13 : BitVec 32 := 1#32
  let arg15 : BitVec 32 := Scf.iv c0_i32_12 c1_i32_13 k0_t2
  let c0_i32_40 : BitVec 32 := 0#32
  ![arg15.toNat, 0]
def k0_off14 (i : grid0.Coords) : Fin 3 → Nat :=
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v34 : Index := Scalar.indexCast v32
  let c0 : Index := 0#32
  let c0_15 : Index := 0#32
  ![v34.toNat, 0, 0]
@[reducible] def k0_t3_loop : Scf.Loop 32 :=
  let c0_i32_18 : BitVec 32 := 0#32
  let c128_i32 : BitVec 32 := 128#32
  let v40 : BitVec 32 := Scalar.addi c0_i32_18 c128_i32
  let c1_i32_19 : BitVec 32 := 1#32
  ⟨c0_i32_18, v40, c1_i32_19⟩
def k0_off15 (k0_t3 : Fin k0_t3_loop.trips) : Fin 3 → Nat :=
  let c0_39 : Index := 0#32
  let c0_40 : Index := 0#32
  let c0_i32_18 : BitVec 32 := 0#32
  let c1_i32_19 : BitVec 32 := 1#32
  let arg15 : BitVec 32 := Scf.iv c0_i32_18 c1_i32_19 k0_t3
  let c2_i32_37 : BitVec 32 := 2#32
  let v65 : BitVec 32 := Scalar.muli arg15 c2_i32_37
  let c0_i32_38 : BitVec 32 := 0#32
  let v66 : BitVec 32 := Scalar.addi v65 c0_i32_38
  let v67 : Index := Scalar.indexCast v66
  ![0, 0, v67.toNat]
def k0_off16 (i : grid0.Coords) : Fin 1 → Nat :=
  let c1_i32_17 : BitVec 32 := 1#32
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v39 : BitVec 32 := Scalar.subi c1_i32_17 v32
  ![v39.toNat]
def k0_off17 (i : grid0.Coords) : Fin 3 → Nat :=
  let c1_i32_16 : BitVec 32 := 1#32
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v38 : BitVec 32 := Scalar.subi c1_i32_16 v32
  let c0_i32_41 : BitVec 32 := 0#32
  let c0_i32_42 : BitVec 32 := 0#32
  ![v38.toNat, 0, 0]
def k0_off18 (k0_t3 : Fin k0_t3_loop.trips) : Fin 2 → Nat :=
  let c0_i32_18 : BitVec 32 := 0#32
  let c1_i32_19 : BitVec 32 := 1#32
  let arg15 : BitVec 32 := Scf.iv c0_i32_18 c1_i32_19 k0_t3
  let c2_i32_37 : BitVec 32 := 2#32
  let v65 : BitVec 32 := Scalar.muli arg15 c2_i32_37
  let c0_i32_38 : BitVec 32 := 0#32
  let v66 : BitVec 32 := Scalar.addi v65 c0_i32_38
  let c0_i32_43 : BitVec 32 := 0#32
  ![v66.toNat, 0]
def k0_off19 (v68 : BitVec 32) : Fin 2 → Nat :=
  let c0_i32_44 : BitVec 32 := 0#32
  ![v68.toNat, 0]
def k0_cond3 (v1 : BitVec 32) : BitVec 1 :=
  let c0_i32 : BitVec 32 := 0#32
  let v2 : BitVec 1 := Scalar.cmpi .sgt v1 c0_i32
  let v18 : BitVec 32 := Scalar.extui v2
  let c0_i32_5 : BitVec 32 := 0#32
  let v19 : BitVec 1 := Scalar.cmpi .ne v18 c0_i32_5
  v19

def k0_chk3 (v1 : BitVec 32) (v68 : BitVec 32) : Prop :=
  (∀ (k0_h3 : k0_cond3 v1 = 1#1), ∀ a, (k0_off19 v68) a + S1x1024.size a ≤ S73728x1024.size a)
theorem k0_off19_inb : ∀ (v1 : BitVec 32) (v68 : BitVec 32) (k0_hw3 : k0_chk3 v1 v68), ∀ (k0_h3 : k0_cond3 v1 = 1#1), ∀ a, (k0_off19 v68) a + S1x1024.size a ≤ S73728x1024.size a := fun v1 v68 k0_hw3 k0_h3 => k0_hw3 k0_h3

def k0_off20 (k0_t3 : Fin k0_t3_loop.trips) : Fin 3 → Nat :=
  let c0_47 : Index := 0#32
  let c0_48 : Index := 0#32
  let c0_i32_18 : BitVec 32 := 0#32
  let c1_i32_19 : BitVec 32 := 1#32
  let arg15 : BitVec 32 := Scf.iv c0_i32_18 c1_i32_19 k0_t3
  let c2_i32_45 : BitVec 32 := 2#32
  let v75 : BitVec 32 := Scalar.muli arg15 c2_i32_45
  let c1_i32_46 : BitVec 32 := 1#32
  let v76 : BitVec 32 := Scalar.addi v75 c1_i32_46
  let v77 : Index := Scalar.indexCast v76
  ![0, 0, v77.toNat]
def k0_off21 (i : grid0.Coords) : Fin 1 → Nat :=
  let c1_i32_17 : BitVec 32 := 1#32
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v39 : BitVec 32 := Scalar.subi c1_i32_17 v32
  ![v39.toNat]
def k0_off22 (i : grid0.Coords) : Fin 3 → Nat :=
  let c1_i32_16 : BitVec 32 := 1#32
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v38 : BitVec 32 := Scalar.subi c1_i32_16 v32
  let c0_i32_49 : BitVec 32 := 0#32
  let c0_i32_50 : BitVec 32 := 0#32
  ![v38.toNat, 0, 0]
def k0_off23 (k0_t3 : Fin k0_t3_loop.trips) : Fin 2 → Nat :=
  let c0_i32_18 : BitVec 32 := 0#32
  let c1_i32_19 : BitVec 32 := 1#32
  let arg15 : BitVec 32 := Scf.iv c0_i32_18 c1_i32_19 k0_t3
  let c2_i32_45 : BitVec 32 := 2#32
  let v75 : BitVec 32 := Scalar.muli arg15 c2_i32_45
  let c1_i32_46 : BitVec 32 := 1#32
  let v76 : BitVec 32 := Scalar.addi v75 c1_i32_46
  let c0_i32_51 : BitVec 32 := 0#32
  ![v76.toNat, 0]
def k0_off24 (v78 : BitVec 32) : Fin 2 → Nat :=
  let c0_i32_52 : BitVec 32 := 0#32
  ![v78.toNat, 0]

def k0_chk4 (v1 : BitVec 32) (v78 : BitVec 32) : Prop :=
  (∀ (k0_h3 : k0_cond3 v1 = 1#1), ∀ a, (k0_off24 v78) a + S1x1024.size a ≤ S73728x1024.size a)
theorem k0_off24_inb : ∀ (v1 : BitVec 32) (v78 : BitVec 32) (k0_hw4 : k0_chk4 v1 v78), ∀ (k0_h3 : k0_cond3 v1 = 1#1), ∀ a, (k0_off24 v78) a + S1x1024.size a ≤ S73728x1024.size a := fun v1 v78 k0_hw4 k0_h3 => k0_hw4 k0_h3

def k0_off25 (i : grid0.Coords) : Fin 1 → Nat :=
  let arg0 : BitVec 32 := BitVec.ofNat 32 (i 0).val
  let c1_i32_33 : BitVec 32 := 1#32
  let v57 : BitVec 32 := Scalar.addi arg0 c1_i32_33
  let c607_i32_34 : BitVec 32 := 607#32
  let v58 : BitVec 32 := Scalar.minsi v57 c607_i32_34
  let v59 : Index := Scalar.indexCast v58
  ![v59.toNat]
@[reducible] def k0_t4_loop : Scf.Loop 32 :=
  let c0_i32_39 : BitVec 32 := 0#32
  let c256_i32_40 : BitVec 32 := 256#32
  let v67 : BitVec 32 := Scalar.addi c0_i32_39 c256_i32_40
  let c1_i32_41 : BitVec 32 := 1#32
  ⟨c0_i32_39, v67, c1_i32_41⟩
def k0_off26 (i : grid0.Coords) : Fin 1 → Nat :=
  let c1_i32_38 : BitVec 32 := 1#32
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v66 : BitVec 32 := Scalar.subi c1_i32_38 v32
  ![v66.toNat]
def k0_off27 (i : grid0.Coords) : Fin 3 → Nat :=
  let c1_i32_37 : BitVec 32 := 1#32
  let arg0 : BitVec 32 := BitVec.ofNat 32 (i 0).val
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi arg0 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v65 : BitVec 32 := Scalar.subi c1_i32_37 v32
  let c0_i32_43 : BitVec 32 := 0#32
  let c0_i32_44 : BitVec 32 := 0#32
  ![v65.toNat, 0, 0]
def k0_off28 (k0_t4 : Fin k0_t4_loop.trips) : Fin 2 → Nat :=
  let c0_i32_39 : BitVec 32 := 0#32
  let c1_i32_41 : BitVec 32 := 1#32
  let arg15 : BitVec 32 := Scf.iv c0_i32_39 c1_i32_41 k0_t4
  let c0_i32_45 : BitVec 32 := 0#32
  ![arg15.toNat, 0]
def k0_off29 (k0_t4 : Fin k0_t4_loop.trips) : Fin 2 → Nat :=
  let c0_i32_39 : BitVec 32 := 0#32
  let c1_i32_41 : BitVec 32 := 1#32
  let arg15 : BitVec 32 := Scf.iv c0_i32_39 c1_i32_41 k0_t4
  let c0_i32_46 : BitVec 32 := 0#32
  ![arg15.toNat, 0]
def k0_cond5 (v1 : BitVec 32) : BitVec 1 :=
  let c0_i32 : BitVec 32 := 0#32
  let v2 : BitVec 1 := Scalar.cmpi .sgt v1 c0_i32
  let v_true : BitVec 1 := 1#1
  let v20 : BitVec 1 := Scalar.xori v2 v_true
  let v21 : BitVec 32 := Scalar.extui v20
  let c0_i32_6 : BitVec 32 := 0#32
  let v22 : BitVec 1 := Scalar.cmpi .ne v21 c0_i32_6
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.addi arg0 c1_i32
  let c607_i32 : BitVec 32 := 607#32
  let v1 : BitVec 32 := Scalar.minsi v0 c607_i32
  let v2 : Index := Scalar.indexCast v1
  let v3 : BitVec 32 := pf.at 1 (Rect.unit (s := S608) ![v2.toNat] S1.size (k0_off1_inb i)) numel1_S1
  let c0_i32 : BitVec 32 := 0#32
  let v4 : BitVec 1 := Scalar.cmpi .sgt v3 c0_i32
  let v5 : BitVec 32 := Scalar.select v4 v1 arg0
  let c0_i32_0 : BitVec 32 := 0#32
  let c0_i32_1 : BitVec 32 := 0#32
  let c0_i32_2 : BitVec 32 := 0#32
  ![v5.toNat, c0_i32_0.toNat, c0_i32_1.toNat]

def cc0_transform_3 (k0_off2_inb : ∀ i : grid0.Coords, ∀ a, (k0_off2 i) a + S1.size a ≤ S608.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S608) ![v0.toNat] S1.size (k0_off2_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off2_inb : ∀ i : grid0.Coords, ∀ a, (k0_off2 i) a + S1.size a ≤ S608.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S608) ![v0.toNat] S1.size (k0_off2_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off2_inb : ∀ i : grid0.Coords, ∀ a, (k0_off2 i) a + S1.size a ≤ S608.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S608) ![v0.toNat] S1.size (k0_off2_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S73728x1024 : Shape := ⟨2, ![73728, 1024]⟩
abbrev S608x1x256 : Shape := ⟨3, ![608, 1, 256]⟩
abbrev S608 : Shape := ⟨1, ![608]⟩
abbrev S4x32x1024x512 : Shape := ⟨4, ![4, 32, 1024, 512]⟩
abbrev S4x32x512x1024 : Shape := ⟨4, ![4, 32, 512, 1024]⟩
abbrev S608x1 : Shape := ⟨2, ![608, 1]⟩
abbrev S_ : Shape := ⟨0, ![]⟩
abbrev S608x256 : Shape := ⟨2, ![608, 256]⟩
abbrev S1x1024 : Shape := ⟨2, ![1, 1024]⟩
abbrev S73729x1024 : Shape := ⟨2, ![73729, 1024]⟩
abbrev S1x32x1024x512 : Shape := ⟨4, ![1, 32, 1024, 512]⟩
abbrev S32x1024x512 : Shape := ⟨3, ![32, 1024, 512]⟩
abbrev S608x1024x512 : Shape := ⟨3, ![608, 1024, 512]⟩
abbrev S1x32x512x1024 : Shape := ⟨4, ![1, 32, 512, 1024]⟩
abbrev S32x512x1024 : Shape := ⟨3, ![32, 512, 1024]⟩
abbrev S608x512x1024 : Shape := ⟨3, ![608, 512, 1024]⟩
abbrev S608x256x1 : Shape := ⟨3, ![608, 256, 1]⟩
abbrev S608x256x1024 : Shape := ⟨3, ![608, 256, 1024]⟩
abbrev S608x256x512 : Shape := ⟨3, ![608, 256, 512]⟩
abbrev S155648x1024 : Shape := ⟨2, ![155648, 1024]⟩

abbrev nBuf : Space → Nat
  | .hbm => 76
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S608x1x256, .i32⟩
  | .hbm, ⟨2, _⟩ => ⟨S608, .i32⟩
  | .hbm, ⟨3, _⟩ => ⟨S608, .i32⟩
  | .hbm, ⟨4, _⟩ => ⟨S4x32x1024x512, .f32⟩
  | .hbm, ⟨5, _⟩ => ⟨S4x32x1024x512, .f32⟩
  | .hbm, ⟨6, _⟩ => ⟨S4x32x512x1024, .f32⟩
  | .hbm, ⟨7, _⟩ => ⟨S608x1, .i32⟩
  | .hbm, ⟨8, _⟩ => ⟨S_, .i32⟩
  | .hbm, ⟨9, _⟩ => ⟨S608x1, .i32⟩
  | .hbm, ⟨10, _⟩ => ⟨S608x1, .i1⟩
  | .hbm, ⟨11, _⟩ => ⟨S608x256, .i32⟩
  | .hbm, ⟨12, _⟩ => ⟨S_, .i32⟩
  | .hbm, ⟨13, _⟩ => ⟨S_, .i32⟩
  | .hbm, ⟨14, _⟩ => ⟨S608x256, .i1⟩
  | .hbm, ⟨15, _⟩ => ⟨S608x256, .i32⟩
  | .hbm, ⟨16, _⟩ => ⟨S608x256, .i32⟩
  | .hbm, ⟨17, _⟩ => ⟨S_, .f32⟩
  | .hbm, ⟨18, _⟩ => ⟨S1x1024, .f32⟩
  | .hbm, ⟨19, _⟩ => ⟨S73729x1024, .f32⟩
  | .hbm, ⟨20, _⟩ => ⟨S1x32x1024x512, .f32⟩
  | .hbm, ⟨21, _⟩ => ⟨S32x1024x512, .f32⟩
  | .hbm, ⟨22, _⟩ => ⟨S_, .i32⟩
  | .hbm, ⟨23, _⟩ => ⟨S608, .i32⟩
  | .hbm, ⟨24, _⟩ => ⟨S608, .i1⟩
  | .hbm, ⟨25, _⟩ => ⟨S_, .i32⟩
  | .hbm, ⟨26, _⟩ => ⟨S608, .i32⟩
  | .hbm, ⟨27, _⟩ => ⟨S608, .i32⟩
  | .hbm, ⟨28, _⟩ => ⟨S608, .i32⟩
  | .hbm, ⟨29, _⟩ => ⟨S608x1, .i32⟩
  | .hbm, ⟨30, _⟩ => ⟨S608x1024x512, .f32⟩
  | .hbm, ⟨31, _⟩ => ⟨S1x32x1024x512, .f32⟩
  | .hbm, ⟨32, _⟩ => ⟨S32x1024x512, .f32⟩
  | .hbm, ⟨33, _⟩ => ⟨S_, .i32⟩
  | .hbm, ⟨34, _⟩ => ⟨S608, .i32⟩
  | .hbm, ⟨35, _⟩ => ⟨S608, .i1⟩
  | .hbm, ⟨36, _⟩ => ⟨S_, .i32⟩
  | .hbm, ⟨37, _⟩ => ⟨S608, .i32⟩
  | .hbm, ⟨38, _⟩ => ⟨S608, .i32⟩
  | .hbm, ⟨39, _⟩ => ⟨S608, .i32⟩
  | .hbm, ⟨40, _⟩ => ⟨S608x1, .i32⟩
  | .hbm, ⟨41, _⟩ => ⟨S608x1024x512, .f32⟩
  | .hbm, ⟨42, _⟩ => ⟨S1x32x512x1024, .f32⟩
  | .hbm, ⟨43, _⟩ => ⟨S32x512x1024, .f32⟩
  | .hbm, ⟨44, _⟩ => ⟨S_, .i32⟩
  | .hbm, ⟨45, _⟩ => ⟨S608, .i32⟩
  | .hbm, ⟨46, _⟩ => ⟨S608, .i1⟩
  | .hbm, ⟨47, _⟩ => ⟨S_, .i32⟩
  | .hbm, ⟨48, _⟩ => ⟨S608, .i32⟩
  | .hbm, ⟨49, _⟩ => ⟨S608, .i32⟩
  | .hbm, ⟨50, _⟩ => ⟨S608, .i32⟩
  | .hbm, ⟨51, _⟩ => ⟨S608x1, .i32⟩
  | .hbm, ⟨52, _⟩ => ⟨S608x512x1024, .f32⟩
  | .hbm, ⟨53, _⟩ => ⟨S_, .i32⟩
  | .hbm, ⟨54, _⟩ => ⟨S608x256, .i32⟩
  | .hbm, ⟨55, _⟩ => ⟨S608x256, .i1⟩
  | .hbm, ⟨56, _⟩ => ⟨S_, .i32⟩
  | .hbm, ⟨57, _⟩ => ⟨S608x256, .i32⟩
  | .hbm, ⟨58, _⟩ => ⟨S608x256, .i32⟩
  | .hbm, ⟨59, _⟩ => ⟨S608x256, .i32⟩
  | .hbm, ⟨60, _⟩ => ⟨S608x256x1, .i32⟩
  | .hbm, ⟨61, _⟩ => ⟨S608x256x1024, .f32⟩
  | .hbm, ⟨62, _⟩ => ⟨S608x256x512, .f32⟩
  | .hbm, ⟨63, _⟩ => ⟨S608x256x512, .f32⟩
  | .hbm, ⟨64, _⟩ => ⟨S608x256x512, .f32⟩
  | .hbm, ⟨65, _⟩ => ⟨S_, .f32⟩
  | .hbm, ⟨66, _⟩ => ⟨S608x256x512, .f32⟩
  | .hbm, ⟨67, _⟩ => ⟨S608x256x512, .f32⟩
  | .hbm, ⟨68, _⟩ => ⟨S_, .f32⟩
  | .hbm, ⟨69, _⟩ => ⟨S608x256x512, .f32⟩
  | .hbm, ⟨70, _⟩ => ⟨S608x256x512, .f32⟩
  | .hbm, ⟨71, _⟩ => ⟨S608x256x512, .f32⟩
  | .hbm, ⟨72, _⟩ => ⟨S608x256x512, .f32⟩
  | .hbm, ⟨73, _⟩ => ⟨S608x256x512, .f32⟩
  | .hbm, ⟨74, _⟩ => ⟨S608x256x1024, .f32⟩
  | .hbm, ⟨75, _⟩ => ⟨S155648x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x256x1024 : Shape := ⟨3, ![32, 256, 1024]⟩
abbrev S1024 : Shape := ⟨1, ![1024]⟩
abbrev S40x6x1x1024 : Shape := ⟨4, ![40, 6, 1, 1024]⟩
abbrev S1024x3104 : Shape := ⟨2, ![1024, 3104]⟩
abbrev S8192x1024 : Shape := ⟨2, ![8192, 1024]⟩
abbrev S65536x1024 : Shape := ⟨2, ![65536, 1024]⟩
abbrev S1024x32 : Shape := ⟨2, ![1024, 32]⟩
abbrev S1024x1536 : Shape := ⟨2, ![1024, 1536]⟩
abbrev S_ : Shape := ⟨0, ![]⟩
abbrev S1024x96 : Shape := ⟨2, ![1024, 96]⟩
abbrev S1024x3200 : Shape := ⟨2, ![1024, 3200]⟩
abbrev S1x1024 : Shape := ⟨2, ![1, 1024]⟩
abbrev S73728x3200 : Shape := ⟨2, ![73728, 3200]⟩
abbrev S256x1024 : Shape := ⟨2, ![256, 1024]⟩
abbrev S1x6x1x1024 : Shape := ⟨4, ![1, 6, 1, 1024]⟩
abbrev S256x3200 : Shape := ⟨2, ![256, 3200]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x256x1024, .f32⟩
  | .hbm, ⟨2, _⟩ => ⟨S1024, .f32⟩
  | .hbm, ⟨3, _⟩ => ⟨S40x6x1x1024, .f32⟩
  | .hbm, ⟨4, _⟩ => ⟨S1024x3104, .f32⟩
  | .hbm, ⟨5, _⟩ => ⟨S8192x1024, .f32⟩
  | .hbm, ⟨6, _⟩ => ⟨S65536x1024, .f32⟩
  | .hbm, ⟨7, _⟩ => ⟨S1024x32, .f32⟩
  | .hbm, ⟨8, _⟩ => ⟨S1024x1536, .f32⟩
  | .hbm, ⟨9, _⟩ => ⟨S_, .f32⟩
  | .hbm, ⟨10, _⟩ => ⟨S1024x96, .f32⟩
  | .hbm, ⟨11, _⟩ => ⟨S1024x1536, .f32⟩
  | .hbm, ⟨12, _⟩ => ⟨S1024x3200, .f32⟩
  | .hbm, ⟨13, _⟩ => ⟨S1024x3200, .bf16⟩
  | .hbm, ⟨14, _⟩ => ⟨S1x1024, .f32⟩
  | .hbm, ⟨15, _⟩ => ⟨S73728x3200, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x6x1x1024, .f32⟩
  | .local _ .vmem, ⟨6, _⟩ => ⟨S1x6x1x1024, .f32⟩
  | .local _ .vmem, ⟨7, _⟩ => ⟨S1024x3200, .bf16⟩
  | .local _ .vmem, ⟨8, _⟩ => ⟨S256x3200, .bf16⟩
  | .local _ .vmem, ⟨9, _⟩ => ⟨S256x3200, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![288], ![false]⟩

def cc0_transform_0 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.select v0 c32_i32_5 v18
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3200 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32x2048x1024 : Shape := ⟨3, ![32, 2048, 1024]⟩
abbrev S32x256x1024 : Shape := ⟨3, ![32, 256, 1024]⟩
abbrev S1024 : Shape := ⟨1, ![1024]⟩
abbrev S40x6x1x1024 : Shape := ⟨4, ![40, 6, 1, 1024]⟩
abbrev S1024x3104 : Shape := ⟨2, ![1024, 3104]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1x1024 : Shape := ⟨4, ![32, 1, 1, 1024]⟩
abbrev S32x1x1024 : Shape := ⟨3, ![32, 1, 1024]⟩
abbrev S32x256 : Shape := ⟨2, ![32, 256]⟩
abbrev S32x256x1 : Shape := ⟨3, ![32, 256, 1]⟩
abbrev S1x1x1x1024 : Shape := ⟨4, ![1, 1, 1, 1024]⟩
abbrev S1x1024 : Shape := ⟨2, ![1, 1024]⟩
abbrev S32x256x3104 : Shape := ⟨3, ![32, 256, 3104]⟩
abbrev S8192x3104 : Shape := ⟨2, ![8192, 3104]⟩
abbrev S32x2048x3104 : Shape := ⟨3, ![32, 2048, 3104]⟩
abbrev S65536x3104 : Shape := ⟨2, ![65536, 3104]⟩
abbrev S73728x3104 : Shape := ⟨2, ![73728, 3104]⟩
abbrev S73728x96 : Shape := ⟨2, ![73728, 96]⟩
abbrev S73728x1536 : Shape := ⟨2, ![73728, 1536]⟩
abbrev S73728x32 : Shape := ⟨2, ![73728, 32]⟩
abbrev S73728x3200 : Shape := ⟨2, ![73728, 3200]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x256x1024, .f32⟩
  | .hbm, ⟨2, _⟩ => ⟨S1024, .f32⟩
  | .hbm, ⟨3, _⟩ => ⟨S40x6x1x1024, .f32⟩
  | .hbm, ⟨4, _⟩ => ⟨S1024x3104, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x1x1x1024, .f32⟩
  | .hbm, ⟨22, _⟩ => ⟨S32x1x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x2048x1024, .f32⟩
  | .hbm, ⟨27, _⟩ => ⟨S32x2048x1024, .f32⟩
  | .hbm, ⟨28, _⟩ => ⟨S32x1x1x1024, .f32⟩
  | .hbm, ⟨29, _⟩ => ⟨S32x1x1024, .f32⟩
  | .hbm, ⟨30, _⟩ => ⟨S32x2048x1024, .f32⟩
  | .hbm, ⟨31, _⟩ => ⟨S32x2048x1024, .f32⟩
  | .hbm, ⟨32, _⟩ => ⟨S32x256x1024, .f32⟩
  | .hbm, ⟨33, _⟩ => ⟨S_, .f32⟩
  | .hbm, ⟨34, _⟩ => ⟨S32x256, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S_, .f32⟩
  | .hbm, ⟨40, _⟩ => ⟨S32x256x1, .f32⟩
  | .hbm, ⟨41, _⟩ => ⟨S32x256x1, .f32⟩
  | .hbm, ⟨42, _⟩ => ⟨S32x256x1, .f32⟩
  | .hbm, ⟨43, _⟩ => ⟨S32x256x1024, .f32⟩
  | .hbm, ⟨44, _⟩ => ⟨S32x256x1024, .f32⟩
  | .hbm, ⟨45, _⟩ => ⟨S1x1x1024, .f32⟩
  | .hbm, ⟨46, _⟩ => ⟨S32x256x1024, .f32⟩
  | .hbm, ⟨47, _⟩ => ⟨S32x256x1024, .f32⟩
  | .hbm, ⟨48, _⟩ => ⟨S1x1x1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1x1024, .f32⟩
  | .hbm, ⟨54, _⟩ => ⟨S32x256x1024, .f32⟩
  | .hbm, ⟨55, _⟩ => ⟨S32x256x1024, .f32⟩
  | .hbm, ⟨56, _⟩ => ⟨S1x1x1x1024, .f32⟩
  | .hbm, ⟨57, _⟩ => ⟨S1x1024, .f32⟩
  | .hbm, ⟨58, _⟩ => ⟨S1x1x1024, .f32⟩
  | .hbm, ⟨59, _⟩ => ⟨S32x256x1024, .f32⟩
  | .hbm, ⟨60, _⟩ => ⟨S32x256x1024, .f32⟩
  | .hbm, ⟨61, _⟩ => ⟨S32x256x3104, .f32⟩
  | .hbm, ⟨62, _⟩ => ⟨S8192x3104, .f32⟩
  | .hbm, ⟨63, _⟩ => ⟨S32x2048x3104, .f32⟩
  | .hbm, ⟨64, _⟩ => ⟨S65536x3104, .f32⟩
  | .hbm, ⟨65, _⟩ => ⟨S73728x3104, .f32⟩
  | .hbm, ⟨66, _⟩ => ⟨S_, .f32⟩
  | .hbm, ⟨67, _⟩ => ⟨S73728x96, .f32⟩
  | .hbm, ⟨68, _⟩ => ⟨S73728x1536, .f32⟩
  | .hbm, ⟨69, _⟩ => ⟨S73728x1536, .f32⟩
  | .hbm, ⟨70, _⟩ => ⟨S73728x32, .f32⟩
  | .hbm, ⟨71, _⟩ => ⟨S73728x3200, .f32⟩
  | .hbm, ⟨72, _⟩ => ⟨S73728x3200, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel3.lean ====
abbrev S32x2048x512 : Shape := ⟨3, ![32, 2048, 512]⟩
abbrev S32x256x512 : Shape := ⟨3, ![32, 256, 512]⟩
abbrev S1024x1024 : Shape := ⟨2, ![1024, 1024]⟩
abbrev S32x2048x1024 : Shape := ⟨3, ![32, 2048, 1024]⟩
abbrev S32x256x1024 : Shape := ⟨3, ![32, 256, 1024]⟩
abbrev S40x6x1x1024 : Shape := ⟨4, ![40, 6, 1, 1024]⟩
abbrev S8192x512 : Shape := ⟨2, ![8192, 512]⟩
abbrev S65536x512 : Shape := ⟨2, ![65536, 512]⟩
abbrev S8192x1024 : Shape := ⟨2, ![8192, 1024]⟩
abbrev S65536x1024 : Shape := ⟨2, ![65536, 1024]⟩
abbrev S73728x1024 : Shape := ⟨2, ![73728, 1024]⟩
abbrev S256x512 : Shape := ⟨2, ![256, 512]⟩
abbrev S512x1024 : Shape := ⟨2, ![512, 1024]⟩
abbrev S256x1024 : Shape := ⟨2, ![256, 1024]⟩
abbrev S1x6x1x1024 : Shape := ⟨4, ![1, 6, 1, 1024]⟩
abbrev S1x1x1x1024 : Shape := ⟨4, ![1, 1, 1, 1024]⟩
abbrev S1x1024 : Shape := ⟨2, ![1, 1024]⟩

abbrev nBuf : Space → Nat
  | .hbm => 20
  | .vmem => 18
  | .smem => 0
  | _ => 0

abbrev bufTy : (tb : Table) → Fin (tcTables nBuf tb) → BufTy
  | .hbm, ⟨0, _⟩ => ⟨S32x2048x512, .f32⟩
  | .hbm, ⟨1, _⟩ => ⟨S32x256x512, .f32⟩
  | .hbm, ⟨2, _⟩ => ⟨S32x2048x512, .f32⟩
  | .hbm, ⟨3, _⟩ => ⟨S32x256x512, .f32⟩
  | .hbm, ⟨4, _⟩ => ⟨S1024x1024, .f32⟩
  | .hbm, ⟨5, _⟩ => ⟨S32x2048x1024, .f32⟩
  | .hbm, ⟨6, _⟩ => ⟨S32x256x1024, .f32⟩
  | .hbm, ⟨7, _⟩ => ⟨S40x6x1x1024, .f32⟩
  | .hbm, ⟨8, _⟩ => ⟨S8192x512, .f32⟩
  | .hbm, ⟨9, _⟩ => ⟨S8192x512, .bf16⟩
  | .hbm, ⟨10, _⟩ => ⟨S65536x512, .f32⟩
  | .hbm, ⟨11, _⟩ => ⟨S65536x512, .bf16⟩
  | .hbm, ⟨12, _⟩ => ⟨S8192x512, .f32⟩
  | .hbm, ⟨13, _⟩ => ⟨S8192x512, .bf16⟩
  | .hbm, ⟨14, _⟩ => ⟨S65536x512, .f32⟩
  | .hbm, ⟨15, _⟩ => ⟨S65536x512, .bf16⟩
  | .hbm, ⟨16, _⟩ => ⟨S1024x1024, .bf16⟩
  | .hbm, ⟨17, _⟩ => ⟨S8192x1024, .f32⟩
  | .hbm, ⟨18, _⟩ => ⟨S65536x1024, .f32⟩
  | .hbm, ⟨19, _⟩ => ⟨S73728x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x6x1x1024, .f32⟩
  | .local _ .vmem, ⟨15, _⟩ => ⟨S1x6x1x1024, .f32⟩
  | .local _ .vmem, ⟨16, _⟩ => ⟨S256x1024, .f32⟩
  | .local _ .vmem, ⟨17, _⟩ => ⟨S256x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![288], ![false]⟩

def cc0_transform_0 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_8 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.select v0 c32_i32_5 v18
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32x2048x512 : Shape := ⟨3, ![32, 2048, 512]⟩
abbrev S32x256x512 : Shape := ⟨3, ![32, 256, 512]⟩
abbrev S1024x1024 : Shape := ⟨2, ![1024, 1024]⟩
abbrev S32x2048x1024 : Shape := ⟨3, ![32, 2048, 1024]⟩
abbrev S32x256x1024 : Shape := ⟨3, ![32, 256, 1024]⟩
abbrev S40x6x1x1024 : Shape := ⟨4, ![40, 6, 1, 1024]⟩
abbrev S32x1x1x1024 : Shape := ⟨4, ![32, 1, 1, 1024]⟩
abbrev S32x1x1024 : Shape := ⟨3, ![32, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8192x1024 : Shape := ⟨2, ![8192, 1024]⟩
abbrev S65536x1024 : Shape := ⟨2, ![65536, 1024]⟩
abbrev S73728x1024 : Shape := ⟨2, ![73728, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x256x512, .f32⟩
  | .hbm, ⟨2, _⟩ => ⟨S32x2048x512, .f32⟩
  | .hbm, ⟨3, _⟩ => ⟨S32x256x512, .f32⟩
  | .hbm, ⟨4, _⟩ => ⟨S1024x1024, .f32⟩
  | .hbm, ⟨5, _⟩ => ⟨S32x2048x1024, .f32⟩
  | .hbm, ⟨6, _⟩ => ⟨S32x256x1024, .f32⟩
  | .hbm, ⟨7, _⟩ => ⟨S40x6x1x1024, .f32⟩
  | .hbm, ⟨8, _⟩ => ⟨S32x2048x1024, .f32⟩
  | .hbm, ⟨9, _⟩ => ⟨S32x2048x1024, .f32⟩
  | .hbm, ⟨10, _⟩ => ⟨S32x256x1024, .f32⟩
  | .hbm, ⟨11, _⟩ => ⟨S32x256x1024, .f32⟩
  | .hbm, ⟨12, _⟩ => ⟨S32x1x1x1024, .f32⟩
  | .hbm, ⟨13, _⟩ => ⟨S32x1x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S1x1x1x1024, .f32⟩
  | .hbm, ⟨18, _⟩ => ⟨S1x1024, .f32⟩
  | .hbm, ⟨19, _⟩ => ⟨S1x1x1024, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S8192x1024, .f32⟩
  | .hbm, ⟨24, _⟩ => ⟨S65536x1024, .f32⟩
  | .hbm, ⟨25, _⟩ => ⟨S73728x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S32x2048x3072 : Shape := ⟨3, ![32, 2048, 3072]⟩
abbrev S32x256x3072 : Shape := ⟨3, ![32, 256, 3072]⟩
abbrev S3x1024 : Shape := ⟨2, ![3, 1024]⟩
abbrev S1024x1024 : Shape := ⟨2, ![1024, 1024]⟩
abbrev S32x2048x1024 : Shape := ⟨3, ![32, 2048, 1024]⟩
abbrev S32x256x1024 : Shape := ⟨3, ![32, 256, 1024]⟩
abbrev S40x6x1x1024 : Shape := ⟨4, ![40, 6, 1, 1024]⟩
abbrev S8192x3072 : Shape := ⟨2, ![8192, 3072]⟩
abbrev S65536x3072 : Shape := ⟨2, ![65536, 3072]⟩
abbrev S73728x3072 : Shape := ⟨2, ![73728, 3072]⟩
abbrev S8192x1024 : Shape := ⟨2, ![8192, 1024]⟩
abbrev S65536x1024 : Shape := ⟨2, ![65536, 1024]⟩
abbrev S73728x1024 : Shape := ⟨2, ![73728, 1024]⟩
abbrev S256x1024 : Shape := ⟨2, ![256, 1024]⟩
abbrev S16x1024 : Shape := ⟨2, ![16, 1024]⟩
abbrev S1x6x1x1024 : Shape := ⟨4, ![1, 6, 1, 1024]⟩
abbrev S1x1024 : Shape := ⟨2, ![1, 1024]⟩
abbrev S1x1x1x1024 : Shape := ⟨4, ![1, 1, 1, 1024]⟩

abbrev nBuf : Space → Nat
  | .hbm => 16
  | .vmem => 22
  | .smem => 0
  | _ => 0

abbrev bufTy : (tb : Table) → Fin (tcTables nBuf tb) → BufTy
  | .hbm, ⟨0, _⟩ => ⟨S32x2048x3072, .f32⟩
  | .hbm, ⟨1, _⟩ => ⟨S32x256x3072, .f32⟩
  | .hbm, ⟨2, _⟩ => ⟨S3x1024, .f32⟩
  | .hbm, ⟨3, _⟩ => ⟨S1024x1024, .f32⟩
  | .hbm, ⟨4, _⟩ => ⟨S32x2048x1024, .f32⟩
  | .hbm, ⟨5, _⟩ => ⟨S32x256x1024, .f32⟩
  | .hbm, ⟨6, _⟩ => ⟨S40x6x1x1024, .f32⟩
  | .hbm, ⟨7, _⟩ => ⟨S8192x3072, .f32⟩
  | .hbm, ⟨8, _⟩ => ⟨S65536x3072, .f32⟩
  | .hbm, ⟨9, _⟩ => ⟨S73728x3072, .f32⟩
  | .hbm, ⟨10, _⟩ => ⟨S73728x3072, .bf16⟩
  | .hbm, ⟨11, _⟩ => ⟨S8192x1024, .f32⟩
  | .hbm, ⟨12, _⟩ => ⟨S65536x1024, .f32⟩
  | .hbm, ⟨13, _⟩ => ⟨S73728x1024, .f32⟩
  | .hbm, ⟨14, _⟩ => ⟨S1024x1024, .bf16⟩
  | .hbm, ⟨15, _⟩ => ⟨S73728x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S3x1024, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S1x6x1x1024, .f32⟩
  | .local _ .vmem, ⟨19, _⟩ => ⟨S1x6x1x1024, .f32⟩
  | .local _ .vmem, ⟨20, _⟩ => ⟨S256x1024, .f32⟩
  | .local _ .vmem, ⟨21, _⟩ => ⟨S256x1024, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![288], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c4607_i32 : BitVec 32 := 4607#32
  let v2 : BitVec 32 := Scalar.minsi v1 c4607_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c4607_i32 : BitVec 32 := 4607#32
  let v2 : BitVec 32 := Scalar.minsi v1 c4607_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.select v0 c32_i32_5 v18
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32x2048x3072 : Shape := ⟨3, ![32, 2048, 3072]⟩
abbrev S32x256x3072 : Shape := ⟨3, ![32, 256, 3072]⟩
abbrev S3x1024 : Shape := ⟨2, ![3, 1024]⟩
abbrev S1024x1024 : Shape := ⟨2, ![1024, 1024]⟩
abbrev S32x2048x1024 : Shape := ⟨3, ![32, 2048, 1024]⟩
abbrev S32x256x1024 : Shape := ⟨3, ![32, 256, 1024]⟩
abbrev S40x6x1x1024 : Shape := ⟨4, ![40, 6, 1, 1024]⟩
abbrev S32x1x1x1024 : Shape := ⟨4, ![32, 1, 1, 1024]⟩
abbrev S32x1x1024 : Shape := ⟨3, ![32, 1, 1024]⟩
abbrev S_ : Shape := ⟨0, ![]⟩
abbrev S32x2050x1024 : Shape := ⟨3, ![32, 2050, 1024]⟩
abbrev S1x1024 : Shape := ⟨2, ![1, 1024]⟩
abbrev S1024 : Shape := ⟨1, ![1024]⟩
abbrev S1x1x1024 : Shape := ⟨3, ![1, 1, 1024]⟩
abbrev S1x1x1x1024 : Shape := ⟨4, ![1, 1, 1, 1024]⟩
abbrev S32x258x1024 : Shape := ⟨3, ![32, 258, 1024]⟩
abbrev S8192x1024 : Shape := ⟨2, ![8192, 1024]⟩
abbrev S65536x1024 : Shape := ⟨2, ![65536, 1024]⟩
abbrev S73728x1024 : Shape := ⟨2, ![73728, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32x2048x3072, .f32⟩
  | .hbm, ⟨1, _⟩ => ⟨S32x256x3072, .f32⟩
  | .hbm, ⟨2, _⟩ => ⟨S3x1024, .f32⟩
  | .hbm, ⟨3, _⟩ => ⟨S1024x1024, .f32⟩
  | .hbm, ⟨4, _⟩ => ⟨S32x2048x1024, .f32⟩
  | .hbm, ⟨5, _⟩ => ⟨S32x256x1024, .f32⟩
  | .hbm, ⟨6, _⟩ => ⟨S40x6x1x1024, .f32⟩
  | .hbm, ⟨7, _⟩ => ⟨S32x1x1x1024, .f32⟩
  | .hbm, ⟨8, _⟩ => ⟨S32x1x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .i32⟩
  | .hbm, ⟨14, _⟩ => ⟨S_, .f32⟩
  | .hbm, ⟨15, _⟩ => ⟨S32x2050x1024, .f32⟩
  | .hbm, ⟨16, _⟩ => ⟨S1x1024, .f32⟩
  | .hbm, ⟨17, _⟩ => ⟨S1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S1x1024, .f32⟩
  | .hbm, ⟨23, _⟩ => ⟨S1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S1x1024, .f32⟩
  | .hbm, ⟨30, _⟩ => ⟨S1024, .f32⟩
  | .hbm, ⟨31, _⟩ => ⟨S32x2048x1024, .f32⟩
  | .hbm, ⟨32, _⟩ => ⟨S1x1x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S1x1x1x1024, .f32⟩
  | .hbm, ⟨42, _⟩ => ⟨S1x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S_, .i32⟩
  | .hbm, ⟨48, _⟩ => ⟨S_, .f32⟩
  | .hbm, ⟨49, _⟩ => ⟨S32x258x1024, .f32⟩
  | .hbm, ⟨50, _⟩ => ⟨S1x1024, .f32⟩
  | .hbm, ⟨51, _⟩ => ⟨S1024, .f32⟩
  | .hbm, ⟨52, _⟩ => ⟨S32x256x1024, .f32⟩
  | .hbm, ⟨53, _⟩ => ⟨S1x1x1024, .f32⟩
  | .hbm, ⟨54, _⟩ => ⟨S32x256x1024, .f32⟩
  | .hbm, ⟨55, _⟩ => ⟨S32x256x1024, .f32⟩
  | .hbm, ⟨56, _⟩ => ⟨S1x1024, .f32⟩
  | .hbm, ⟨57, _⟩ => ⟨S1024, .f32⟩
  | .hbm, ⟨58, _⟩ => ⟨S32x256x1024, .f32⟩
  | .hbm, ⟨59, _⟩ => ⟨S1x1x1024, .f32⟩
  | .hbm, ⟨60, _⟩ => ⟨S32x256x1024, .f32⟩
  | .hbm, ⟨61, _⟩ => ⟨S32x256x1024, .f32⟩
  | .hbm, ⟨62, _⟩ => ⟨S32x256x1024, .f32⟩
  | .hbm, ⟨63, _⟩ => ⟨S1x1024, .f32⟩
  | .hbm, ⟨64, _⟩ => ⟨S1024, .f32⟩
  | .hbm, ⟨65, _⟩ => ⟨S32x256x1024, .f32⟩
  | .hbm, ⟨66, _⟩ => ⟨S1x1x1024, .f32⟩
  | .hbm, ⟨67, _⟩ => ⟨S32x256x1024, .f32⟩
  | .hbm, ⟨68, _⟩ => ⟨S32x256x1024, .f32⟩
  | .hbm, ⟨69, _⟩ => ⟨S32x256x1024, .f32⟩
  | .hbm, ⟨70, _⟩ => ⟨S32x256x1024, .f32⟩
  | .hbm, ⟨71, _⟩ => ⟨S32x256x1024, .f32⟩
  | .hbm, ⟨72, _⟩ => ⟨S1x1x1024, .f32⟩
  | .hbm, ⟨73, _⟩ => ⟨S32x256x1024, .f32⟩
  | .hbm, ⟨74, _⟩ => ⟨S32x256x1024, .f32⟩
  | .hbm, ⟨75, _⟩ => ⟨S32x256x1024, .f32⟩
  | .hbm, ⟨76, _⟩ => ⟨S8192x1024, .f32⟩
  | .hbm, ⟨77, _⟩ => ⟨S65536x1024, .f32⟩
  | .hbm, ⟨78, _⟩ => ⟨S73728x1024, .f32⟩
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_0 : Ref sig .tc := ⟨.hbm, 47, rfl⟩
abbrev main_call1_v0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩

abbrev nD : Nat := 1
abbrev τ : Topo := Topo.v7x

variable {F : FTy → Type} [FloatOps F]
-- ==== Kernel5.lean ====
abbrev S32x2048x512 : Shape := ⟨3, ![32, 2048, 512]⟩
abbrev S32x256x512 : Shape := ⟨3, ![32, 256, 512]⟩
abbrev S1024x1024 : Shape := ⟨2, ![1024, 1024]⟩
abbrev S32x2048x1024 : Shape := ⟨3, ![32, 2048, 1024]⟩
abbrev S32x256x1024 : Shape := ⟨3, ![32, 256, 1024]⟩
abbrev S40x6x1x1024 : Shape := ⟨4, ![40, 6, 1, 1024]⟩
abbrev S8192x1024 : Shape := ⟨2, ![8192, 1024]⟩
abbrev S65536x1024 : Shape := ⟨2, ![65536, 1024]⟩
abbrev S73728x1024 : Shape := ⟨2, ![73728, 1024]⟩
abbrev S8192x512 : Shape := ⟨2, ![8192, 512]⟩
abbrev S65536x512 : Shape := ⟨2, ![65536, 512]⟩
abbrev S256x512 : Shape := ⟨2, ![256, 512]⟩
abbrev S512x1024 : Shape := ⟨2, ![512, 1024]⟩
abbrev S256x1024 : Shape := ⟨2, ![256, 1024]⟩
abbrev S1x6x1x1024 : Shape := ⟨4, ![1, 6, 1, 1024]⟩
abbrev S1x1x1x1024 : Shape := ⟨4, ![1, 1, 1, 1024]⟩
abbrev S1x1024 : Shape := ⟨2, ![1, 1024]⟩

abbrev nBuf : Space → Nat
  | .hbm => 21
  | .vmem => 18
  | .smem => 0
  | _ => 0

abbrev bufTy : (tb : Table) → Fin (tcTables nBuf tb) → BufTy
  | .hbm, ⟨0, _⟩ => ⟨S32x2048x512, .f32⟩
  | .hbm, ⟨1, _⟩ => ⟨S32x256x512, .f32⟩
  | .hbm, ⟨2, _⟩ => ⟨S32x2048x512, .f32⟩
  | .hbm, ⟨3, _⟩ => ⟨S32x256x512, .f32⟩
  | .hbm, ⟨4, _⟩ => ⟨S1024x1024, .f32⟩
  | .hbm, ⟨5, _⟩ => ⟨S32x2048x1024, .f32⟩
  | .hbm, ⟨6, _⟩ => ⟨S32x256x1024, .f32⟩
  | .hbm, ⟨7, _⟩ => ⟨S40x6x1x1024, .f32⟩
  | .hbm, ⟨8, _⟩ => ⟨S8192x1024, .f32⟩
  | .hbm, ⟨9, _⟩ => ⟨S65536x1024, .f32⟩
  | .hbm, ⟨10, _⟩ => ⟨S73728x1024, .f32⟩
  | .hbm, ⟨11, _⟩ => ⟨S8192x512, .f32⟩
  | .hbm, ⟨12, _⟩ => ⟨S8192x512, .bf16⟩
  | .hbm, ⟨13, _⟩ => ⟨S65536x512, .f32⟩
  | .hbm, ⟨14, _⟩ => ⟨S65536x512, .bf16⟩
  | .hbm, ⟨15, _⟩ => ⟨S8192x512, .f32⟩
  | .hbm, ⟨16, _⟩ => ⟨S8192x512, .bf16⟩
  | .hbm, ⟨17, _⟩ => ⟨S65536x512, .f32⟩
  | .hbm, ⟨18, _⟩ => ⟨S65536x512, .bf16⟩
  | .hbm, ⟨19, _⟩ => ⟨S1024x1024, .bf16⟩
  | .hbm, ⟨20, _⟩ => ⟨S73728x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x6x1x1024, .f32⟩
  | .local _ .vmem, ⟨15, _⟩ => ⟨S1x6x1x1024, .f32⟩
  | .local _ .vmem, ⟨16, _⟩ => ⟨S256x1024, .f32⟩
  | .local _ .vmem, ⟨17, _⟩ => ⟨S256x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![288], ![false]⟩

def cc0_transform_0 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c32_i32_0 : BitVec 32 := 32#32
  let v2 : BitVec 32 := Scalar.addi v1 c32_i32_0
  let c0_i32_1 : BitVec 32 := 0#32
  let c0_i32_2 : BitVec 32 := 0#32
  ![v2.toNat, c0_i32_1.toNat]

def cc0_transform_8 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.select v0 c32_i32_5 v18
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel6.lean ====
abbrev S32x2048x3072 : Shape := ⟨3, ![32, 2048, 3072]⟩
abbrev S3x1024 : Shape := ⟨2, ![3, 1024]⟩
abbrev S1024x1024 : Shape := ⟨2, ![1024, 1024]⟩
abbrev S32x2048x1024 : Shape := ⟨3, ![32, 2048, 1024]⟩
abbrev S40x6x1x1024 : Shape := ⟨4, ![40, 6, 1, 1024]⟩
abbrev S65536x3072 : Shape := ⟨2, ![65536, 3072]⟩
abbrev S65536x1024 : Shape := ⟨2, ![65536, 1024]⟩
abbrev S256x1024 : Shape := ⟨2, ![256, 1024]⟩
abbrev S16x1024 : Shape := ⟨2, ![16, 1024]⟩
abbrev S1x6x1x1024 : Shape := ⟨4, ![1, 6, 1, 1024]⟩
abbrev S1x1024 : Shape := ⟨2, ![1, 1024]⟩
abbrev S1x1x1x1024 : Shape := ⟨4, ![1, 1, 1, 1024]⟩

abbrev nBuf : Space → Nat
  | .hbm => 10
  | .vmem => 22
  | .smem => 0
  | _ => 0

abbrev bufTy : (tb : Table) → Fin (tcTables nBuf tb) → BufTy
  | .hbm, ⟨0, _⟩ => ⟨S32x2048x3072, .f32⟩
  | .hbm, ⟨1, _⟩ => ⟨S3x1024, .f32⟩
  | .hbm, ⟨2, _⟩ => ⟨S1024x1024, .f32⟩
  | .hbm, ⟨3, _⟩ => ⟨S32x2048x1024, .f32⟩
  | .hbm, ⟨4, _⟩ => ⟨S40x6x1x1024, .f32⟩
  | .hbm, ⟨5, _⟩ => ⟨S65536x3072, .f32⟩
  | .hbm, ⟨6, _⟩ => ⟨S65536x3072, .bf16⟩
  | .hbm, ⟨7, _⟩ => ⟨S1024x1024, .bf16⟩
  | .hbm, ⟨8, _⟩ => ⟨S65536x1024, .f32⟩
  | .hbm, ⟨9, _⟩ => ⟨S65536x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S3x1024, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S1x6x1x1024, .f32⟩
  | .local _ .vmem, ⟨19, _⟩ => ⟨S1x6x1x1024, .f32⟩
  | .local _ .vmem, ⟨20, _⟩ => ⟨S256x1024, .f32⟩
  | .local _ .vmem, ⟨21, _⟩ => ⟨S256x1024, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c4095_i32 : BitVec 32 := 4095#32
  let v2 : BitVec 32 := Scalar.minsi v1 c4095_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c4095_i32 : BitVec 32 := 4095#32
  let v2 : BitVec 32 := Scalar.minsi v1 c4095_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let v0 : BitVec 1 := Scalar.cmpi .slt arg0 c0_i32
  let c0_i32_0 : BitVec 32 := 0#32
  let v1 : BitVec 32 := Scalar.subi arg0 c0_i32_0
  let c8_i32 : BitVec 32 := 8#32
  let v2 : BitVec 32 := Scalar.divsi v1 c8_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32 c0_i32_3
  let v9 : BitVec 32 := Scalar.extui v8
  let c0_i32_4 : BitVec 32 := 0#32
  let v10 : BitVec 1 := Scalar.cmpi .slt c8_i32 c0_i32_4
  let v11 : BitVec 32 := Scalar.extui v10
  let v12 : BitVec 32 := Scalar.subi v9 v11
  let v13 : BitVec 1 := Scalar.cmpi .ne v7 v12
  let v14 : BitVec 32 := Scalar.remsi v1 c8_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c32_i32 : BitVec 32 := 32#32
  let v19 : BitVec 32 := Scalar.select v0 c32_i32 v18
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S32x2048x3072 : Shape := ⟨3, ![32, 2048, 3072]⟩
abbrev S3x1024 : Shape := ⟨2, ![3, 1024]⟩
abbrev S1024x1024 : Shape := ⟨2, ![1024, 1024]⟩
abbrev S32x2048x1024 : Shape := ⟨3, ![32, 2048, 1024]⟩
abbrev S40x6x1x1024 : Shape := ⟨4, ![40, 6, 1, 1024]⟩
abbrev S_ : Shape := ⟨0, ![]⟩
abbrev S32x2050x1024 : Shape := ⟨3, ![32, 2050, 1024]⟩
abbrev S1x1024 : Shape := ⟨2, ![1, 1024]⟩
abbrev S1024 : Shape := ⟨1, ![1024]⟩
abbrev S1x1x1024 : Shape := ⟨3, ![1, 1, 1024]⟩
abbrev S32x1x1x1024 : Shape := ⟨4, ![32, 1, 1, 1024]⟩
abbrev S32x1x1024 : Shape := ⟨3, ![32, 1, 1024]⟩
abbrev S65536x1024 : Shape := ⟨2, ![65536, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x3072, .f32⟩
  | .hbm, ⟨1, _⟩ => ⟨S3x1024, .f32⟩
  | .hbm, ⟨2, _⟩ => ⟨S1024x1024, .f32⟩
  | .hbm, ⟨3, _⟩ => ⟨S32x2048x1024, .f32⟩
  | .hbm, ⟨4, _⟩ => ⟨S40x6x1x1024, .f32⟩
  | .hbm, ⟨5, _⟩ => ⟨S32x2048x1024, .f32⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S_, .i32⟩
  | .hbm, ⟨10, _⟩ => ⟨S_, .f32⟩
  | .hbm, ⟨11, _⟩ => ⟨S32x2050x1024, .f32⟩
  | .hbm, ⟨12, _⟩ => ⟨S1x1024, .f32⟩
  | .hbm, ⟨13, _⟩ => ⟨S1024, .f32⟩
  | .hbm, ⟨14, _⟩ => ⟨S32x2048x1024, .f32⟩
  | .hbm, ⟨15, _⟩ => ⟨S1x1x1024, .f32⟩
  | .hbm, ⟨16, _⟩ => ⟨S32x2048x1024, .f32⟩
  | .hbm, ⟨17, _⟩ => ⟨S32x2048x1024, .f32⟩
  | .hbm, ⟨18, _⟩ => ⟨S1x1024, .f32⟩
  | .hbm, ⟨19, _⟩ => ⟨S1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S1x1024, .f32⟩
  | .hbm, ⟨26, _⟩ => ⟨S1024, .f32⟩
  | .hbm, ⟨27, _⟩ => ⟨S32x2048x1024, .f32⟩
  | .hbm, ⟨28, _⟩ => ⟨S1x1x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x1x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S65536x1024, .f32⟩
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.Offs.lean ====
/- The kernel's offsets in closed form: the trip counts of the row loops, the rows and words a trip names, the buffer
   slot and the semaphore of a grid point, and the table entries a point reads. -/
module

public import proofs.«01_k».proof.Proof.Gen.KernelIdeal.Skeleton
public import Idealize.ShloMosaic.Lib.Tactic
public import Idealize.ShloMosaic.Lib.ValueIdx
public import Idealize.ShloMosaic.Lib.ValueLayout

@[expose] public section

noncomputable section

namespace Cert.KernelIdeal.Hand

open Cert.KernelIdeal Cert.KernelIdeal.Gen
open Idealize.ShloMosaic Idealize.ShloMosaic.TcCoe

/-- The slot of the row buffer a grid point computes from. -/
abbrev bOf (n : ℕ) : ℕ := n % 2

theorem trips1 : k0_t1_loop.trips = 128 := by decide
theorem trips2 : k0_t2_loop.trips = 256 := by decide
theorem trips3 : k0_t3_loop.trips = 128 := by decide
theorem trips4 : k0_t4_loop.trips = 256 := by decide

set_option maxRecDepth 100000 in
theorem off4_eq : ∀ k : Fin k0_t1_loop.trips, k0_off4 k = ![0, 0, 2 * k.val] := by decide +kernel
theorem off5_eq : ∀ k : Fin k0_t1_loop.trips, k0_off5 k = ![2 * k.val, 0] := by decide +kernel
theorem off7_eq : ∀ k : Fin k0_t1_loop.trips, k0_off7 k = ![0, 0, 2 * k.val + 1] := by decide +kernel
theorem off8_eq : ∀ k : Fin k0_t1_loop.trips, k0_off8 k = ![2 * k.val + 1, 0] := by decide +kernel
theorem off15_eq : ∀ k : Fin k0_t3_loop.trips, k0_off15 k = ![0, 0, 2 * k.val] := by decide +kernel
theorem off18_eq : ∀ k : Fin k0_t3_loop.trips, k0_off18 k = ![2 * k.val, 0] := by decide +kernel
theorem off20_eq : ∀ k : Fin k0_t3_loop.trips, k0_off20 k = ![0, 0, 2 * k.val + 1] := by decide +kernel
theorem off23_eq : ∀ k : Fin k0_t3_loop.trips, k0_off23 k = ![2 * k.val + 1, 0] := by decide +kernel
theorem off12_eq : ∀ k : Fin k0_t2_loop.trips, k0_off12 k = ![k.val, 0] := by decide +kernel
theorem off28_eq : ∀ k : Fin k0_t4_loop.trips, k0_off28 k = ![k.val, 0] := by decide +kernel

/-- A statement about the grid's points, from the statement about the numbers below 608. -/
theorem forall_coords {P : grid0.Coords → Prop} (h : ∀ n : Fin 608, P (fun | 0 => n)) (i : grid0.Coords) : P i := by
  have : i = (fun | 0 => i 0) := by funext a; fin_cases a; rfl
  rw [this]; exact h (i 0)

theorem off1_eq (i : grid0.Coords) : k0_off1 i = ![min ((i 0).val + 1) 607] :=
  forall_coords (P := fun i => k0_off1 i = ![min ((i 0).val + 1) 607]) (by decide +kernel) i
theorem off25_eq (i : grid0.Coords) : k0_off25 i = ![min ((i 0).val + 1) 607] :=
  forall_coords (P := fun i => k0_off25 i = ![min ((i 0).val + 1) 607]) (by decide +kernel) i
theorem off2_eq (i : grid0.Coords) : k0_off2 i = ![(i 0).val] :=
  forall_coords (P := fun i => k0_off2 i = ![(i 0).val]) (by decide +kernel) i
theorem off3_eq (i : grid0.Coords) : k0_off3 i = ![(i 0).val - 1] :=
  forall_coords (P := fun i => k0_off3 i = ![(i 0).val - 1]) (by decide +kernel) i
theorem off10_eq (i : grid0.Coords) : k0_off10 i = ![bOf (i 0).val] :=
  forall_coords (P := fun i => k0_off10 i = ![bOf (i 0).val]) (by decide +kernel) i
theorem off11_eq (i : grid0.Coords) : k0_off11 i = ![bOf (i 0).val, 0, 0] :=
  forall_coords (P := fun i => k0_off11 i = ![bOf (i 0).val, 0, 0]) (by decide +kernel) i
theorem off14_eq (i : grid0.Coords) : k0_off14 i = ![bOf (i 0).val, 0, 0] :=
  forall_coords (P := fun i => k0_off14 i = ![bOf (i 0).val, 0, 0]) (by decide +kernel) i
theorem off16_eq (i : grid0.Coords) : k0_off16 i = ![bOf ((i 0).val + 1)] :=
  forall_coords (P := fun i => k0_off16 i = ![bOf ((i 0).val + 1)]) (by decide +kernel) i
theorem off17_eq (i : grid0.Coords) : k0_off17 i = ![bOf ((i 0).val + 1), 0, 0] :=
  forall_coords (P := fun i => k0_off17 i = ![bOf ((i 0).val + 1), 0, 0]) (by decide +kernel) i
theorem off21_eq (i : grid0.Coords) : k0_off21 i = ![bOf ((i 0).val + 1)] :=
  forall_coords (P := fun i => k0_off21 i = ![bOf ((i 0).val + 1)]) (by decide +kernel) i
theorem off22_eq (i : grid0.Coords) : k0_off22 i = ![bOf ((i 0).val + 1), 0, 0] :=
  forall_coords (P := fun i => k0_off22 i = ![bOf ((i 0).val + 1), 0, 0]) (by decide +kernel) i
theorem off26_eq (i : grid0.Coords) : k0_off26 i = ![bOf ((i 0).val + 1)] :=
  forall_coords (P := fun i => k0_off26 i = ![bOf ((i 0).val + 1)]) (by decide +kernel) i
theorem off27_eq (i : grid0.Coords) : k0_off27 i = ![bOf ((i 0).val + 1), 0, 0] :=
  forall_coords (P := fun i => k0_off27 i = ![bOf ((i 0).val + 1), 0, 0]) (by decide +kernel) i
theorem cond1_iff (i : grid0.Coords) : k0_cond1 i = 1#1 ↔ (i 0).val = 0 :=
  forall_coords (P := fun i => k0_cond1 i = 1#1 ↔ (i 0).val = 0) (by decide +kernel) i

/-- The word of a 32-bit number compared with zero, signed. -/
theorem cond3_iff (v : BitVec 32) : k0_cond3 v = 1#1 ↔ (0#32).slt v = true := by
  unfold k0_cond3; dsimp only [Scalar.cmpi, Scalar.extui, IntOp.cmpi]
  cases h : (0#32).slt v <;> simp [h] <;> decide
theorem cond5_iff (v : BitVec 32) : k0_cond5 v = 1#1 ↔ ¬ (0#32).slt v = true := by
  unfold k0_cond5; dsimp only [Scalar.cmpi, Scalar.extui, IntOp.cmpi]
  cases h : (0#32).slt v <;> simp [h] <;> decide

end Cert.KernelIdeal.Hand

end
-- ==== Proof.Rows.lean ====
/- The rows of the double buffer and of the token array: the elements each row's view names, the contents a gathered
   block leaves, and the deliveries of its 256 row copies. -/
module

public import proofs.«01_k».proof.Proof.Offs
public import proofs.«01_k».proof.Proof.Gen.KernelIdeal.Launch
public import Idealize.ShloMosaic.Lib.Pipeline.FrameBody
public import Idealize.ShloMosaic.Lib.Ring
public import Idealize.ShloMosaic.Lib.Batch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's beside the transfers' counters. -/
abbrev MM (F : FTy → Type) := MT nD τ sig Unit (Elt F) ℕ (Pipeline.UD sig nD τ) ℕ

/-- The row buffer's contents, and the token array's. -/
abbrev XC (F : FTy → Type) := S2x256x1024.Idx → Elt F .f32
abbrev VC (F : FTy → Type) := S73728x1024.Idx → Elt F .f32

/-! ## Elements -/

/-- Row `r` of slot `s` of the row buffer; a slot; a row of the token array. -/
def rowSet (s r : ℕ) : Finset S2x256x1024.Idx := Finset.univ.filter fun y => (y 0).val = s ∧ (y 1).val = r
def slotSet (s : ℕ) : Finset S2x256x1024.Idx := Finset.univ.filter fun y => (y 0).val = s
def srcSet (a : Fin 73728) : Finset S73728x1024.Idx := Finset.univ.filter fun y => (y 0).val = a.val

theorem mem_rowSet {s r : ℕ} {y : S2x256x1024.Idx} : y ∈ rowSet s r ↔ (y 0).val = s ∧ (y 1).val = r := by
  simp [rowSet]
theorem mem_slotSet {s : ℕ} {y : S2x256x1024.Idx} : y ∈ slotSet s ↔ (y 0).val = s := by simp [slotSet]
theorem mem_srcSet {a : Fin 73728} {y : S73728x1024.Idx} : y ∈ srcSet a ↔ (y 0).val = a.val := by simp [srcSet]

/-- The row buffer and the token array as the kernel's operands. -/
abbrev xbuf : Memref sig .tc .vmem S2x256x1024 .f32 := Memref.whole cc0_scratch0
abbrev varr : Memref sig .tc .hbm S73728x1024 .f32 := Memref.whole main_arg0

/-- The destination of one row copy, as the kernel spells it. -/
abbrev rowM (o : Fin 3 → ℕ) (ho : ∀ a, o a + S1x256x1024.size a ≤ S2x256x1024.size a) (p : Fin 2 → ℕ)
    (hp : ∀ a, p a + S1x1024.size a ≤ S256x1024.size a) : Memref sig .tc .vmem S1x1024 .f32 :=
  ((xbuf.slice (Rect.unit (s := S2x256x1024) o S1x256x1024.size ho) (fun _ => rfl)).squeeze S256x1024
    squeezes_S1x256x1024_S256x1024).slice (Rect.unit (s := S256x1024) p S1x1024.size hp) (fun _ => rfl)
/-- The source of one row copy. -/
abbrev srcM (q : Fin 2 → ℕ) (hq : ∀ a, q a + S1x1024.size a ≤ S73728x1024.size a) : Memref sig .tc .hbm S1x1024 .f32 :=
  varr.slice (Rect.unit (s := S73728x1024) q S1x1024.size hq) (fun _ => rfl)

theorem row_emb (s r : ℕ) (ho : ∀ a, (![s, 0, 0] : Fin 3 → ℕ) a + S1x256x1024.size a ≤ S2x256x1024.size a)
    (hp : ∀ a, (![r, 0] : Fin 2 → ℕ) a + S1x1024.size a ≤ S256x1024.size a) (hs : s < 2) (hr : r < 256) (x : S1x1024.Idx) :
    (rowM ![s, 0, 0] ho ![r, 0] hp).view.emb x = ix3 (⟨s, hs⟩ : Fin 2) (⟨r, hr⟩ : Fin 256) (x 1) := by
  have hx0 : (x 0).val = 0 := by have := (x 0).isLt; change (x 0).val < 1 at this; omega
  have e2 : (Rect.unit (s := S256x1024) ![r, 0] S1x1024.size hp).emb x = ix2 (⟨r, hr⟩ : Fin 256) (x 1) := by
    funext a; apply Fin.ext
    match a with
    | 0 => show r + 1 * (x 0).val = r; omega
    | 1 => show 0 + 1 * (x 1).val = (x 1).val; omega
  show (Rect.unit (s := S2x256x1024) ![s, 0, 0] S1x256x1024.size ho).emb
      (Shape.reshapeEquiv _ ((Rect.unit (s := S256x1024) ![r, 0] S1x1024.size hp).emb x)) = _
  rw [e2]
  have e3 := reshapeEquiv_ix2_1ab (a := 256) (b := 1024) squeezes_S1x256x1024_S256x1024.numel_eq ⟨r, hr⟩ (x 1)
  refine (congrArg _ e3).trans ?_
  funext a; apply Fin.ext
  match a with
  | 0 => show s + 1 * 0 = s; omega
  | 1 => show 0 + 1 * r = r; omega
  | 2 => show 0 + 1 * (x 1).val = (x 1).val; omega

theorem src_emb (a : Fin 73728) (hq : ∀ b, (![a.val, 0] : Fin 2 → ℕ) b + S1x1024.size b ≤ S73728x1024.size b) (x : S1x1024.Idx) :
    (srcM ![a.val, 0] hq).view.emb x = ix2 a (x 1) := by
  have hx0 : (x 0).val = 0 := by have := (x 0).isLt; change (x 0).val < 1 at this; omega
  funext b; apply Fin.ext
  match b with
  | 0 => show a.val + 1 * (x 0).val = a.val; omega
  | 1 => show 0 + 1 * (x 1).val = (x 1).val; omega

theorem row_set (s r : ℕ) (ho : ∀ a, (![s, 0, 0] : Fin 3 → ℕ) a + S1x256x1024.size a ≤ S2x256x1024.size a)
    (hp : ∀ a, (![r, 0] : Fin 2 → ℕ) a + S1x1024.size a ≤ S256x1024.size a) (hs : s < 2) (hr : r < 256) :
    (rowM ![s, 0, 0] ho ![r, 0] hp).view.set = rowSet s r := by
  ext y
  rw [View.set, Finset.mem_map, mem_rowSet]
  constructor
  · rintro ⟨x, -, hx⟩
    have hx' := (row_emb s r ho hp hs hr x).symm.trans hx
    rw [← hx']; exact ⟨rfl, rfl⟩
  · rintro ⟨h0, h1⟩
    refine ⟨ix2 (0 : Fin 1) (y 2), Finset.mem_univ _, ?_⟩
    refine (row_emb s r ho hp hs hr _).trans ?_
    funext a; apply Fin.ext
    match a with
    | 0 => exact h0.symm
    | 1 => exact h1.symm
    | 2 => rfl

theorem src_set (a : Fin 73728) (hq : ∀ b, (![a.val, 0] : Fin 2 → ℕ) b + S1x1024.size b ≤ S73728x1024.size b) :
    (srcM ![a.val, 0] hq).view.set = srcSet a := by
  ext y
  rw [View.set, Finset.mem_map, mem_srcSet]
  constructor
  · rintro ⟨x, -, hx⟩
    have hx' := (src_emb a hq x).symm.trans hx
    rw [← hx']
  · intro h0
    refine ⟨ix2 (0 : Fin 1) (y 1), Finset.mem_univ _, ?_⟩
    refine (src_emb a hq _).trans ?_
    funext b; apply Fin.ext
    match b with
    | 0 => exact h0.symm
    | 1 => rfl

/-- One row's credit on its semaphore. -/
def NN : ℕ := (rowM ![0, 0, 0] (by decide) ![0, 0] (by decide)).view.dmaCredit
theorem row_credit (o ho p hp) : (rowM o ho p hp).view.dmaCredit = NN := by unfold NN; rfl
theorem NN_pos : 0 < NN := View.dmaCredit_pos _ (by decide)

/-- The semaphore of a slot. -/
abbrev semM (o : Fin 1 → ℕ) (ho : ∀ a, o a + S1.size a ≤ S2.size a) : DmaSem sig :=
  ((cc0_scratch4.slice (Rect.unit (s := S2) o S1.size ho)).squeeze S_ squeezes_S1_S_).sem
/-- The cell of a slot, by number. -/
def cellN (s : ℕ) : DmaSem sig := if s = 0 then (12 : Fin 14) else (13 : Fin 14)
theorem sem_eq (s : ℕ) (hs : s < 2) (ho : ∀ a, (![s] : Fin 1 → ℕ) a + S1.size a ≤ S2.size a) : semM ![s] ho = cellN s := by
  rcases (by omega : s = 0 ∨ s = 1) with rfl | rfl
  · show semM ![0] (by decide) = cellN 0; decide +kernel
  · show semM ![1] (by decide) = cellN 1; decide +kernel

/-! ## A gathered block -/

/-- What slot rows hold once the rows `q` of `v` are gathered: the same at both slots. -/
def gath (v : VC F) (q : Fin 256 → Fin 73728) : XC F := fun y => v (ix2 (q (y 1)) (y 2))

theorem row_landed (v : VC F) (q : Fin 256 → Fin 73728) (s r : ℕ) (ho hp) (hs : s < 2) (hr : r < 256) (hq) (fd : XC F) (y)
    (hy : y ∈ rowSet s r) :
    (rowM ![s, 0, 0] ho ![r, 0] hp).view.write (Elt F) fd
      (ReadAs.same.apply ((srcM ![(q ⟨r, hr⟩).val, 0] hq).view.read (Elt F) v)) Finset.univ y = gath v q y := by
  obtain ⟨h0, h1⟩ := mem_rowSet.mp hy
  have hy' : y = (rowM ![s, 0, 0] ho ![r, 0] hp).view.emb (ix2 (0 : Fin 1) (y 2)) := by
    refine Eq.symm ((row_emb s r ho hp hs hr _).trans ?_)
    funext a; apply Fin.ext
    match a with
    | 0 => exact h0.symm
    | 1 => exact h1.symm
    | 2 => rfl
  have hw := View.write_emb_of_mem (v := (rowM ![s, 0, 0] ho ![r, 0] hp).view) (Val := Elt F) fd
    (ReadAs.same.apply ((srcM ![(q ⟨r, hr⟩).val, 0] hq).view.read (Elt F) v)) (M := Finset.univ)
    (x := ix2 (0 : Fin 1) (y 2)) (Finset.mem_univ _)
  rw [← hy'] at hw
  refine hw.trans ?_
  show v ((srcM ![(q ⟨r, hr⟩).val, 0] hq).view.emb (ix2 (0 : Fin 1) (y 2))) = v (ix2 (q (y 1)) (y 2))
  rw [src_emb]
  have : (⟨r, hr⟩ : Fin 256) = y 1 := Fin.ext h1.symm
  rw [this]; rfl

section Deliveries

variable (c : Dev nD)

/-- The token array under read token `r`, on some of its elements; a row of the buffer at given contents. -/
abbrev vTok (v : VC F) (r : ℕ) (S : Finset S73728x1024.Idx) : sProp (MM F) :=
  ((c : Thread nD τ).loc main_arg0) ↦[S]{Transfers.shareTokN fullShare r} v
abbrev rowPt (s r : ℕ) (f : XC F) : sProp (MM F) := ((c : Thread nD τ).loc cc0_scratch0) ↦[rowSet s r]{fullShare} f
abbrev slotPt (s : ℕ) (f : XC F) : sProp (MM F) := ((c : Thread nD τ).loc cc0_scratch0) ↦[slotSet s]{fullShare} f

/-- What copy `r` of a block lands: its row gathered, and its source row's read token back. -/
abbrev deliv (v : VC F) (q : Fin 256 → Fin 73728) (s : ℕ) (r : Fin 256) : sProp (MM F) :=
  iprop(rowPt c s r.val (gath v q) ∗ vTok c v r.val (srcSet (q r)))

/-- The batch of a block's row copies on its slot's cell: `j` issued, `u` credits consumed. -/
abbrev batch (v : VC F) (q : Fin 256 → Fin 73728) (s j u : ℕ) : sProp (MM F) :=
  Transfers.Batch (countersEmb (U := Pipeline.UD sig nD τ)) (c : Thread nD τ) (.dma (cellN s)) () NN (deliv c v q s) j u

/-- The rows still to be issued from row `a` on: each owned at some contents, with its source row's token. -/
abbrev pend (v : VC F) (q : Fin 256 → Fin 73728) (s a : ℕ) : sProp (MM F) :=
  bigSep (Ring.rangeSet 256 a 256) fun r => iprop((∃ f, rowPt c s r.val f) ∗ vTok c v r.val (srcSet (q r)))

end Deliveries

end Cert.KernelIdeal.Hand

end
-- ==== Proof.Issue.lean ====
/- The row loops of the experts kernel: the two loops that issue a block's 256 row copies, two at a time at the two
   priorities, and the two loops that wait for them. -/
module

public import proofs.«01_k».proof.Proof.Rows

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Ops

variable (c : Dev nD) {α : Type} {Q : α → sProp (MM F)}

/-- One row copy issued: transfer `r` of its slot's batch. -/
theorem issue_one (v : VC F) (q : Fin 256 → Fin 73728) (s r : ℕ) (hs : s < 2) (hr : r < 256)
    {o : Fin 3 → ℕ} {ho} {p : Fin 2 → ℕ} {hp} {a : Fin 2 → ℕ} {ha} {sm : DmaSem sig}
    (eo : o = ![s, 0, 0]) (ep : p = ![r, 0]) (ea : a = ![(q ⟨r, hr⟩).val, 0]) (em : sm = cellN s)
    {hsrc hdst hsem} {k : PUnit → Prog (TpuEff nD τ sig (Elt F) Λ₀ .tc) α} :
    iprop((∃ f, rowPt c s r f) ∗ vTok c v r (srcSet (q ⟨r, hr⟩)) ∗ batch c v q s r 0)
      ⊢ iprop((batch c v q s (r + 1) 0 -∗ wp frame (wpE (defs₀ (F := F)) Variants.none (c : Thread nD τ) none) Set.univ (k ⟨⟩) Q)
        -∗ wp frame (wpE (defs₀ (F := F)) Variants.none (c : Thread nD τ) none) Set.univ
            (.op (.enqueueDma (srcM a ha) (.here (rowM o ho p hp)) (.dma sm) hsrc hdst hsem) k) Q) := by
  subst eo ep ea em
  iintro ⟨⟨%f, Hr⟩, Hv, HB⟩ Hk
  have hset := row_set s r ho hp hs hr
  have hsset := src_set (q ⟨r, hr⟩) ha
  have hrule := Transfers.wp_dmaBatch (countersEmb (nD := nD) (τ := τ) (sig := sig) (Ix := Unit) (Val := Elt F) (Name := ℕ) (Lvl := ℕ) (U := Pipeline.UD sig nD τ)) Variants.none (c : Thread nD τ) none (defs := defs₀ (F := F)) (Q := Q) (k := k)
    (Sd := rowSet s r) (fd := f) (fs := v) (via := .same) (sm := .dma (cellN s)) (hsrc := hsrc) (hdst := hdst) (hsem := hsem)
    (src := srcM ![(q ⟨r, hr⟩).val, 0] ha) (dst := rowM ![s, 0, 0] ho ![r, 0] hp) (D := deliv c v q s) (j := r) (u := 0)
    (q := Transfers.shareTokN fullShare r) () NN (row_credit _ _ _ _) (by rw [hset]) hr (Nat.zero_le _) (by
      rw [hsset]
      rw [pointsTo_congr (fun y hy => row_landed v q s r ho hp hs hr ha f y hy)])
  rw [hsset] at hrule
  iapply hrule $$ [Hr Hv HB]
  · isplitl [Hv]; · iexact Hv
    isplitl [Hr]; · iexact Hr
    iexact HB
  iexact Hk

/-- A word read from a whole scalar operand: what its contents read there. -/
theorem load_word {S : Shape} {p : PosShare TreeShare} (m : Memref sig .tc .smem S .i32) (r : Rect S) (h1 : r.shape.numel = 1) (hp : EltTy.packing .i32 = 1)
    (f : Buf (Elt F) (m.view.loc (c : Thread nD τ))) {k : Elt F .i32 → Prog (TpuEff nD τ sig (Elt F) Λ₀ .tc) α} :
    (m.view.loc (c : Thread nD τ) ↦[m.view.set]{p} f : sProp (MM F))
      ⊢ iprop(((m.view.loc (c : Thread nD τ) ↦[m.view.set]{p} f : sProp (MM F))
          -∗ wp frame (wpE (defs₀ (F := F)) Variants.none (c : Thread nD τ) none) Set.univ
              (k (m.view.read (Elt F) f (r.emb (Shape.Idx.first (h1.symm ▸ Nat.one_pos))))) Q)
        -∗ wp frame (wpE (defs₀ (F := F)) Variants.none (c : Thread nD τ) none) Set.univ (smemLoad m r h1 hp >>= k) Q) := by
  have e : (smemLoad (nD := nD) (τ := τ) (p := .tc) (Val := Elt F) (Λ := Λ₀) m r h1 hp >>= k)
      = smemLoadElt m r (View.loads_smem_one hp h1) (Shape.Idx.first (h1.symm ▸ Nat.one_pos)) k := by
    unfold smemLoad smemLoadElt; rw [Prog.bind_op]; rfl
  rw [e]
  have h2 : (m.access r).read (Elt F) f (Shape.Idx.first (h1.symm ▸ Nat.one_pos)) = m.view.read (Elt F) f (r.emb (Shape.Idx.first (h1.symm ▸ Nat.one_pos))) := rfl
  rw [← h2]
  exact wp_smemLoadElt Variants.none (c : Thread nD τ) none Set.univ (m := m) (r := r) (f := f) (S := m.view.set) (q := p) (k := k) (View.set_slice_subset m.view r)

/-- The side condition the kernel assumes of a word it read, given the word's row. -/
theorem assume_word {P : Prop} {d : Decidable P} (h : P) {k : PLift P → Prog (TpuEff nD τ sig (Elt F) Λ₀ .tc) α} :
    wp frame (wpE (defs₀ (F := F)) Variants.none (c : Thread nD τ) none) Set.univ (k ⟨h⟩) Q
      ⊢ (wp frame (wpE (defs₀ (F := F)) Variants.none (c : Thread nD τ) none) Set.univ (Prog.lift (TpuEff.assume P d) >>= k) Q : sProp (MM F)) :=
  wp_assume Variants.none (c : Thread nD τ) none Set.univ h

end Ops

/-- The one element of a unit rectangle in a block of 256 words. -/
theorem word_emb (r : ℕ) (hr : r < 256) {o : Fin 3 → ℕ} (eo : o = ![0, 0, r]) (ho : ∀ a, o a + S1x1x1.size a ≤ S1x1x256.size a) (x : S1x1x1.Idx) :
    (Rect.unit (s := S1x1x256) o S1x1x1.size ho).emb x = ix3 (0 : Fin 1) (0 : Fin 1) (⟨r, hr⟩ : Fin 256) := by
  subst eo
  funext a; apply Fin.ext
  match a with
  | 0 => have h : (x 0).val < 1 := (x 0).isLt; show 0 + 1 * (x 0).val = 0; omega
  | 1 => have h : (x 1).val < 1 := (x 1).isLt; show 0 + 1 * (x 1).val = 0; omega
  | 2 => have h : (x 2).val < 1 := (x 2).isLt; show r + 1 * (x 2).val = r; omega

theorem inb_src (n : ℕ) (hn : n < 73728) : ∀ a, (![n, 0] : Fin 2 → ℕ) a + S1x1024.size a ≤ S73728x1024.size a := by
  intro a
  match a with
  | 0 => show n + 1 ≤ 73728; omega
  | 1 => show 0 + 1024 ≤ 1024; omega

theorem sem_of (s : ℕ) (hs : s < 2) {e : Fin 1 → ℕ} (ee : e = ![s]) (he : ∀ a, e a + S1.size a ≤ S2.size a) : semM e he = cellN s := by
  subst ee; exact sem_eq s hs he

section Loops

variable (c : Dev nD) (v : VC F) (q : Fin 256 → Fin 73728) (i : grid0.Coords)
variable (arg1 : Memref sig .tc .smem S608 .i32) (harg1 : arg1.IsWhole) (arg2 : Memref sig .tc .smem S608 .i32) (harg2 : arg2.IsWhole)
  (arg3 : Memref sig .tc .smem S1x1x256 .i32) (harg3 : arg3.IsWhole) (arg4 : Memref sig .tc .smem S1x1x256 .i32) (harg4 : arg4.IsWhole)
  (arg6 : Memref sig .tc .vmem S1x1x1024x512 .f32) (harg6 : arg6.IsWhole) (arg7 : Memref sig .tc .vmem S1x1x1024x512 .f32) (harg7 : arg7.IsWhole)
  (arg8 : Memref sig .tc .vmem S1x1x512x1024 .f32) (harg8 : arg8.IsWhole) (arg9 : Memref sig .tc .vmem S256x1024 .f32) (harg9 : arg9.IsWhole)
  (arg11 : Memref sig .tc .vmem S1024x512 .bf16) (harg11 : arg11.IsWhole) (arg12 : Memref sig .tc .vmem S1024x512 .bf16) (harg12 : arg12.IsWhole)
  (arg13 : Memref sig .tc .vmem S512x1024 .bf16) (harg13 : arg13.IsWhole)

/-- The state of an issuing loop before trip `k`: two rows a trip. -/
abbrev issueInv (s : ℕ) (m : Memref sig .tc .smem S1x1x256 .i32) (f : Buf (Elt F) (m.view.loc (c : Thread nD τ))) (k : ℕ) (_ : Unit) : sProp (MM F) :=
  iprop((m.view.loc (c : Thread nD τ) ↦[m.view.set]{fullShare} f) ∗ batch c v q s (2 * k) 0 ∗ pend c v q s (2 * k))

theorem issue_trip3 (arg0 v1 : BitVec 32) (h3 : k0_cond3 v1 = 1#1)
    (f : Buf (Elt F) (arg4.view.loc (c : Thread nD τ)))
    (hq : ∀ r : Fin 256, BitVec.toNat (arg4.view.read (Elt F) f (ix3 (0 : Fin 1) (0 : Fin 1) r)) = (q r).val) (k : Fin k0_t3_loop.trips) (acc : Unit) :
    issueInv c v q (bOf ((i 0).val + 1)) arg4 f k.val acc
      ⊢ wp frame (wpE (defs₀ (F := F)) Variants.none (c : Thread nD τ) none) Set.univ
        (k0_t3_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 arg0 v1 h3 k acc)
        (issueInv c v q (bOf ((i 0).val + 1)) arg4 f (k.val + 1)) := by
  have hk : k.val < 128 := lt_of_lt_of_eq k.isLt trips3
  have hs : bOf ((i 0).val + 1) < 2 := Nat.mod_lt _ (by decide)
  unfold issueInv pend
  rw [Ring.bigSep_rangeSet_head (lo := 2 * k.val) (by omega) (by omega), Ring.bigSep_rangeSet_head (lo := 2 * k.val + 1) (by omega) (by omega),
    show 2 * (k.val + 1) = 2 * k.val + 1 + 1 by omega]
  unfold k0_t3_body
  iintro ⟨Hm, HB, ⟨Hr0, Hv0⟩, ⟨Hr1, Hv1⟩, HP⟩
  dsimp only
  iapply (load_word c arg4 _ _ rfl f) $$ Hm
  iintro Hm
  rw [word_emb (2 * k.val) (by omega) (off15_eq k)]
  iapply (assume_word c (by intro _; show ∀ a, (![_, 0] : Fin 2 → ℕ) a + _ ≤ _; rw [hq]; exact inb_src _ (q _).isLt))
  simp only [Prog.bind_lift]
  iapply (issue_one c v q _ (2 * k.val) hs (by omega) (off17_eq i) (off18_eq k) (by show ![_, 0] = _; rw [hq]) (sem_of _ hs (off16_eq i) _)) $$ [Hr0 Hv0 HB]
  · isplitl [Hr0]; · iexact Hr0
    isplitl [Hv0]; · iexact Hv0
    iexact HB
  iintro HB
  iapply (load_word c arg4 _ _ rfl f) $$ Hm
  iintro Hm
  rw [word_emb (2 * k.val + 1) (by omega) (off20_eq k)]
  iapply (assume_word c (by intro _; show ∀ a, (![_, 0] : Fin 2 → ℕ) a + _ ≤ _; rw [hq]; exact inb_src _ (q _).isLt))
  simp only [Prog.bind_lift]
  iapply (issue_one c v q _ (2 * k.val + 1) hs (by omega) (off22_eq i) (off23_eq k) (by show ![_, 0] = _; rw [hq]) (sem_of _ hs (off21_eq i) _)) $$ [Hr1 Hv1 HB]
  · isplitl [Hr1]; · iexact Hr1
    isplitl [Hv1]; · iexact Hv1
    iexact HB
  iintro HB
  rw [wp_pure]; imodintro
  isplitl [Hm]; · iexact Hm
  isplitl [HB]; · iexact HB
  iexact HP

theorem issue_trip1 (h1 : k0_cond1 i = 1#1)
    (f : Buf (Elt F) (arg3.view.loc (c : Thread nD τ)))
    (hq : ∀ r : Fin 256, BitVec.toNat (arg3.view.read (Elt F) f (ix3 (0 : Fin 1) (0 : Fin 1) r)) = (q r).val) (k : Fin k0_t1_loop.trips) (acc : Unit) :
    issueInv c v q (0) arg3 f k.val acc
      ⊢ wp frame (wpE (defs₀ (F := F)) Variants.none (c : Thread nD τ) none) Set.univ
        (k0_t1_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 h1 k acc)
        (issueInv c v q (0) arg3 f (k.val + 1)) := by
  have hk : k.val < 128 := lt_of_lt_of_eq k.isLt trips1
  have hs : 0 < 2 := by decide
  unfold issueInv pend
  rw [Ring.bigSep_rangeSet_head (lo := 2 * k.val) (by omega) (by omega), Ring.bigSep_rangeSet_head (lo := 2 * k.val + 1) (by omega) (by omega),
    show 2 * (k.val + 1) = 2 * k.val + 1 + 1 by omega]
  unfold k0_t1_body
  iintro ⟨Hm, HB, ⟨Hr0, Hv0⟩, ⟨Hr1, Hv1⟩, HP⟩
  dsimp only
  iapply (load_word c arg3 _ _ rfl f) $$ Hm
  iintro Hm
  rw [word_emb (2 * k.val) (by omega) (off4_eq k)]
  iapply (assume_word c (by intro _; show ∀ a, (![_, 0] : Fin 2 → ℕ) a + _ ≤ _; rw [hq]; exact inb_src _ (q _).isLt))
  simp only [Prog.bind_lift]
  iapply (issue_one c v q _ (2 * k.val) hs (by omega) rfl (off5_eq k) (by show ![_, 0] = _; rw [hq]) (sem_of _ hs rfl _)) $$ [Hr0 Hv0 HB]
  · isplitl [Hr0]; · iexact Hr0
    isplitl [Hv0]; · iexact Hv0
    iexact HB
  iintro HB
  iapply (load_word c arg3 _ _ rfl f) $$ Hm
  iintro Hm
  rw [word_emb (2 * k.val + 1) (by omega) (off7_eq k)]
  iapply (assume_word c (by intro _; show ∀ a, (![_, 0] : Fin 2 → ℕ) a + _ ≤ _; rw [hq]; exact inb_src _ (q _).isLt))
  simp only [Prog.bind_lift]
  iapply (issue_one c v q _ (2 * k.val + 1) hs (by omega) rfl (off8_eq k) (by show ![_, 0] = _; rw [hq]) (sem_of _ hs rfl _)) $$ [Hr1 Hv1 HB]
  · isplitl [Hr1]; · iexact Hr1
    isplitl [Hv1]; · iexact Hv1
    iexact HB
  iintro HB
  rw [wp_pure]; imodintro
  isplitl [Hm]; · iexact Hm
  isplitl [HB]; · iexact HB
  iexact HP

/-- The state of a waiting loop before trip `k`: the credits of `k` rows consumed, and after the last row every
    delivery with the cell back at zero. -/
def drainInv (s : ℕ) (k : ℕ) (_ : Unit) : sProp (MM F) :=
  iprop((∃ W, owes (c : Thread nD τ) 0 W)
    ∗ (if k < 256 then batch c v q s 256 (k * NN)
       else iprop(semVal ((c : Thread nD τ), SemLoc.dma (cellN s)) 0 ∗ bigSep Finset.univ (deliv c v q s))))

/-- One row's wait, at any slot and any row. -/
theorem wait_one {α : Type} {Q : α → sProp (MM F)} (s k : ℕ) (hs : s < 2) (hk : k < 256) {o ho p hp a ha} {sm : DmaSem sig} (em : sm = cellN s) {hsrc hdst}
    {kk : PUnit → Prog (TpuEff nD τ sig (Elt F) Λ₀ .tc) α} :
    drainInv c v q s k ()
      ⊢ iprop((drainInv c v q s (k + 1) () -∗ wp frame (wpE (defs₀ (F := F)) Variants.none (c : Thread nD τ) none) Set.univ (kk ⟨⟩) Q)
        -∗ wp frame (wpE (defs₀ (F := F)) Variants.none (c : Thread nD τ) none) Set.univ
            (.op (.waitDma2 sm (srcM a ha) (rowM o ho p hp) hsrc hdst) kk) Q) := by
  subst em
  unfold drainInv
  rw [if_pos hk]
  rcases Nat.lt_or_ge (k + 1) 256 with h1 | h1
  · rw [if_pos h1]
    iintro ⟨⟨%W, HO⟩, HB⟩ Hk
    have hrule := Transfers.wp_waitBatch (countersEmb (nD := nD) (τ := τ) (sig := sig) (Ix := Unit) (Val := Elt F) (Name := ℕ) (Lvl := ℕ) (U := Pipeline.UD sig nD τ))
      Variants.none (c : Thread nD τ) none (defs := defs₀ (F := F)) (Q := Q) (k := kk) (sem := cellN s) (srcw := srcM a ha) (dstw := rowM o ho p hp)
      (hsrc := hsrc) (hdst := hdst) () (N := NN) (row_credit _ _ _ _) (D := deliv c v q s) (u := k * NN)
      (by have := NN_pos; calc k * NN + NN = (k + 1) * NN := by ring
            _ < 256 * NN := Nat.mul_lt_mul_of_pos_right h1 this
            _ = NN * 256 := Nat.mul_comm _ _) (W := W)
    iapply hrule $$ [HO HB]
    · isplitl [HB]; · iexact HB
      iexact HO
    iintro ⟨HB, HO⟩
    iapply Hk
    isplitl [HO]; · iexists _; iexact HO
    rw [show (k + 1) * NN = k * NN + NN by ring]; iexact HB
  · rw [if_neg (Nat.not_lt.mpr h1)]
    iintro ⟨⟨%W, HO⟩, HB⟩ Hk
    have hrule := Transfers.wp_waitBatchLast (countersEmb (nD := nD) (τ := τ) (sig := sig) (Ix := Unit) (Val := Elt F) (Name := ℕ) (Lvl := ℕ) (U := Pipeline.UD sig nD τ))
      Variants.none (c : Thread nD τ) none (defs := defs₀ (F := F)) (Q := Q) (k := kk) (sem := cellN s) (srcw := srcM a ha) (dstw := rowM o ho p hp)
      (hsrc := hsrc) (hdst := hdst) () (N := NN) (row_credit _ _ _ _) NN_pos (D := deliv c v q s) (u := k * NN)
      (by have : k + 1 = 256 := by omega
          calc k * NN + NN = (k + 1) * NN := by ring
            _ = NN * 256 := by rw [this, Nat.mul_comm]) (W := W)
    iapply hrule $$ [HO HB]
    · isplitl [HB]; · iexact HB
      iexact HO
    iintro ⟨HD, HS, HO⟩
    iapply Hk
    isplitl [HO]; · iexists _; iexact HO
    isplitl [HS]; · iexact HS
    iexact HD

theorem wait_trip2 (arg0 v1 : BitVec 32) (h3 : k0_cond3 v1 = 1#1) (k : Fin k0_t2_loop.trips) (acc : Unit) :
    drainInv c v q (bOf (i 0).val) k.val acc
      ⊢ wp frame (wpE (defs₀ (F := F)) Variants.none (c : Thread nD τ) none) Set.univ
        (k0_t2_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 arg0 v1 h3 k acc)
        (drainInv c v q (bOf (i 0).val) (k.val + 1)) := by
  have hk : k.val < 256 := lt_of_lt_of_eq k.isLt trips2
  have hs : bOf (i 0).val < 2 := Nat.mod_lt _ (by decide)
  unfold k0_t2_body
  iintro HB
  dsimp only
  simp only [Prog.bind_lift]
  iapply (wait_one c v q _ k.val hs hk (sem_of _ hs (off10_eq i) _)) $$ HB
  iintro HB
  rw [wp_pure]; imodintro
  iexact HB

theorem wait_trip4 (k : Fin k0_t4_loop.trips) (acc : Unit) :
    drainInv c v q (bOf ((i 0).val + 1)) k.val acc
      ⊢ wp frame (wpE (defs₀ (F := F)) Variants.none (c : Thread nD τ) none) Set.univ
        (k0_t4_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 k acc)
        (drainInv c v q (bOf ((i 0).val + 1)) (k.val + 1)) := by
  have hk : k.val < 256 := lt_of_lt_of_eq k.isLt trips4
  have hs : bOf ((i 0).val + 1) < 2 := Nat.mod_lt _ (by decide)
  unfold k0_t4_body
  iintro HB
  dsimp only
  simp only [Prog.bind_lift]
  iapply (wait_one c v q _ k.val hs hk (sem_of _ hs (off26_eq i) _)) $$ HB
  iintro HB
  rw [wp_pure]; imodintro
  iexact HB

/-! ## The loops whole -/

variable {α : Type} {Q : α → sProp (MM F)} {kk : Unit → Prog (TpuEff nD τ sig (Elt F) Λ₀ .tc) α}

/-- The issuing loop of a point: every row of the slot issued. -/
theorem issue_loop3 (arg0 v1 : BitVec 32) (h3 : k0_cond3 v1 = 1#1)
    (f : Buf (Elt F) (arg4.view.loc (c : Thread nD τ)))
    (hq : ∀ r : Fin 256, BitVec.toNat (arg4.view.read (Elt F) f (ix3 (0 : Fin 1) (0 : Fin 1) r)) = (q r).val) :
    iprop((arg4.view.loc (c : Thread nD τ) ↦[arg4.view.set]{fullShare} f) ∗ batch c v q (bOf ((i 0).val + 1)) 0 0 ∗ pend c v q (bOf ((i 0).val + 1)) 0)
      ⊢ iprop((iprop((arg4.view.loc (c : Thread nD τ) ↦[arg4.view.set]{fullShare} f) ∗ batch c v q (bOf ((i 0).val + 1)) 256 0)
            -∗ wp frame (wpE (defs₀ (F := F)) Variants.none (c : Thread nD τ) none) Set.univ (kk ()) Q)
        -∗ wp frame (wpE (defs₀ (F := F)) Variants.none (c : Thread nD τ) none) Set.univ
            (Scf.Loop.for k0_t3_loop k0_t3_ok () (k0_t3_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 arg0 v1 h3) >>= kk) Q) := by
  iintro H Hk
  iapply (Scf.wp_for_bind frame _ Set.univ _ _ _ _ _ _ (issueInv c v q (bOf ((i 0).val + 1)) arg4 f)
    (issue_trip3 c v q i arg1 harg1 arg2 harg2 arg3 harg3 arg4 harg4 arg6 harg6 arg7 harg7 arg8 harg8 arg9 harg9 arg11 harg11 arg12 harg12 arg13 harg13 arg0 v1 h3 f hq)) $$ H
  iintro %acc ⟨Hm, HB, HP⟩
  iclear HP
  iapply Hk
  isplitl [Hm]; · iexact Hm
  iexact HB

theorem issue_loop1 (h1 : k0_cond1 i = 1#1)
    (f : Buf (Elt F) (arg3.view.loc (c : Thread nD τ)))
    (hq : ∀ r : Fin 256, BitVec.toNat (arg3.view.read (Elt F) f (ix3 (0 : Fin 1) (0 : Fin 1) r)) = (q r).val) :
    iprop((arg3.view.loc (c : Thread nD τ) ↦[arg3.view.set]{fullShare} f) ∗ batch c v q 0 0 0 ∗ pend c v q 0 0)
      ⊢ iprop((iprop((arg3.view.loc (c : Thread nD τ) ↦[arg3.view.set]{fullShare} f) ∗ batch c v q 0 256 0)
            -∗ wp frame (wpE (defs₀ (F := F)) Variants.none (c : Thread nD τ) none) Set.univ (kk ()) Q)
        -∗ wp frame (wpE (defs₀ (F := F)) Variants.none (c : Thread nD τ) none) Set.univ
            (Scf.Loop.for k0_t1_loop (k0_t1_ok i h1) () (k0_t1_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 h1) >>= kk) Q) := by
  iintro H Hk
  iapply (Scf.wp_for_bind frame _ Set.univ _ _ _ _ _ _ (issueInv c v q 0 arg3 f)
    (issue_trip1 c v q i arg1 harg1 arg2 harg2 arg3 harg3 arg4 harg4 arg6 harg6 arg7 harg7 arg8 harg8 arg9 harg9 arg11 harg11 arg12 harg12 arg13 harg13 h1 f hq)) $$ H
  iintro %acc ⟨Hm, HB, HP⟩
  iclear HP
  iapply Hk
  isplitl [Hm]; · iexact Hm
  iexact HB

/-- The waiting loops: from every row issued to every row landed. -/
theorem wait_loop2 (arg0 v1 : BitVec 32) (h3 : k0_cond3 v1 = 1#1) :
    iprop((∃ W, owes (c : Thread nD τ) 0 W) ∗ batch c v q (bOf (i 0).val) 256 0)
      ⊢ iprop((iprop((∃ W, owes (c : Thread nD τ) 0 W) ∗ semVal ((c : Thread nD τ), SemLoc.dma (cellN (bOf (i 0).val))) 0
              ∗ bigSep Finset.univ (deliv c v q (bOf (i 0).val)))
            -∗ wp frame (wpE (defs₀ (F := F)) Variants.none (c : Thread nD τ) none) Set.univ (kk ()) Q)
        -∗ wp frame (wpE (defs₀ (F := F)) Variants.none (c : Thread nD τ) none) Set.univ
            (Scf.Loop.for k0_t2_loop k0_t2_ok () (k0_t2_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4 arg0 v1 h3) >>= kk) Q) := by
  iintro ⟨HO, HB⟩ Hk
  iapply (Scf.wp_for_bind frame _ Set.univ _ _ _ _ _ _ (drainInv c v q (bOf (i 0).val))
    (wait_trip2 c v q i arg1 harg1 arg2 harg2 arg3 harg3 arg4 harg4 arg6 harg6 arg7 harg7 arg8 harg8 arg9 harg9 arg11 harg11 arg12 harg12 arg13 harg13 arg0 v1 h3)) $$ [HO HB]
  · unfold drainInv; rw [if_pos (by decide), Nat.zero_mul]
    isplitl [HO]; · iexact HO
    iexact HB
  iintro %acc H
  ihave H' := (show drainInv c v q (bOf (i 0).val) k0_t2_loop.trips acc ⊢ iprop((∃ W, owes (c : Thread nD τ) 0 W) ∗ semVal ((c : Thread nD τ), SemLoc.dma (cellN (bOf (i 0).val))) 0
              ∗ bigSep Finset.univ (deliv c v q (bOf (i 0).val))) from Entails.of_eq (by rw [trips2]; unfold drainInv; rw [if_neg (by decide)])) $$ H
  iapply Hk; iexact H'

theorem wait_loop4 :
    iprop((∃ W, owes (c : Thread nD τ) 0 W) ∗ batch c v q (bOf ((i 0).val + 1)) 256 0)
      ⊢ iprop((iprop((∃ W, owes (c : Thread nD τ) 0 W) ∗ semVal ((c : Thread nD τ), SemLoc.dma (cellN (bOf ((i 0).val + 1)))) 0
              ∗ bigSep Finset.univ (deliv c v q (bOf ((i 0).val + 1))))
            -∗ wp frame (wpE (defs₀ (F := F)) Variants.none (c : Thread nD τ) none) Set.univ (kk ()) Q)
        -∗ wp frame (wpE (defs₀ (F := F)) Variants.none (c : Thread nD τ) none) Set.univ
            (Scf.Loop.for k0_t4_loop k0_t4_ok () (k0_t4_body i arg1 harg1 arg2 harg2 arg3 harg3 arg4 harg4 varr (Memref.isWhole_whole _) arg6 harg6 arg7 harg7 arg8 harg8 arg9 harg9
          xbuf (Memref.isWhole_whole _) arg11 harg11 arg12 harg12 arg13 harg13 cc0_scratch4) >>= kk) Q) := by
  iintro ⟨HO, HB⟩ Hk
  iapply (Scf.wp_for_bind frame _ Set.univ _ _ _ _ _ _ (drainInv c v q (bOf ((i 0).val + 1)))
    (wait_trip4 c v q i arg1 harg1 arg2 harg2 arg3 harg3 arg4 harg4 arg6 harg6 arg7 harg7 arg8 harg8 arg9 harg9 arg11 harg11 arg12 harg12 arg13 harg13)) $$ [HO HB]
  · unfold drainInv; rw [if_pos (by decide), Nat.zero_mul]
    isplitl [HO]; · iexact HO
    iexact HB
  iintro %acc H
  ihave H' := (show drainInv c v q (bOf ((i 0).val + 1)) k0_t4_loop.trips acc ⊢ iprop((∃ W, owes (c : Thread nD τ) 0 W) ∗ semVal ((c : Thread nD τ), SemLoc.dma (cellN (bOf ((i 0).val + 1)))) 0
              ∗ bigSep Finset.univ (deliv c v q (bOf ((i 0).val + 1)))) from Entails.of_eq (by rw [trips4]; unfold drainInv; rw [if_neg (by decide)])) $$ H
  iapply Hk; iexact H'

end Loops

end Cert.KernelIdeal.Hand

end
-- ==== Proof.Slots.lean ====
/- How the row buffer, the token array and a slot's semaphore are handed to a block's copies and come back: the slot cut
   into its rows, the tokens cut into one read share a row, the batch opened on the slot's cell. -/
module

public import proofs.«01_k».proof.Proof.Issue

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Elements -/

theorem rows_disjoint (s : ℕ) (r r' : Fin 256) (h : r ≠ r') : Disjoint (rowSet s r.val) (rowSet s r'.val) := by
  rw [Finset.disjoint_left]; intro y hy hy'
  exact h (Fin.ext ((mem_rowSet.mp hy).2.symm.trans (mem_rowSet.mp hy').2))
theorem rows_cover (s : ℕ) : (Finset.univ : Finset (Fin 256)).biUnion (fun r => rowSet s r.val) = slotSet s := by
  ext y; simp only [Finset.mem_biUnion, Finset.mem_univ, true_and, mem_rowSet, mem_slotSet]
  exact ⟨fun ⟨_, h, _⟩ => h, fun h => ⟨y 1, h, rfl⟩⟩
theorem slots_disjoint : Disjoint (slotSet 0) (slotSet 1) := by
  rw [Finset.disjoint_left]; intro y hy hy'
  have h0 := mem_slotSet.mp hy; have h1 := mem_slotSet.mp hy'; omega
theorem slots_cover : slotSet 0 ∪ slotSet 1 = Finset.univ := by
  ext y; simp only [Finset.mem_union, mem_slotSet, Finset.mem_univ, iff_true]
  have h : (y 0).val < 2 := (y 0).isLt
  omega

section Slots

variable (c : Dev nD)

/-- A slot at anything; the token array whole. -/
abbrev slotAny (s : ℕ) : sProp (MM F) := iprop(∃ f, slotPt (F := F) c s f)
abbrev cell0 (s : ℕ) : sProp (MM F) := semVal ((c : Thread nD τ), SemLoc.dma (cellN s)) 0
abbrev vWhole (v : VC F) : sProp (MM F) := ((c : Thread nD τ).loc main_arg0) ↦{fullShare} v
abbrev xWhole (f : XC F) : sProp (MM F) := ((c : Thread nD τ).loc cc0_scratch0) ↦{fullShare} f

/-- What of the token array a block's copies leave behind: each read share's other elements, and the rest's share. -/
abbrev kept (v : VC F) (q : Fin 256 → Fin 73728) : sProp (MM F) :=
  iprop((((c : Thread nD τ).loc main_arg0) ↦{Transfers.shareDrop fullShare 256} v)
    ∗ bigSep Finset.univ fun r : Fin 256 => vTok c v r.val (Finset.univ \ srcSet (q r)))

theorem slot_rows (s : ℕ) (f : XC F) :
    (slotPt c s f : sProp (MM F)) = bigSep Finset.univ fun r : Fin 256 => rowPt c s r.val f := by
  have h := pointsTo_biUnion (Ix := Unit) (Name := ℕ) (U := Pipeline.UD sig nD τ) (Lvl := ℕ) (ℓ := (c : Thread nD τ).loc cc0_scratch0) (q := fullShare) (f := f)
    Finset.univ (fun r : Fin 256 => rowSet s r.val) fun r _ r' _ h => rows_disjoint s r r' h
  rw [rows_cover] at h
  exact h

theorem x_slots (f : XC F) : (xWhole c f : sProp (MM F)) ⊢ iprop(slotAny c 0 ∗ slotAny c 1) := by
  have h := (pointsTo_union (Ix := Unit) (Name := ℕ) (U := Pipeline.UD sig nD τ) (Lvl := ℕ) (ℓ := (c : Thread nD τ).loc cc0_scratch0) (q := fullShare) (f := f) slots_disjoint).1
  rw [slots_cover] at h
  refine h.trans ?_
  iintro ⟨H0, H1⟩
  isplitl [H0]
  · iexists f; iexact H0
  · iexists f; iexact H1

theorem slots_x : iprop(slotAny (F := F) c 0 ∗ slotAny c 1) ⊢ (iprop(∃ f, xWhole c f) : sProp (MM F)) := by
  iintro ⟨⟨%f0, H0⟩, ⟨%f1, H1⟩⟩
  have h := pointsTo_join (Ix := Unit) (Name := ℕ) (U := Pipeline.UD sig nD τ) (Lvl := ℕ) (ℓ := (c : Thread nD τ).loc cc0_scratch0) (q := fullShare) (f := f0) (g := f1) slots_disjoint
  rw [slots_cover] at h
  iexists _
  iapply h
  isplitl [H0]
  · iexact H0
  · iexact H1

theorem bsep_sep {I : Type} (S : Finset I) (A B : I → sProp (MM F)) :
    bigSep S (fun i => iprop(A i ∗ B i)) = iprop(bigSep S A ∗ bigSep S B) := BI.bigSep_sep S A B

theorem v_tokens (v : VC F) (q : Fin 256 → Fin 73728) :
    (vWhole c v : sProp (MM F)) ⊣⊢ iprop((bigSep Finset.univ fun r : Fin 256 => vTok c v r.val (srcSet (q r))) ∗ kept c v q) := by
  have e1 := Transfers.pointsTo_toks_range (Ix := Unit) (Name := ℕ) (U := Pipeline.UD sig nD τ) (Lvl := ℕ) (ℓ := (c : Thread nD τ).loc main_arg0) (S := Finset.univ) (f := v) fullShare 256
  rw [← Ring.bigSep_fin_eq_range 256 (fun r : Fin 256 => vTok c v r.val Finset.univ) _ (fun _ _ => rfl)] at e1
  have e2 : ∀ r : Fin 256, (vTok c v r.val Finset.univ : sProp (MM F)) = iprop(vTok c v r.val (srcSet (q r)) ∗ vTok c v r.val (Finset.univ \ srcSet (q r))) := fun r =>
    equiv_iff.mp ⟨(pointsTo_split_subset (Finset.subset_univ _)).1, (pointsTo_split_subset (Finset.subset_univ _)).2⟩
  rw [show (fun r : Fin 256 => (vTok c v r.val Finset.univ : sProp (MM F))) = fun r => iprop(vTok c v r.val (srcSet (q r)) ∗ vTok c v r.val (Finset.univ \ srcSet (q r))) from funext e2,
    bsep_sep] at e1
  unfold kept
  constructor
  · refine e1.1.trans ?_
    iintro ⟨H, Ha, Hb⟩
    isplitl [Ha]; · iexact Ha
    isplitl [H] <;> iassumption
  · refine BIBase.Entails.trans ?_ e1.2
    iintro ⟨Ha, H, Hb⟩
    isplitl [H]; · iexact H
    isplitl [Ha] <;> iassumption

theorem pend_all (v : VC F) (q : Fin 256 → Fin 73728) (s : ℕ) (f : XC F) :
    iprop(slotPt c s f ∗ bigSep Finset.univ fun r : Fin 256 => vTok c v r.val (srcSet (q r))) ⊢ (pend c v q s 0 : sProp (MM F)) := by
  have hr : ∀ r : Fin 256, (rowPt c s r.val f : sProp (MM F)) ⊢ iprop(∃ f, rowPt c s r.val f) := fun r => by iintro H; iexists f; iexact H
  have h : (bigSep Finset.univ fun r : Fin 256 => (rowPt c s r.val f : sProp (MM F))) ⊢ bigSep Finset.univ fun r : Fin 256 => iprop(∃ f, rowPt c s r.val f) :=
    BI.bigSep_mono fun r _ => hr r
  rw [slot_rows c s f]
  unfold pend
  rw [Ring.rangeSet_univ, bsep_sep]
  iintro ⟨HX, HT⟩
  isplitl [HX]
  · iapply h
    iexact HX
  iexact HT

/-- A slot, its cell at zero and the token array open a block's batch, every row still to be issued. -/
theorem start (v : VC F) (q : Fin 256 → Fin 73728) (s : ℕ) :
    iprop(slotAny c s ∗ cell0 c s ∗ vWhole c v) ⊢ (iprop(|={Set.univ}=> (batch c v q s 0 0 ∗ pend c v q s 0 ∗ kept c v q)) : sProp (MM F)) := by
  iintro ⟨⟨%f, HX⟩, Hc, HV⟩
  imod (Transfers.batch_alloc' (Lvl := ℕ) (countersEmb (U := Pipeline.UD sig nD τ)) (c : Thread nD τ) () NN (deliv c v q s) (sm := .dma (cellN s)) (E := Set.univ)) $$ Hc with HB
  imodintro
  isplitl [HB]; · iexact HB
  ihave HV' := (v_tokens c v q).1 $$ HV
  icases HV' with ⟨HT, HK⟩
  isplitr [HK]; swap; · iexact HK
  iapply (pend_all c v q s f)
  isplitl [HX]
  · iexact HX
  iexact HT

/-- The deliveries of a block's copies are the slot gathered and the token array back. -/
theorem finish (v : VC F) (q : Fin 256 → Fin 73728) (s : ℕ) :
    iprop(bigSep Finset.univ (deliv c v q s) ∗ kept c v q) ⊢ (iprop(slotPt c s (gath v q) ∗ vWhole c v) : sProp (MM F)) := by
  unfold deliv
  rw [bsep_sep]
  iintro ⟨⟨HX, HT⟩, HK⟩
  isplitl [HX]
  · rw [slot_rows c s]; iexact HX
  iapply (v_tokens c v q).2
  isplitl [HT] <;> iassumption

end Slots

end Cert.KernelIdeal.Hand

end
-- ==== Proof.Parts.lean ====
/- The body's program cut where its conditions are decided: the part from the first wait on, and the part from the
   weights' reload on, each a definition of its own, and the printed body as their sequence. -/
module

public import proofs.«01_k».proof.Proof.Slots

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

set_option maxHeartbeats 4000000

/-- From the drain test on. -/
def endP (i : grid0.Coords) (arg1 : Memref sig .tc .smem S608 .i32) (harg1 : arg1.IsWhole) (arg2 : Memref sig .tc .smem S608 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S73728x1024 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S256x1024 .f32) (harg9 : arg9.IsWhole) (arg10 : Memref sig .tc .vmem S2x256x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : DmaSems sig S2) (v1 : Elt F .i32) :
    Prog (TpuEff nD τ sig (Elt F) Λ₀ .tc) PUnit := do
  let arg0 : BitVec 32 := BitVec.ofNat 32 (i 0).val
  let v56 : BitVec 1 := Scalar.cmpi .eq arg0 607#32
  let v60 : Elt F .i32 ← smemLoad arg2 (Rect.unit (s := S608) (k0_off25 i) S1.size (k0_off25_inb i)) numel1_S1 rfl
  let v61 : BitVec 1 := Scalar.cmpi .eq v60 0#32
  let v62 : BitVec 1 := Scalar.ori v56 v61
  let v63 : BitVec 32 := Scalar.extui v62
  let v64 : BitVec 1 := Scalar.cmpi .ne v63 0#32
  if v64 = 1#1 then do
    Scf.Loop.for k0_t4_loop k0_t4_ok ⟨⟩ (k0_t4_body i arg1 harg1 arg2 harg2 arg3 harg3 arg4 harg4 arg5 harg5 arg6 harg6 arg7 harg7 arg8 harg8 arg9 harg9 arg10 harg10 arg11 harg11 arg12 harg12 arg13 harg13 arg14)
    pure ⟨⟩
  else do
    pure ⟨⟩
  if k0_h5 : k0_cond5 v1 = 1#1 then do
    let v24 : Vec F S256x1024 .f32 ← Prog.lift (.load arg9 (Rect.unit (s := S256x1024) ![0, 0] S256x1024.size inb_S256x1024_S256x1024_0_0).toLoadRect (View.loadsAt_vmem h_S256x1024))
    Prog.lift (.store arg9 (Rect.unit (s := S256x1024) ![0, 0] S256x1024.size inb_S256x1024_S256x1024_0_0) (k0_pay5 (F := F)) Finset.univ (View.stores_vmem_bits_univ h_S256x1024 rfl) (.inl rfl))
    pure ⟨⟩
  else do
    pure ⟨⟩
  pure ⟨⟩

/-- From the first wait on. -/
def tailP (i : grid0.Coords) (arg1 : Memref sig .tc .smem S608 .i32) (harg1 : arg1.IsWhole) (arg2 : Memref sig .tc .smem S608 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S73728x1024 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S256x1024 .f32) (harg9 : arg9.IsWhole) (arg10 : Memref sig .tc .vmem S2x256x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : DmaSems sig S2) (v1 : Elt F .i32) :
    Prog (TpuEff nD τ sig (Elt F) Λ₀ .tc) PUnit := do
  let arg0 : BitVec 32 := BitVec.ofNat 32 (i 0).val
  if k0_h3 : k0_cond3 v1 = 1#1 then do
    let ⟨v32, v52⟩ : Σ' (v32 : BitVec 32), FVec F S256x512 .bf16 ← k0_part1 i arg1 harg1 arg2 harg2 arg3 harg3 arg4 harg4 arg5 harg5 arg6 harg6 arg7 harg7 arg8 harg8 arg9 harg9 arg10 harg10 arg11 harg11 arg12 harg12 arg13 harg13 arg14 arg0 v1 k0_h3
    let v53 : Vec F S512x1024 .bf16 ← Prog.lift (.load arg13 (Rect.unit (s := S512x1024) ![0, 0] S512x1024.size inb_S512x1024_S512x1024_0_0).toLoadRect (View.loadsAt_vmem h_S512x1024))
    let v55 : Vec F S256x1024 .f32 ← Prog.lift (.load arg9 (Rect.unit (s := S256x1024) ![0, 0] S256x1024.size inb_S256x1024_S256x1024_0_0).toLoadRect (View.loadsAt_vmem h_S256x1024))
    Prog.lift (.store arg9 (Rect.unit (s := S256x1024) ![0, 0] S256x1024.size inb_S256x1024_S256x1024_0_0) (k0_pay4 v52 v53) Finset.univ (View.stores_vmem_bits_univ h_S256x1024 rfl) (.inl rfl))
    endP i arg1 harg1 arg2 harg2 arg3 harg3 arg4 harg4 arg5 harg5 arg6 harg6 arg7 harg7 arg8 harg8 arg9 harg9 arg10 harg10 arg11 harg11 arg12 harg12 arg13 harg13 arg14 v1
  else do
    if k0_h5 : k0_cond5 v1 = 1#1 then do
      let v24 : Vec F S256x1024 .f32 ← Prog.lift (.load arg9 (Rect.unit (s := S256x1024) ![0, 0] S256x1024.size inb_S256x1024_S256x1024_0_0).toLoadRect (View.loadsAt_vmem h_S256x1024))
      Prog.lift (.store arg9 (Rect.unit (s := S256x1024) ![0, 0] S256x1024.size inb_S256x1024_S256x1024_0_0) (k0_pay5 (F := F)) Finset.univ (View.stores_vmem_bits_univ h_S256x1024 rfl) (.inl rfl))
      pure ⟨⟩
    else do
      pure ⟨⟩
    pure ⟨⟩

/-- From the weights' reload on. -/
def midP (i : grid0.Coords) (arg1 : Memref sig .tc .smem S608 .i32) (harg1 : arg1.IsWhole) (arg2 : Memref sig .tc .smem S608 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S73728x1024 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S256x1024 .f32) (harg9 : arg9.IsWhole) (arg10 : Memref sig .tc .vmem S2x256x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : DmaSems sig S2) (v1 : Elt F .i32) (v11 : BitVec 1) :
    Prog (TpuEff nD τ sig (Elt F) Λ₀ .tc) PUnit := do
  let v2 : BitVec 1 := Scalar.cmpi .sgt v1 0#32
  let v15 : BitVec 1 := Scalar.andi v2 v11
  let v16 : BitVec 32 := Scalar.extui v15
  let v17 : BitVec 1 := Scalar.cmpi .ne v16 0#32
  if v17 = 1#1 then do
    let v23 : Vec F S1x1x1024x512 .f32 ← Prog.lift (.load arg6 (Rect.unit (s := S1x1x1024x512) ![0, 0, 0, 0] S1x1x1024x512.size inb_S1x1x1024x512_S1x1x1024x512_0_0_0_0).toLoadRect (View.loadsAt_vmem h_S1x1x1024x512))
    let v26 : Vec F S1024x512 .bf16 ← Prog.lift (.load arg11 (Rect.unit (s := S1024x512) ![0, 0] S1024x512.size inb_S1024x512_S1024x512_0_0).toLoadRect (View.loadsAt_vmem h_S1024x512))
    Prog.lift (.store arg11 (Rect.unit (s := S1024x512) ![0, 0] S1024x512.size inb_S1024x512_S1024x512_0_0) (k0_pay1 v23) Finset.univ (View.stores_vmem h_S1024x512 (harg11.storeExact_slice rfl _ packedbf16_S1024x512_S1024x512_0_0) (fun _ => rfl)) (.inl rfl))
    let v29 : Vec F S1x1x1024x512 .f32 ← Prog.lift (.load arg7 (Rect.unit (s := S1x1x1024x512) ![0, 0, 0, 0] S1x1x1024x512.size inb_S1x1x1024x512_S1x1x1024x512_0_0_0_0).toLoadRect (View.loadsAt_vmem h_S1x1x1024x512))
    let v32 : Vec F S1024x512 .bf16 ← Prog.lift (.load arg12 (Rect.unit (s := S1024x512) ![0, 0] S1024x512.size inb_S1024x512_S1024x512_0_0).toLoadRect (View.loadsAt_vmem h_S1024x512))
    Prog.lift (.store arg12 (Rect.unit (s := S1024x512) ![0, 0] S1024x512.size inb_S1024x512_S1024x512_0_0) (k0_pay2 v29) Finset.univ (View.stores_vmem h_S1024x512 (harg12.storeExact_slice rfl _ packedbf16_S1024x512_S1024x512_0_0) (fun _ => rfl)) (.inl rfl))
    let v35 : Vec F S1x1x512x1024 .f32 ← Prog.lift (.load arg8 (Rect.unit (s := S1x1x512x1024) ![0, 0, 0, 0] S1x1x512x1024.size inb_S1x1x512x1024_S1x1x512x1024_0_0_0_0).toLoadRect (View.loadsAt_vmem h_S1x1x512x1024))
    let v38 : Vec F S512x1024 .bf16 ← Prog.lift (.load arg13 (Rect.unit (s := S512x1024) ![0, 0] S512x1024.size inb_S512x1024_S512x1024_0_0).toLoadRect (View.loadsAt_vmem h_S512x1024))
    Prog.lift (.store arg13 (Rect.unit (s := S512x1024) ![0, 0] S512x1024.size inb_S512x1024_S512x1024_0_0) (k0_pay3 v35) Finset.univ (View.stores_vmem h_S512x1024 (harg13.storeExact_slice rfl _ packedbf16_S512x1024_S512x1024_0_0) (fun _ => rfl)) (.inl rfl))
    tailP i arg1 harg1 arg2 harg2 arg3 harg3 arg4 harg4 arg5 harg5 arg6 harg6 arg7 harg7 arg8 harg8 arg9 harg9 arg10 harg10 arg11 harg11 arg12 harg12 arg13 harg13 arg14 v1
  else
    tailP i arg1 harg1 arg2 harg2 arg3 harg3 arg4 harg4 arg5 harg5 arg6 harg6 arg7 harg7 arg8 harg8 arg9 harg9 arg10 harg10 arg11 harg11 arg12 harg12 arg13 harg13 arg14 v1

/-- The whole body. -/
def topP (i : grid0.Coords) (arg1 : Memref sig .tc .smem S608 .i32) (harg1 : arg1.IsWhole) (arg2 : Memref sig .tc .smem S608 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S73728x1024 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S256x1024 .f32) (harg9 : arg9.IsWhole) (arg10 : Memref sig .tc .vmem S2x256x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : DmaSems sig S2) :
    Prog (TpuEff nD τ sig (Elt F) Λ₀ .tc) PUnit := do
  let arg0 : BitVec 32 := BitVec.ofNat 32 (i 0).val
  let v1 : Elt F .i32 ← smemLoad arg2 (Rect.unit (s := S608) (k0_off2 i) S1.size (k0_off2_inb i)) numel1_S1 rfl
  let v3 : BitVec 1 := Scalar.cmpi .eq arg0 0#32
  let v5 : Elt F .i32 ← smemLoad arg1 (Rect.unit (s := S608) (k0_off2 i) S1.size (k0_off2_inb i)) numel1_S1 rfl
  let v9 : Elt F .i32 ← smemLoad arg1 (Rect.unit (s := S608) (k0_off3 i) S1.size (k0_off3_inb i)) numel1_S1 rfl
  let v10 : BitVec 1 := Scalar.cmpi .ne v5 v9
  let v11 : BitVec 1 := Scalar.ori v3 v10
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 k0_h1)
    midP i arg1 harg1 arg2 harg2 arg3 harg3 arg4 harg4 arg5 harg5 arg6 harg6 arg7 harg7 arg8 harg8 arg9 harg9 arg10 harg10 arg11 harg11 arg12 harg12 arg13 harg13 arg14 v1 v11
  else
    midP i arg1 harg1 arg2 harg2 arg3 harg3 arg4 harg4 arg5 harg5 arg6 harg6 arg7 harg7 arg8 harg8 arg9 harg9 arg10 harg10 arg11 harg11 arg12 harg12 arg13 harg13 arg14 v1 v11

theorem cc0_experts_eq : cc0_experts (F := F) = topP (F := F) := by
  rw [cc0_experts_eq_skeleton]; rfl

end Cert.KernelIdeal.Hand

end
-- ==== Proof.Body.lean ====
/- The body's parts run: the loads and stores of whole blocks, one block's rows waited for and read, the next block's
   issued, the block computed, and the drain where no block follows. -/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Ops

variable (c : Dev nD) {α : Type} {Q : α → sProp (MM F)}

/-- A memref owned whole at the values its view reads. -/
abbrev own {S : Shape} {e : EltTy} (m : Memref sig .tc .vmem S e) (d : S.Idx → Elt F e) : sProp (MM F) :=
  owns (Ix := Unit) (Name := ℕ) (U := Pipeline.UD sig nD τ) (Lvl := ℕ) (c : Thread nD τ) m fullShare d

theorem emb_all {S : Shape} {o : Fin S.rank → ℕ} (h : ∀ a, o a + S.size a ≤ S.size a) (x : S.Idx) :
    (Rect.unit (s := S) o S.size h).emb x = x := by
  funext a; apply Fin.ext
  have h0 : o a = 0 := by have := h a; omega
  show o a + 1 * (x a).val = (x a).val
  omega

theorem load_all {S : Shape} {e : EltTy} (m : Memref sig .tc .vmem S e) {o : Fin S.rank → ℕ} {h : ∀ a, o a + S.size a ≤ S.size a}
    {hl : m.view.LoadsAt (Rect.unit (s := S) o S.size h).toLoadRect} (d : S.Idx → Elt F e)
    {k : (S.Idx → Elt F e) → Prog (TpuEff nD τ sig (Elt F) Λ₀ .tc) α} :
    own c m d ⊢ iprop((own c m d -∗ wp frame (wpE (defs₀ (F := F)) Variants.none (c : Thread nD τ) none) Set.univ (k d) Q)
      -∗ wp frame (wpE (defs₀ (F := F)) Variants.none (c : Thread nD τ) none) Set.univ (Prog.lift (.load m (Rect.unit (s := S) o S.size h).toLoadRect hl) >>= k) Q) := by
  unfold own owns
  iintro ⟨%f, %hf, H⟩ Hk
  simp only [Prog.bind_lift]
  have e : (m.access (Rect.unit (s := S) o S.size h)).read (Elt F) f = d := by
    rw [← hf]; funext x
    show m.view.read (Elt F) f ((Rect.unit (s := S) o S.size h).emb x) = m.view.read (Elt F) f x
    rw [emb_all]
  have hrule := wp_load_rect (Γ := .empty) (defs := defs₀ (F := F)) (Ix := Unit) (Name := ℕ) (U := Pipeline.UD sig nD τ) (Lvl := ℕ) Variants.none (c : Thread nD τ) none Set.univ (Q := Q) (m := m) (r := Rect.unit (s := S) o S.size h) (hl := hl) (k := k) (f := f) (S := m.view.set) (q := fullShare)
    (View.set_slice_subset m.view _)
  rw [e] at hrule
  iapply hrule $$ H
  iintro H
  iapply Hk
  iexists f; isplitr
  · ipureintro; exact hf
  iexact H

theorem store_all {S : Shape} {e : EltTy} (m : Memref sig .tc .vmem S e) {o : Fin S.rank → ℕ} {h : ∀ a, o a + S.size a ≤ S.size a}
    {w : S.Idx → Elt F e} {hx : (m.access (Rect.unit (s := S) o S.size h)).Stores Finset.univ} {hm} (d : S.Idx → Elt F e)
    {k : PUnit → Prog (TpuEff nD τ sig (Elt F) Λ₀ .tc) α} :
    own c m d ⊢ iprop((own c m w -∗ wp frame (wpE (defs₀ (F := F)) Variants.none (c : Thread nD τ) none) Set.univ (k ⟨⟩) Q)
      -∗ wp frame (wpE (defs₀ (F := F)) Variants.none (c : Thread nD τ) none) Set.univ (Prog.lift (.store m (Rect.unit (s := S) o S.size h) w Finset.univ hx hm) >>= k) Q) := by
  unfold own owns
  iintro ⟨%f, %hf, H⟩ Hk
  simp only [Prog.bind_lift]
  have hrule := wp_store (Γ := .empty) (defs := defs₀ (F := F)) (Ix := Unit) (Name := ℕ) (U := Pipeline.UD sig nD τ) (Lvl := ℕ) Variants.none (c : Thread nD τ) none Set.univ (Q := Q) (m := m) (r := Rect.unit (s := S) o S.size h) (w := w) (hx := hx) (hm := hm) (k := k) (f := f) (S := m.view.set)
    (by exact View.set_slice_subset m.view _)
  iapply hrule $$ H
  iintro H
  iapply Hk
  iexists _; isplitr
  · ipureintro
    funext x
    have hw := congrFun (View.read_write_univ (v := (m.access (Rect.unit (s := S) o S.size h))) (Val := Elt F) f w) x
    refine Eq.trans ?_ hw
    show m.view.read (Elt F) _ x = m.view.read (Elt F) _ ((Rect.unit (s := S) o S.size h).emb x)
    rw [emb_all]
  iexact H

/-- The gathered block as the kernel loads it from its slot. -/
def xval (v : VC F) (q : Fin 256 → Fin 73728) : S1x256x1024.Idx → Elt F .f32 := fun x => v (ix2 (q (x 1)) (x 2))

theorem load_slot (v : VC F) (q : Fin 256 → Fin 73728) (s : ℕ) (hs : s < 2) {o : Fin 3 → ℕ} (eo : o = ![s, 0, 0]) {h : ∀ a, o a + S1x256x1024.size a ≤ S2x256x1024.size a}
    {hl : xbuf.view.LoadsAt (Rect.unit (s := S2x256x1024) o S1x256x1024.size h).toLoadRect}
    {k : (S1x256x1024.Idx → Elt F .f32) → Prog (TpuEff nD τ sig (Elt F) Λ₀ .tc) α} :
    slotPt c s (gath v q) ⊢ iprop((slotPt c s (gath v q) -∗ wp frame (wpE (defs₀ (F := F)) Variants.none (c : Thread nD τ) none) Set.univ (k (xval v q)) Q)
      -∗ wp frame (wpE (defs₀ (F := F)) Variants.none (c : Thread nD τ) none) Set.univ (Prog.lift (.load xbuf (Rect.unit (s := S2x256x1024) o S1x256x1024.size h).toLoadRect hl) >>= k) Q) := by
  subst eo
  have em : ∀ x : S1x256x1024.Idx, (Rect.unit (s := S2x256x1024) ![s, 0, 0] S1x256x1024.size h).emb x = ix3 (⟨s, hs⟩ : Fin 2) (x 1) (x 2) := by
    intro x; funext a; apply Fin.ext
    match a with
    | 0 => have h0 : (x 0).val < 1 := (x 0).isLt; show s + 1 * (x 0).val = s; omega
    | 1 => show 0 + 1 * (x 1).val = (x 1).val; omega
    | 2 => show 0 + 1 * (x 2).val = (x 2).val; omega
  have e : (xbuf.access (Rect.unit (s := S2x256x1024) ![s, 0, 0] S1x256x1024.size h)).read (Elt F) (gath v q) = xval v q := by
    funext x
    show gath v q ((Rect.unit (s := S2x256x1024) ![s, 0, 0] S1x256x1024.size h).emb x) = _
    rw [em]; rfl
  simp only [Prog.bind_lift]
  have hrule := wp_load_rect (Γ := .empty) (defs := defs₀ (F := F)) (Ix := Unit) (Name := ℕ) (U := Pipeline.UD sig nD τ) (Lvl := ℕ) Variants.none (c : Thread nD τ) none Set.univ (Q := Q) (m := xbuf) (r := Rect.unit (s := S2x256x1024) ![s, 0, 0] S1x256x1024.size h) (hl := hl) (k := k) (f := gath v q) (S := slotSet s) (q := fullShare)
    (by
      intro y hy
      obtain ⟨x, -, hx⟩ := Finset.mem_map.mp hy
      have hx' : (Rect.unit (s := S2x256x1024) ![s, 0, 0] S1x256x1024.size h).emb x = y := hx
      rw [em] at hx'
      rw [mem_slotSet, ← hx'])
  rw [e] at hrule
  exact hrule

end Ops

end Cert.KernelIdeal.Hand

end
-- ==== Proof.Tail.lean ====
/- One used point from its first wait on: the block's rows land, the next block's are issued, the block is computed, and
   where no block follows the next block's rows are drained. -/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Words and conditions -/

theorem word1_emb (n : ℕ) (hn : n < 608) {o : Fin 1 → ℕ} (eo : o = ![n]) (ho : ∀ a, o a + S1.size a ≤ S608.size a) (x : S1.Idx) :
    (Rect.unit (s := S608) o S1.size ho).emb x = ix1 (⟨n, hn⟩ : Fin 608) := by
  subst eo
  funext a; apply Fin.ext
  match a with
  | 0 => have h : (x 0).val < 1 := (x 0).isLt; show n + 1 * (x 0).val = n; omega

theorem coord_lt (i : grid0.Coords) : (i 0).val < 608 := (i 0).isLt

theorem flag_iff (a : BitVec 1) : Scalar.cmpi .ne (Scalar.extui a : BitVec 32) 0#32 = 1#1 ↔ a = 1#1 := by revert a; decide

theorem or_iff (a b : BitVec 1) : Scalar.ori a b = 1#1 ↔ a = 1#1 ∨ b = 1#1 := by revert a b; decide
theorem and_iff (a b : BitVec 1) : Scalar.andi a b = 1#1 ↔ a = 1#1 ∧ b = 1#1 := by revert a b; decide
theorem eq_iff (a b : BitVec 32) : Scalar.cmpi .eq a b = 1#1 ↔ a = b := by
  show BitVec.ofBool (a == b) = 1#1 ↔ _
  rw [← beq_iff_eq (a := a)]; generalize (a == b) = t; revert t; decide
theorem ne_iff (a b : BitVec 32) : Scalar.cmpi .ne a b = 1#1 ↔ a ≠ b := by
  show BitVec.ofBool (a != b) = 1#1 ↔ _
  rw [← bne_iff_ne]; generalize (a != b) = t; revert t; decide
theorem sgt_iff (a : BitVec 32) : Scalar.cmpi .sgt a 0#32 = 1#1 ↔ (0#32).slt a = true := by
  dsimp only [Scalar.cmpi, IntOp.cmpi]; cases h : (0#32).slt a <;> simp [h]
theorem ofNat_inj (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

theorem bOf_pair (n : ℕ) : (bOf n = 0 ∧ bOf (n + 1) = 1) ∨ (bOf n = 1 ∧ bOf (n + 1) = 0) := by unfold bOf; omega
theorem bOf_other (n : ℕ) : 1 - bOf n = bOf (n + 1) := by unfold bOf; omega

section States

variable (c : Dev nD)

/-- Nothing in flight. -/
abbrev Home (v : VC F) : sProp (MM F) := iprop(slotAny c 0 ∗ slotAny c 1 ∗ cell0 c 0 ∗ cell0 c 1 ∗ vWhole c v)
/-- Slot `s` filling with the rows `q`, the other slot and its cell at rest. -/
abbrev Fly (v : VC F) (q : Fin 256 → Fin 73728) (s : ℕ) : sProp (MM F) :=
  iprop(batch c v q s 256 0 ∗ kept c v q ∗ slotAny c (1 - s) ∗ cell0 c (1 - s))

theorem home_pair (v : VC F) (n : ℕ) :
    iprop(slotAny c (bOf n) ∗ slotAny c (bOf (n + 1)) ∗ cell0 c (bOf n) ∗ cell0 c (bOf (n + 1)) ∗ vWhole c v) ⊢ (Home c v : sProp (MM F)) := by
  rcases bOf_pair n with ⟨h0, h1⟩ | ⟨h0, h1⟩
  · rw [h0, h1]
  · rw [h0, h1]
    iintro ⟨Ha, Hb, Hc, Hd, Hv⟩
    isplitl [Hb]; · iexact Hb
    isplitl [Ha]; · iexact Ha
    isplitl [Hd]; · iexact Hd
    isplitl [Hc]; · iexact Hc
    iexact Hv

/-- A table as the body reads it. -/
abbrev tabE (t : S608.Idx → BitVec 32) : sProp (MM F) :=
  (Memref.whole main_arg2 : Memref sig .tc .smem S608 .i32).view.loc (c : Thread nD τ) ↦[(Memref.whole main_arg2 : Memref sig .tc .smem S608 .i32).view.set]{fullShare.right} t
abbrev tabU (t : S608.Idx → BitVec 32) : sProp (MM F) :=
  (Memref.whole main_arg3 : Memref sig .tc .smem S608 .i32).view.loc (c : Thread nD τ) ↦[(Memref.whole main_arg3 : Memref sig .tc .smem S608 .i32).view.set]{fullShare.right} t

end States

/-- The table word of a number. -/
def wordAt (t : S608.Idx → BitVec 32) (n : ℕ) : BitVec 32 := if h : n < 608 then t (ix1 ⟨n, h⟩) else 0#32

section Tail

variable (c : Dev nD) (v : VC F) (q q' : Fin 256 → Fin 73728) (i : grid0.Coords) (tU tE : S608.Idx → BitVec 32)
variable
  (arg3 : Memref sig .tc .smem S1x1x256 .i32) (harg3 : arg3.IsWhole) (arg4 : Memref sig .tc .smem S1x1x256 .i32) (harg4 : arg4.IsWhole)
  (arg6 : Memref sig .tc .vmem S1x1x1024x512 .f32) (harg6 : arg6.IsWhole) (arg7 : Memref sig .tc .vmem S1x1x1024x512 .f32) (harg7 : arg7.IsWhole)
  (arg8 : Memref sig .tc .vmem S1x1x512x1024 .f32) (harg8 : arg8.IsWhole) (arg9 : Memref sig .tc .vmem S256x1024 .f32) (harg9 : arg9.IsWhole)
  (arg11 : Memref sig .tc .vmem S1024x512 .bf16) (harg11 : arg11.IsWhole) (arg12 : Memref sig .tc .vmem S1024x512 .bf16) (harg12 : arg12.IsWhole)
  (arg13 : Memref sig .tc .vmem S512x1024 .bf16) (harg13 : arg13.IsWhole)
  {Q : PUnit → sProp (MM F)}

/-- No block follows: the last point, or the next one unused. -/
abbrev drains : Prop := (i 0).val = 607 ∨ wordAt tU (min ((i 0).val + 1) 607) = 0#32

/-- What a used point leaves of the row buffer: drained, or the next block's rows in flight. -/
def nextRes : sProp (MM F) :=
  if drains i tU then Home c v else Fly c v q' (bOf ((i 0).val + 1))

theorem end_used (v1 : BitVec 32) (h5 : ¬ k0_cond5 v1 = 1#1) :
    iprop(tabU c tU ∗ Fly c v q' (bOf ((i 0).val + 1)) ∗ (∃ W, owes (c : Thread nD τ) 0 W))
      ⊢ iprop((iprop(tabU c tU ∗ nextRes c v q' i tU ∗ (∃ W, owes (c : Thread nD τ) 0 W)) -∗ Q ⟨⟩)
        -∗ wp frame (wpE (defs₀ (F := F)) Variants.none (c : Thread nD τ) none) Set.univ
          (endP i (Memref.whole main_arg2) (Memref.isWhole_whole _) (Memref.whole main_arg3) (Memref.isWhole_whole _) arg3 harg3 arg4 harg4 varr (Memref.isWhole_whole _) arg6 harg6 arg7 harg7 arg8 harg8 arg9 harg9
            xbuf (Memref.isWhole_whole _) arg11 harg11 arg12 harg12 arg13 harg13 cc0_scratch4 v1) Q) := by
  have hi := coord_lt i
  unfold endP
  iintro ⟨Ht, HF, HO⟩ Hk
  iapply (load_word c (Memref.whole main_arg3) _ _ rfl tU) $$ Ht
  iintro Ht
  rw [word1_emb (min ((i 0).val + 1) 607) (by omega) (off25_eq i)]
  have hw : ((Memref.whole main_arg3 : Memref sig .tc .smem S608 .i32).view.read (Elt F) tU (ix1 (⟨min ((i 0).val + 1) 607, by omega⟩ : Fin 608)))
      = wordAt tU (min ((i 0).val + 1) 607) := by
    unfold wordAt; rw [dif_pos (by omega)]; rfl
  rw [hw]
  dsimp only
  by_cases hd : drains i tU
  · have hc : Scalar.cmpi .ne (Scalar.extui (Scalar.ori (Scalar.cmpi .eq (BitVec.ofNat 32 (i 0).val) 607#32)
        (Scalar.cmpi .eq (wordAt tU (min ((i 0).val + 1) 607)) 0#32)) : BitVec 32) 0#32 = 1#1 := by
      rw [flag_iff, or_iff, eq_iff, eq_iff]
      refine hd.imp (fun h => by rw [h]) id
    rw [if_pos hc, dif_neg h5]
    icases HF with ⟨HB, HK, HX, HC⟩
    iapply (wait_loop4 c v q' i (Memref.whole main_arg2) (Memref.isWhole_whole _) (Memref.whole main_arg3) (Memref.isWhole_whole _) arg3 harg3 arg4 harg4 arg6 harg6 arg7 harg7 arg8 harg8 arg9 harg9 arg11 harg11 arg12 harg12 arg13 harg13) $$ [HO HB]
    · isplitl [HO]; · iexact HO
      iexact HB
    iintro ⟨HO, HC', HD⟩
    rw [wp_pure]; imodintro
    iapply Hk
    isplitl [Ht]; · iexact Ht
    isplitr [HO]; swap; · iexact HO
    unfold nextRes; rw [if_pos hd]
    ihave HS := (finish c v q' (bOf ((i 0).val + 1))) $$ [HD HK]
    · isplitl [HD]; · iexact HD
      iexact HK
    icases HS with ⟨HX', HV⟩
    rw [bOf_other ((i 0).val + 1), show bOf ((i 0).val + 1 + 1) = bOf (i 0).val by unfold bOf; omega]
    iapply (home_pair c v (i 0).val)
    isplitl [HX]; · iexact HX
    isplitl [HX']; · iexists _; iexact HX'
    isplitl [HC]; · iexact HC
    isplitl [HC']; · iexact HC'
    iexact HV
  · have hc : ¬ Scalar.cmpi .ne (Scalar.extui (Scalar.ori (Scalar.cmpi .eq (BitVec.ofNat 32 (i 0).val) 607#32)
        (Scalar.cmpi .eq (wordAt tU (min ((i 0).val + 1) 607)) 0#32)) : BitVec 32) 0#32 = 1#1 := by
      rw [flag_iff, or_iff, eq_iff, eq_iff]
      rintro (h | h)
      · exact hd (Or.inl ((ofNat_inj _ _ (by omega) (by decide)).mp h))
      · exact hd (Or.inr h)
    rw [if_neg hc, dif_neg h5]
    rw [wp_pure]; imodintro
    iapply Hk
    isplitl [Ht]; · iexact Ht
    isplitr [HO]; swap; · iexact HO
    unfold nextRes; rw [if_neg hd]
    iexact HF

theorem tail_used (v1 : BitVec 32) (h3 : k0_cond3 v1 = 1#1) (h5 : ¬ k0_cond5 v1 = 1#1)
    (f : Buf (Elt F) (arg4.view.loc (c : Thread nD τ)))
    (hq : ∀ r : Fin 256, BitVec.toNat (arg4.view.read (Elt F) f (ix3 (0 : Fin 1) (0 : Fin 1) r)) = (q' r).val)
    (g1 g2 : S1024x512.Idx → Elt F .bf16) (g3 : S512x1024.Idx → Elt F .bf16) :
    iprop(tabU c tU ∗ (arg4.view.loc (c : Thread nD τ) ↦[arg4.view.set]{fullShare} f) ∗ (∃ d, own c arg9 d) ∗ own c arg11 g1 ∗ own c arg12 g2 ∗ own c arg13 g3
        ∗ Fly c v q (bOf (i 0).val) ∗ (∃ W, owes (c : Thread nD τ) 0 W))
      ⊢ iprop((iprop(tabU c tU ∗ (arg4.view.loc (c : Thread nD τ) ↦[arg4.view.set]{fullShare} f)
            ∗ own c arg9 (k0_pay4 (k0_pay6 (xval v q) g1 g2) g3) ∗ own c arg11 g1 ∗ own c arg12 g2 ∗ own c arg13 g3
            ∗ nextRes c v q' i tU ∗ (∃ W, owes (c : Thread nD τ) 0 W)) -∗ Q ⟨⟩)
        -∗ wp frame (wpE (defs₀ (F := F)) Variants.none (c : Thread nD τ) none) Set.univ
          (tailP i (Memref.whole main_arg2) (Memref.isWhole_whole _) (Memref.whole main_arg3) (Memref.isWhole_whole _) arg3 harg3 arg4 harg4 varr (Memref.isWhole_whole _) arg6 harg6 arg7 harg7 arg8 harg8 arg9 harg9
            xbuf (Memref.isWhole_whole _) arg11 harg11 arg12 harg12 arg13 harg13 cc0_scratch4 v1) Q) := by
  have hs : bOf (i 0).val < 2 := Nat.mod_lt _ (by decide)
  unfold tailP
  dsimp only
  rw [dif_pos h3, k0_part1_eq_skeleton]
  unfold k0_part1_skel
  dsimp only
  simp only [bind_assoc, pure_bind]
  iintro ⟨Ht, Hm, ⟨%d9, H9⟩, H11, H12, H13, ⟨HB, HK, HX, HC⟩, HO⟩ Hk
  iapply (wait_loop2 c v q i (Memref.whole main_arg2) (Memref.isWhole_whole _) (Memref.whole main_arg3) (Memref.isWhole_whole _) arg3 harg3 arg4 harg4 arg6 harg6 arg7 harg7 arg8 harg8 arg9 harg9 arg11 harg11 arg12 harg12 arg13 harg13 _ v1 h3) $$ [HO HB]
  · isplitl [HO]; · iexact HO
    iexact HB
  iintro ⟨HO, HC', HD⟩
  ihave HS := (finish c v q (bOf (i 0).val)) $$ [HD HK]
  · isplitl [HD]; · iexact HD
    iexact HK
  icases HS with ⟨HX', HV⟩
  iapply (load_slot c v q _ hs (off14_eq i)) $$ HX'
  iintro HX'
  rw [bOf_other]
  imod (start c v q' (bOf ((i 0).val + 1))) $$ [HX HC HV] with ⟨HB, HP, HK⟩
  · isplitl [HX]; · iexact HX
    isplitl [HC]; · iexact HC
    iexact HV
  iapply (issue_loop3 c v q' i (Memref.whole main_arg2) (Memref.isWhole_whole _) (Memref.whole main_arg3) (Memref.isWhole_whole _) arg3 harg3 arg4 harg4 arg6 harg6 arg7 harg7 arg8 harg8 arg9 harg9 arg11 harg11 arg12 harg12 arg13 harg13 _ v1 h3 f hq) $$ [Hm HB HP]
  · isplitl [Hm]; · iexact Hm
    isplitl [HB]; · iexact HB
    iexact HP
  iintro ⟨Hm, HB⟩
  iapply (load_all c arg11 g1) $$ H11
  iintro H11
  iapply (load_all c arg12 g2) $$ H12
  iintro H12
  iapply (load_all c arg13 g3) $$ H13
  iintro H13
  iapply (load_all c arg9 d9) $$ H9
  iintro H9
  iapply (store_all c arg9 d9) $$ H9
  iintro H9
  iapply (end_used c v q' i tU arg3 harg3 arg4 harg4 arg6 harg6 arg7 harg7 arg8 harg8 arg9 harg9 arg11 harg11 arg12 harg12 arg13 harg13 v1 h5) $$ [Ht HB HK HX' HC' HO]
  · isplitl [Ht]; · iexact Ht
    isplitr [HO]; swap; · iexact HO
    isplitl [HB]; · iexact HB
    isplitl [HK]; · iexact HK
    rw [bOf_other ((i 0).val + 1), show bOf ((i 0).val + 1 + 1) = bOf (i 0).val by unfold bOf; omega]
    isplitl [HX']; · iexists _; iexact HX'
    iexact HC'
  iintro ⟨Ht, HN, HO⟩
  iapply Hk
  isplitl [Ht]; · iexact Ht
  isplitl [Hm]; · iexact Hm
  isplitl [H9]; · iexact H9
  isplitl [H11]; · iexact H11
  isplitl [H12]; · iexact H12
  isplitl [H13]; · iexact H13
  isplitl [HN]; · iexact HN
  iexact HO

end Tail

end Cert.KernelIdeal.Hand

end
-- ==== Proof.Point.lean ====
/- One whole point: a used one, from the words it reads to the block it stores, and an unused one, which stores zeros. -/
module

public import proofs.«01_k».proof.Proof.Tail

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Point

variable (c : Dev nD) (v : VC F) (q q' : Fin 256 → Fin 73728) (i : grid0.Coords) (tU tE : S608.Idx → BitVec 32)
variable
  (arg3 : Memref sig .tc .smem S1x1x256 .i32) (harg3 : arg3.IsWhole) (arg4 : Memref sig .tc .smem S1x1x256 .i32) (harg4 : arg4.IsWhole)
  (arg6 : Memref sig .tc .vmem S1x1x1024x512 .f32) (harg6 : arg6.IsWhole) (arg7 : Memref sig .tc .vmem S1x1x1024x512 .f32) (harg7 : arg7.IsWhole)
  (arg8 : Memref sig .tc .vmem S1x1x512x1024 .f32) (harg8 : arg8.IsWhole) (arg9 : Memref sig .tc .vmem S256x1024 .f32) (harg9 : arg9.IsWhole)
  (arg11 : Memref sig .tc .vmem S1024x512 .bf16) (harg11 : arg11.IsWhole) (arg12 : Memref sig .tc .vmem S1024x512 .bf16) (harg12 : arg12.IsWhole)
  (arg13 : Memref sig .tc .vmem S512x1024 .bf16) (harg13 : arg13.IsWhole)
  {Q : PUnit → sProp (MM F)}

theorem mid_used (v1 : BitVec 32) (v11 : BitVec 1) (hu : (0#32).slt v1 = true)
    (f : Buf (Elt F) (arg4.view.loc (c : Thread nD τ)))
    (hq : ∀ r : Fin 256, BitVec.toNat (arg4.view.read (Elt F) f (ix3 (0 : Fin 1) (0 : Fin 1) r)) = (q' r).val)
    (w6 w7 : S1x1x1024x512.Idx → Elt F .f32) (w8 : S1x1x512x1024.Idx → Elt F .f32)
    (g1 g2 : S1024x512.Idx → Elt F .bf16) (g3 : S512x1024.Idx → Elt F .bf16)
    (hold : ¬ v11 = 1#1 → g1 = k0_pay1 w6 ∧ g2 = k0_pay2 w7 ∧ g3 = k0_pay3 w8) :
    iprop(tabU c tU ∗ (arg4.view.loc (c : Thread nD τ) ↦[arg4.view.set]{fullShare} f) ∗ own c arg6 w6 ∗ own c arg7 w7 ∗ own c arg8 w8 ∗ (∃ d, own c arg9 d)
        ∗ own c arg11 g1 ∗ own c arg12 g2 ∗ own c arg13 g3 ∗ Fly c v q (bOf (i 0).val) ∗ (∃ W, owes (c : Thread nD τ) 0 W))
      ⊢ iprop((iprop(tabU c tU ∗ (arg4.view.loc (c : Thread nD τ) ↦[arg4.view.set]{fullShare} f) ∗ own c arg6 w6 ∗ own c arg7 w7 ∗ own c arg8 w8
            ∗ own c arg9 (k0_pay4 (k0_pay6 (xval v q) (k0_pay1 w6) (k0_pay2 w7)) (k0_pay3 w8))
            ∗ own c arg11 (k0_pay1 w6) ∗ own c arg12 (k0_pay2 w7) ∗ own c arg13 (k0_pay3 w8)
            ∗ nextRes c v q' i tU ∗ (∃ W, owes (c : Thread nD τ) 0 W)) -∗ Q ⟨⟩)
        -∗ wp frame (wpE (defs₀ (F := F)) Variants.none (c : Thread nD τ) none) Set.univ
          (midP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) arg11 harg11 arg12 harg12 arg13 harg13 cc0_scratch4 v1 v11) Q) := by
  have h3 : k0_cond3 v1 = 1#1 := (cond3_iff v1).mpr hu
  have h5 : ¬ k0_cond5 v1 = 1#1 := fun h => (cond5_iff v1).mp h hu
  unfold midP
  dsimp only
  iintro ⟨Ht, Hm, H6, H7, H8, H9, H11, H12, H13, HF, HO⟩ Hk
  by_cases h11 : v11 = 1#1
  · rw [if_pos ((flag_iff _).mpr ((and_iff _ _).mpr ⟨(sgt_iff _).mpr hu, h11⟩))]
    iapply (load_all c arg6 w6) $$ H6
    iintro H6
    iapply (load_all c arg11 g1) $$ H11
    iintro H11
    iapply (store_all c arg11 g1) $$ H11
    iintro H11
    iapply (load_all c arg7 w7) $$ H7
    iintro H7
    iapply (load_all c arg12 g2) $$ H12
    iintro H12
    iapply (store_all c arg12 g2) $$ H12
    iintro H12
    iapply (load_all c arg8 w8) $$ H8
    iintro H8
    iapply (load_all c arg13 g3) $$ H13
    iintro H13
    iapply (store_all c arg13 g3) $$ H13
    iintro H13
    iapply (tail_used c v q q' i tU arg3 harg3 arg4 harg4 arg6 harg6 arg7 harg7 arg8 harg8 arg9 harg9 arg11 harg11 arg12 harg12 arg13 harg13 v1 h3 h5 f hq) $$ [Ht Hm H9 H11 H12 H13 HF HO]
    · isplitl [Ht]; · iexact Ht
      isplitl [Hm]; · iexact Hm
      isplitl [H9]; · iexact H9
      isplitl [H11]; · iexact H11
      isplitl [H12]; · iexact H12
      isplitl [H13]; · iexact H13
      isplitl [HF]; · iexact HF
      iexact HO
    iintro ⟨Ht, Hm, H9, H11, H12, H13, HN, HO⟩
    iapply Hk
    isplitl [Ht]; · iexact Ht
    isplitl [Hm]; · iexact Hm
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [HN]; · iexact HN
    iexact HO
  · rw [if_neg (fun h => h11 ((and_iff _ _).mp ((flag_iff _).mp h)).2)]
    obtain ⟨rfl, rfl, rfl⟩ := hold h11
    iapply (tail_used c v q q' i tU arg3 harg3 arg4 harg4 arg6 harg6 arg7 harg7 arg8 harg8 arg9 harg9 arg11 harg11 arg12 harg12 arg13 harg13 v1 h3 h5 f hq) $$ [Ht Hm H9 H11 H12 H13 HF HO]
    · isplitl [Ht]; · iexact Ht
      isplitl [Hm]; · iexact Hm
      isplitl [H9]; · iexact H9
      isplitl [H11]; · iexact H11
      isplitl [H12]; · iexact H12
      isplitl [H13]; · iexact H13
      isplitl [HF]; · iexact HF
      iexact HO
    iintro ⟨Ht, Hm, H9, H11, H12, H13, HN, HO⟩
    iapply Hk
    isplitl [Ht]; · iexact Ht
    isplitl [Hm]; · iexact Hm
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [HN]; · iexact HN
    iexact HO

theorem store_last {S : Shape} {e : EltTy} (m : Memref sig .tc .vmem S e) {o : Fin S.rank → ℕ} {h : ∀ a, o a + S.size a ≤ S.size a}
    {w : S.Idx → Elt F e} {hx : (m.access (Rect.unit (s := S) o S.size h)).Stores Finset.univ} {hm} (d : S.Idx → Elt F e) :
    own c m d ⊢ iprop((own c m w -∗ Q ⟨⟩)
      -∗ wp frame (wpE (defs₀ (F := F)) Variants.none (c : Thread nD τ) none) Set.univ (Prog.lift (.store m (Rect.unit (s := S) o S.size h) w Finset.univ hx hm)) Q) := by
  have e : (Prog.lift (.store m (Rect.unit (s := S) o S.size h) w Finset.univ hx hm) : Prog (TpuEff nD τ sig (Elt F) Λ₀ .tc) PUnit)
      = (Prog.lift (.store m (Rect.unit (s := S) o S.size h) w Finset.univ hx hm) >>= fun u => pure u) := (bind_pure _).symm
  rw [e]
  iintro H Hk
  iapply (store_all c m d) $$ H
  iintro H
  rw [wp_pure]; imodintro
  iapply Hk
  iexact H

theorem mid_unused (v1 : BitVec 32) (v11 : BitVec 1) (hu : ¬ (0#32).slt v1 = true) :
    (iprop(∃ d, own c arg9 d) : sProp (MM F))
      ⊢ iprop((own c arg9 (k0_pay5 (F := F)) -∗ Q ⟨⟩)
        -∗ wp frame (wpE (defs₀ (F := F)) Variants.none (c : Thread nD τ) none) Set.univ
          (midP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) arg11 harg11 arg12 harg12 arg13 harg13 cc0_scratch4 v1 v11) Q) := by
  have h3 : ¬ k0_cond3 v1 = 1#1 := fun h => hu ((cond3_iff v1).mp h)
  have h5 : k0_cond5 v1 = 1#1 := (cond5_iff v1).mpr hu
  unfold midP
  dsimp only
  rw [if_neg (fun h => hu ((sgt_iff _).mp ((and_iff _ _).mp ((flag_iff _).mp h)).1))]
  unfold tailP
  dsimp only
  rw [dif_neg h3, dif_pos h5]
  iintro ⟨%d9, H9⟩ Hk
  iapply (load_all c arg9 d9) $$ H9
  iintro H9
  iapply (store_last c arg9 d9) $$ H9
  iintro H9
  iapply Hk
  iexact H9

theorem wordE_at (n : ℕ) (hn : n < 608) (t : S608.Idx → BitVec 32) :
    (Memref.whole main_arg2 : Memref sig .tc .smem S608 .i32).view.read (Elt F) t (ix1 (⟨n, hn⟩ : Fin 608)) = wordAt t n := by
  unfold wordAt; rw [dif_pos hn]; rfl
theorem wordU_at (n : ℕ) (hn : n < 608) (t : S608.Idx → BitVec 32) :
    (Memref.whole main_arg3 : Memref sig .tc .smem S608 .i32).view.read (Elt F) t (ix1 (⟨n, hn⟩ : Fin 608)) = wordAt t n := by
  unfold wordAt; rw [dif_pos hn]; rfl

/-- The flag of a new expert. -/
theorem newExpert_iff : Scalar.ori (Scalar.cmpi .eq (BitVec.ofNat 32 (i 0).val) 0#32)
      (Scalar.cmpi .ne (wordAt tE (i 0).val) (wordAt tE ((i 0).val - 1))) = 1#1
    ↔ (i 0).val = 0 ∨ wordAt tE (i 0).val ≠ wordAt tE ((i 0).val - 1) := by
  have hi := coord_lt i
  rw [or_iff, eq_iff, ne_iff, ofNat_inj _ 0 (by omega) (by decide)]

theorem top_used (hu : (0#32).slt (wordAt tU (i 0).val) = true)
    (f3 : Buf (Elt F) (arg3.view.loc (c : Thread nD τ)))
    (hq3 : (i 0).val = 0 → ∀ r : Fin 256, BitVec.toNat (arg3.view.read (Elt F) f3 (ix3 (0 : Fin 1) (0 : Fin 1) r)) = (q r).val)
    (f : Buf (Elt F) (arg4.view.loc (c : Thread nD τ)))
    (hq : ∀ r : Fin 256, BitVec.toNat (arg4.view.read (Elt F) f (ix3 (0 : Fin 1) (0 : Fin 1) r)) = (q' r).val)
    (w6 w7 : S1x1x1024x512.Idx → Elt F .f32) (w8 : S1x1x512x1024.Idx → Elt F .f32)
    (g1 g2 : S1024x512.Idx → Elt F .bf16) (g3 : S512x1024.Idx → Elt F .bf16)
    (hold : (i 0).val ≠ 0 → wordAt tE (i 0).val = wordAt tE ((i 0).val - 1) → g1 = k0_pay1 w6 ∧ g2 = k0_pay2 w7 ∧ g3 = k0_pay3 w8) :
    iprop(tabE c tE ∗ tabU c tU ∗ (arg3.view.loc (c : Thread nD τ) ↦[arg3.view.set]{fullShare} f3) ∗ (arg4.view.loc (c : Thread nD τ) ↦[arg4.view.set]{fullShare} f)
        ∗ own c arg6 w6 ∗ own c arg7 w7 ∗ own c arg8 w8 ∗ (∃ d, own c arg9 d)
        ∗ own c arg11 g1 ∗ own c arg12 g2 ∗ own c arg13 g3 ∗ (if (i 0).val = 0 then Home c v else Fly c v q (bOf (i 0).val)) ∗ (∃ W, owes (c : Thread nD τ) 0 W))
      ⊢ iprop((iprop(tabE c tE ∗ tabU c tU ∗ (arg3.view.loc (c : Thread nD τ) ↦[arg3.view.set]{fullShare} f3) ∗ (arg4.view.loc (c : Thread nD τ) ↦[arg4.view.set]{fullShare} f)
            ∗ own c arg6 w6 ∗ own c arg7 w7 ∗ own c arg8 w8
            ∗ own c arg9 (k0_pay4 (k0_pay6 (xval v q) (k0_pay1 w6) (k0_pay2 w7)) (k0_pay3 w8))
            ∗ own c arg11 (k0_pay1 w6) ∗ own c arg12 (k0_pay2 w7) ∗ own c arg13 (k0_pay3 w8)
            ∗ nextRes c v q' i tU ∗ (∃ W, owes (c : Thread nD τ) 0 W)) -∗ Q ⟨⟩)
        -∗ wp frame (wpE (defs₀ (F := F)) Variants.none (c : Thread nD τ) none) Set.univ
          (topP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) arg11 harg11 arg12 harg12 arg13 harg13 cc0_scratch4) Q) := by
  have hi := coord_lt i
  unfold topP
  dsimp only
  by_cases h0 : (i 0).val = 0
  · rw [if_pos h0]
    iintro ⟨HE, Ht, Hm3, Hm, H6, H7, H8, H9, H11, H12, H13, HF, HO⟩ Hk
    iapply (load_word c (Memref.whole main_arg3) _ _ rfl tU) $$ Ht
    iintro Ht
    rw [word1_emb (i 0).val hi (off2_eq i), wordU_at]
    iapply (load_word c (Memref.whole main_arg2) _ _ rfl tE) $$ HE
    iintro HE
    rw [word1_emb (i 0).val hi (off2_eq i), wordE_at]
    iapply (load_word c (Memref.whole main_arg2) _ _ rfl tE) $$ HE
    iintro HE
    rw [word1_emb ((i 0).val - 1) (by omega) (off3_eq i), wordE_at]
    have h1 : k0_cond1 i = 1#1 := (cond1_iff i).mpr h0
    rw [dif_pos h1]
    icases HF with ⟨HX0, HX1, HC0, HC1, HV⟩
    imod (start c v q 0) $$ [HX0 HC0 HV] with ⟨HB, HP, HK⟩
    · isplitl [HX0]; · iexact HX0
      isplitl [HC0]; · iexact HC0
      iexact HV
    iapply (issue_loop1 c v q i (Memref.whole main_arg2) (Memref.isWhole_whole _) (Memref.whole main_arg3) (Memref.isWhole_whole _) arg3 harg3 arg4 harg4 arg6 harg6 arg7 harg7 arg8 harg8 arg9 harg9 arg11 harg11 arg12 harg12 arg13 harg13 h1 f3 (hq3 h0)) $$ [Hm3 HB HP]
    · isplitl [Hm3]; · iexact Hm3
      isplitl [HB]; · iexact HB
      iexact HP
    iintro ⟨Hm3, HB⟩
    iapply (mid_used c v q q' i tU arg3 harg3 arg4 harg4 arg6 harg6 arg7 harg7 arg8 harg8 arg9 harg9 arg11 harg11 arg12 harg12 arg13 harg13 _ _ hu f hq w6 w7 w8 g1 g2 g3 (fun h => absurd ((newExpert_iff i tE).mpr (Or.inl h0)) h)) $$ [Ht Hm H6 H7 H8 H9 H11 H12 H13 HB HK HX1 HC1 HO]
    · isplitl [Ht]; · iexact Ht
      isplitl [Hm]; · iexact Hm
      isplitl [H6]; · iexact H6
      isplitl [H7]; · iexact H7
      isplitl [H8]; · iexact H8
      isplitl [H9]; · iexact H9
      isplitl [H11]; · iexact H11
      isplitl [H12]; · iexact H12
      isplitl [H13]; · iexact H13
      isplitr [HO]; swap; · iexact HO
      rw [show bOf (i 0).val = 0 by rw [h0]]
      isplitl [HB]; · iexact HB
      isplitl [HK]; · iexact HK
      isplitl [HX1]; · iexact HX1
      iexact HC1
    iintro ⟨Ht, Hm, H6, H7, H8, H9, H11, H12, H13, HN, HO⟩
    iapply Hk
    isplitl [HE]; · iexact HE
    isplitl [Ht]; · iexact Ht
    isplitl [Hm3]; · iexact Hm3
    isplitl [Hm]; · iexact Hm
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [HN]; · iexact HN
    iexact HO
  · rw [if_neg h0]
    iintro ⟨HE, Ht, Hm3, Hm, H6, H7, H8, H9, H11, H12, H13, HF, HO⟩ Hk
    iapply (load_word c (Memref.whole main_arg3) _ _ rfl tU) $$ Ht
    iintro Ht
    rw [word1_emb (i 0).val hi (off2_eq i), wordU_at]
    iapply (load_word c (Memref.whole main_arg2) _ _ rfl tE) $$ HE
    iintro HE
    rw [word1_emb (i 0).val hi (off2_eq i), wordE_at]
    iapply (load_word c (Memref.whole main_arg2) _ _ rfl tE) $$ HE
    iintro HE
    rw [word1_emb ((i 0).val - 1) (by omega) (off3_eq i), wordE_at]
    have h1 : ¬ k0_cond1 i = 1#1 := fun h => h0 ((cond1_iff i).mp h)
    rw [dif_neg h1]
    iapply (mid_used c v q q' i tU arg3 harg3 arg4 harg4 arg6 harg6 arg7 harg7 arg8 harg8 arg9 harg9 arg11 harg11 arg12 harg12 arg13 harg13 _ _ hu f hq w6 w7 w8 g1 g2 g3 (fun h => hold h0 (by
      by_contra hne
      exact h ((newExpert_iff i tE).mpr (Or.inr hne))))) $$ [Ht Hm H6 H7 H8 H9 H11 H12 H13 HF HO]
    · isplitl [Ht]; · iexact Ht
      isplitl [Hm]; · iexact Hm
      isplitl [H6]; · iexact H6
      isplitl [H7]; · iexact H7
      isplitl [H8]; · iexact H8
      isplitl [H9]; · iexact H9
      isplitl [H11]; · iexact H11
      isplitl [H12]; · iexact H12
      isplitl [H13]; · iexact H13
      isplitl [HF]; · iexact HF
      iexact HO
    iintro ⟨Ht, Hm, H6, H7, H8, H9, H11, H12, H13, HN, HO⟩
    iapply Hk
    isplitl [HE]; · iexact HE
    isplitl [Ht]; · iexact Ht
    isplitl [Hm3]; · iexact Hm3
    isplitl [Hm]; · iexact Hm
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [HN]; · iexact HN
    iexact HO

theorem top_unused (h0 : (i 0).val ≠ 0) (hu : ¬ (0#32).slt (wordAt tU (i 0).val) = true) :
    iprop(tabE c tE ∗ tabU c tU ∗ (∃ d, own c arg9 d))
      ⊢ iprop((iprop(tabE c tE ∗ tabU c tU ∗ own c arg9 (k0_pay5 (F := F))) -∗ Q ⟨⟩)
        -∗ wp frame (wpE (defs₀ (F := F)) Variants.none (c : Thread nD τ) none) Set.univ
          (topP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) arg11 harg11 arg12 harg12 arg13 harg13 cc0_scratch4) Q) := by
  have hi := coord_lt i
  unfold topP
  dsimp only
  iintro ⟨HE, Ht, H9⟩ Hk
  iapply (load_word c (Memref.whole main_arg3) _ _ rfl tU) $$ Ht
  iintro Ht
  rw [word1_emb (i 0).val hi (off2_eq i), wordU_at]
  iapply (load_word c (Memref.whole main_arg2) _ _ rfl tE) $$ HE
  iintro HE
  iapply (load_word c (Memref.whole main_arg2) _ _ rfl tE) $$ HE
  iintro HE
  have h1 : ¬ k0_cond1 i = 1#1 := fun h => h0 ((cond1_iff i).mp h)
  rw [dif_neg h1]
  iapply (mid_unused c i arg3 harg3 arg4 harg4 arg6 harg6 arg7 harg7 arg8 harg8 arg9 harg9 arg11 harg11 arg12 harg12 arg13 harg13 _ _ hu) $$ H9
  iintro H9
  iapply Hk
  isplitl [HE]; · iexact HE
  isplitl [Ht]; · iexact Ht
  iexact H9

end Point

end Cert.KernelIdeal.Hand

end
-- ==== Proof.Tables.lean ====
/- What the launch memory holds, the tables the index maps read, and the blocks the windows name. -/
module

public import proofs.«01_k».proof.Proof.Point

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The launch memory. -/
abbrev Mem (F : FTy → Type) : Type := (ℓ : Loc nD τ sig) → Buf (Elt F) ℓ

section Args
variable (m : Mem F)

abbrev argV : S73728x1024.Idx → Elt F .f32 := m (((0 : Dev nD).tc : Thread nD τ).loc main_arg0)
abbrev argS : S608x1x256.Idx → BitVec 32 := m (((0 : Dev nD).tc : Thread nD τ).loc main_arg1)
abbrev argE : S608.Idx → BitVec 32 := m (((0 : Dev nD).tc : Thread nD τ).loc main_arg2)
abbrev argU : S608.Idx → BitVec 32 := m (((0 : Dev nD).tc : Thread nD τ).loc main_arg3)
abbrev argW1 : S4x32x1024x512.Idx → Elt F .f32 := m (((0 : Dev nD).tc : Thread nD τ).loc main_arg4)
abbrev argW3 : S4x32x1024x512.Idx → Elt F .f32 := m (((0 : Dev nD).tc : Thread nD τ).loc main_arg5)
abbrev argW2 : S4x32x512x1024.Idx → Elt F .f32 := m (((0 : Dev nD).tc : Thread nD τ).loc main_arg6)

/-- What the routing guarantees of the arguments: tokens and experts in range, the used blocks a prefix, the first used. -/
structure Routed : Prop where
  src : ∀ x, (argS m x).toNat < 73728
  exp : ∀ x, (argE m x).toNat < 32
  first : wordAt (argU m) 0 = 1#32
  used : ∀ n, n < 608 → wordAt (argU m) n = 0#32 ∨ wordAt (argU m) n = 1#32
  prefix_ : ∀ n, n + 1 < 608 → wordAt (argU m) (n + 1) = 1#32 → wordAt (argU m) n = 1#32

/-- Block `n` is used. -/
def Used (t : S608.Idx → BitVec 32) (n : ℕ) : Prop := (0#32).slt (wordAt t n) = true

instance (t : S608.Idx → BitVec 32) (n : ℕ) : Decidable (Used t n) := by unfold Used; infer_instance

/-- The block whose rows are issued at point `j`: the next one where it is used, else the same again. -/
def nxt (t : S608.Idx → BitVec 32) (j : ℕ) : ℕ := if Used t (min (j + 1) 607) then min (j + 1) 607 else j

/-- The token rows block `n` reads. -/
def rowsOf (n : ℕ) (r : Fin 256) : Fin 73728 :=
  if h : n < 608 ∧ (argS m (ix3 (⟨n % 608, Nat.mod_lt _ (by decide)⟩ : Fin 608) (0 : Fin 1) r)).toNat < 73728 then ⟨_, h.2⟩ else 0

/-- Expert `e`'s weight blocks, as a window stages them. -/
def blk1 (e : ℕ) : S1x1x1024x512.Idx → Elt F .f32 := fun x => argW1 m (ix4 (0 : Fin 4) (⟨e % 32, Nat.mod_lt _ (by decide)⟩ : Fin 32) (x 2) (x 3))
def blk3 (e : ℕ) : S1x1x1024x512.Idx → Elt F .f32 := fun x => argW3 m (ix4 (0 : Fin 4) (⟨e % 32, Nat.mod_lt _ (by decide)⟩ : Fin 32) (x 2) (x 3))
def blk2 (e : ℕ) : S1x1x512x1024.Idx → Elt F .f32 := fun x => argW2 m (ix4 (0 : Fin 4) (⟨e % 32, Nat.mod_lt _ (by decide)⟩ : Fin 32) (x 2) (x 3))

/-- The expert of block `n`. -/
def expOf (n : ℕ) : ℕ := (wordAt (argE m) n).toNat

/-- The block point `n` stores. -/
def outBlk (n : ℕ) : S256x1024.Idx → Elt F .f32 :=
  if Used (argU m) n then
    k0_pay4 (k0_pay6 (xval (argV m) (rowsOf m n)) (k0_pay1 (blk1 m (expOf m n))) (k0_pay2 (blk3 m (expOf m n)))) (k0_pay3 (blk2 m (expOf m n)))
  else k0_pay5

/-- The tables' contents. -/
def pf : pre0.Contents (Elt F) := fun k => m (((0 : Dev nD).tc : Thread nD τ).loc (pre0.ref k))

end Args

theorem used_iff {m : Mem F} (h : Routed m) {n : ℕ} (hn : n < 608) : Used (argU m) n ↔ wordAt (argU m) n = 1#32 := by
  unfold Used
  rcases h.used n hn with e | e <;> rw [e] <;> decide

theorem unused_iff {m : Mem F} (h : Routed m) {n : ℕ} (hn : n < 608) : ¬ Used (argU m) n ↔ wordAt (argU m) n = 0#32 := by
  unfold Used
  rcases h.used n hn with e | e <;> rw [e] <;> decide

theorem wordAt_exp {m : Mem F} (h : Routed m) (n : ℕ) : expOf m n < 32 := by
  unfold expOf wordAt
  split
  · exact h.exp _
  · decide

theorem rowsOf_val {m : Mem F} (h : Routed m) {n : ℕ} (hn : n < 608) (r : Fin 256) :
    (rowsOf m n r).val = (argS m (ix3 (⟨n, hn⟩ : Fin 608) (0 : Fin 1) r)).toNat := by
  unfold rowsOf
  have e : (⟨n % 608, Nat.mod_lt _ (by decide)⟩ : Fin 608) = ⟨n, hn⟩ := Fin.ext (Nat.mod_eq_of_lt hn)
  rw [dif_pos ⟨hn, h.src _⟩]
  show (argS m (ix3 _ (0 : Fin 1) r)).toNat = _
  rw [e]

theorem nxt_lt (t : S608.Idx → BitVec 32) {j : ℕ} (hj : j < 608) : nxt t j < 608 := by
  unfold nxt; split <;> omega

/-! ## The index maps -/

theorem at1 (t : S608.Idx → BitVec 32) (i : grid0.Coords) (h1 : S1.numel = 1) (ho : ∀ a, k0_off1 i a + S1.size a ≤ S608.size a) :
    t ((Rect.unit (s := S608) (k0_off1 i) S1.size ho).emb (Shape.Idx.first (h1.symm ▸ Nat.one_pos))) = wordAt t (min ((i 0).val + 1) 607) := by
  rw [word1_emb (min ((i 0).val + 1) 607) (by omega) (off1_eq i)]; unfold wordAt; rw [dif_pos (by omega)]

theorem at2 (t : S608.Idx → BitVec 32) (i : grid0.Coords) (h1 : S1.numel = 1) (ho : ∀ a, k0_off2 i a + S1.size a ≤ S608.size a) :
    t ((Rect.unit (s := S608) (k0_off2 i) S1.size ho).emb (Shape.Idx.first (h1.symm ▸ Nat.one_pos))) = wordAt t (i 0).val := by
  rw [word1_emb (i 0).val (coord_lt i) (off2_eq i)]; unfold wordAt; rw [dif_pos (coord_lt i)]

theorem ixm0 (i : grid0.Coords) : cc0_transform_0 i = ![(i 0).val, 0, 0] := by
  unfold cc0_transform_0
  dsimp only
  rw [BitVec.toNat_ofNat, Nat.mod_eq_of_lt (lt_trans (coord_lt i) (by decide))]; rfl

theorem ixm6 (i : grid0.Coords) : cc0_transform_6 i = ![(i 0).val, 0] := by
  unfold cc0_transform_6
  dsimp only
  rw [BitVec.toNat_ofNat, Nat.mod_eq_of_lt (lt_trans (coord_lt i) (by decide))]; rfl

theorem ixm1 (t : pre0.Contents (Elt F)) (i : grid0.Coords) :
    cc0_transform_1 k0_off1_inb numel1_S1 t i = ![nxt (t 1) (i 0).val, 0, 0] := by
  have hi := coord_lt i
  have e : cc0_transform_1 k0_off1_inb numel1_S1 t i = ![BitVec.toNat (Scalar.select
      (Scalar.cmpi .sgt (wordAt (t 1) (min ((i 0).val + 1) 607)) 0#32)
      (Scalar.minsi (Scalar.addi (BitVec.ofNat 32 (i 0).val) 1#32) 607#32) (BitVec.ofNat 32 (i 0).val)), 0, 0] := by
    rw [← at1 (t 1) i numel1_S1 (k0_off1_inb i)]; rfl
  have e2 : (Scalar.minsi (Scalar.addi (BitVec.ofNat 32 (i 0).val) 1#32) 607#32).toNat = min ((i 0).val + 1) 607 :=
    congrFun (off1_eq i) 0
  rw [e]
  unfold nxt
  by_cases hu : Used (t 1) (min ((i 0).val + 1) 607)
  · rw [if_pos hu, (sgt_iff _).mpr hu]
    rw [show Scalar.select (1#1) (Scalar.minsi (Scalar.addi (BitVec.ofNat 32 (i 0).val) 1#32) 607#32) (BitVec.ofNat 32 (i 0).val)
      = Scalar.minsi (Scalar.addi (BitVec.ofNat 32 (i 0).val) 1#32) 607#32 from rfl, e2]
  · have h0 : Scalar.cmpi .sgt (wordAt (t 1) (min ((i 0).val + 1) 607)) 0#32 = 0#1 :=
      (by decide : ∀ b : BitVec 1, ¬ b = 1#1 → b = 0#1) _ (fun h => hu ((sgt_iff _).mp h))
    rw [if_neg hu, h0]
    rw [show Scalar.select (0#1) (Scalar.minsi (Scalar.addi (BitVec.ofNat 32 (i 0).val) 1#32) 607#32) (BitVec.ofNat 32 (i 0).val)
      = BitVec.ofNat 32 (i 0).val from rfl, BitVec.toNat_ofNat, Nat.mod_eq_of_lt (lt_trans hi (by decide))]

theorem ixm3 (t : pre0.Contents (Elt F)) (i : grid0.Coords) :
    cc0_transform_3 k0_off2_inb numel1_S1 t i = ![0, (wordAt (t 0) (i 0).val).toNat, 0, 0] := by
  rw [← at2 (t 0) i numel1_S1 (k0_off2_inb i)]; rfl
theorem ixm4 (t : pre0.Contents (Elt F)) (i : grid0.Coords) :
    cc0_transform_4 k0_off2_inb numel1_S1 t i = ![0, (wordAt (t 0) (i 0).val).toNat, 0, 0] := by
  rw [← at2 (t 0) i numel1_S1 (k0_off2_inb i)]; rfl
theorem ixm5 (t : pre0.Contents (Elt F)) (i : grid0.Coords) :
    cc0_transform_5 k0_off2_inb numel1_S1 t i = ![0, (wordAt (t 0) (i 0).val).toNat, 0, 0] := by
  rw [← at2 (t 0) i numel1_S1 (k0_off2_inb i)]; rfl

theorem ok_of_routed {m : Mem F} (h : Routed m) : ok0 (pf m) := by
  have hE : ∀ i : grid0.Coords, (wordAt (pf m 0) (i 0).val).toNat < 32 := fun i => wordAt_exp h _
  refine ⟨fun i => ⟨?_, Or.inl rfl⟩, fun i => ⟨?_, Or.inl rfl⟩, fun i => ⟨?_, Or.inl rfl⟩, fun i => ⟨?_, Or.inl rfl⟩⟩
  · rw [ixm1]
    intro a
    have h2 := nxt_lt (pf m 1) (coord_lt i)
    match a with
    | 0 => show (nxt _ _ + 1) * 1 ≤ 608; omega
    | 1 => show (0 + 1) * 1 ≤ 1; omega
    | 2 => show (0 + 1) * 256 ≤ 256; omega
  · rw [ixm3]
    intro a
    have h2 := hE i
    match a with
    | 0 => show (0 + 1) * 1 ≤ 4; omega
    | 1 => show ((wordAt (pf m 0) (i 0).val).toNat + 1) * 1 ≤ 32; omega
    | 2 => show (0 + 1) * 1024 ≤ 1024; omega
    | 3 => show (0 + 1) * 512 ≤ 512; omega
  · rw [ixm4]
    intro a
    have h2 := hE i
    match a with
    | 0 => show (0 + 1) * 1 ≤ 4; omega
    | 1 => show ((wordAt (pf m 0) (i 0).val).toNat + 1) * 1 ≤ 32; omega
    | 2 => show (0 + 1) * 1024 ≤ 1024; omega
    | 3 => show (0 + 1) * 512 ≤ 512; omega
  · rw [ixm5]
    intro a
    have h2 := hE i
    match a with
    | 0 => show (0 + 1) * 1 ≤ 4; omega
    | 1 => show ((wordAt (pf m 0) (i 0).val).toNat + 1) * 1 ≤ 32; omega
    | 2 => show (0 + 1) * 512 ≤ 512; omega
    | 3 => show (0 + 1) * 1024 ≤ 1024; omega

/-- The pipeline pinned at the launch memory's tables. -/
abbrev admOf {m : Mem F} (h : Routed m) : (p : Fin 1) → (pcfgs (F := F) p).Adm := fun _ => ⟨pf m, ok_of_routed h⟩

end Cert.KernelIdeal.Hand

end
-- ==== Proof.Inv.lean ====
/- What holds between two points: the tables, the staged weights of the last used block, and the row buffer at rest or filling. -/
module

public import proofs.«01_k».proof.Proof.Tables

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three staged weight buffers. -/
abbrev sc1 : Memref sig .tc .vmem S1024x512 .bf16 := Memref.whole cc0_scratch1
abbrev sc2 : Memref sig .tc .vmem S1024x512 .bf16 := Memref.whole cc0_scratch2
abbrev sc3 : Memref sig .tc .vmem S512x1024 .bf16 := Memref.whole cc0_scratch3

section Inv
variable (m : Mem F) (c : Dev nD)

/-- The rows of block `n` are in flight before point `n`. -/
abbrev Flying (n : ℕ) : Prop := 0 < n ∧ n < 608 ∧ Used (argU m) n

/-- The row buffer, its semaphores and the token array before point `n`. -/
def ring (n : ℕ) : sProp (MM F) := if Flying m n then Fly c (argV m) (rowsOf m n) (bOf n) else Home c (argV m)

/-- The staged weights before point `n`: after a used block, its expert's. -/
def staged (n : ℕ) : sProp (MM F) :=
  iprop(∃ (g1 g2 : S1024x512.Idx → Elt F .bf16) (g3 : S512x1024.Idx → Elt F .bf16),
    ⌜0 < n → Used (argU m) (n - 1) → g1 = k0_pay1 (blk1 m (expOf m (n - 1))) ∧ g2 = k0_pay2 (blk3 m (expOf m (n - 1))) ∧ g3 = k0_pay3 (blk2 m (expOf m (n - 1)))⌝
    ∗ own c sc1 g1 ∗ own c sc2 g2 ∗ own c sc3 g3)

def inv (n : ℕ) : sProp (MM F) :=
  iprop(tabE c (argE m) ∗ tabU c (argU m) ∗ (∃ r, prngReg c r) ∗ staged m c n ∗ ring m c n)

end Inv

/-! ## The region's ends -/

abbrev osem0 : Fin 2 → SemLoc sig := ![SemLoc.dma 12, SemLoc.dma 13]
def H0 : Finset (Ref sig .tc) := {main_arg0}
theorem H0_sub : H0 ⊆ Pipeline.restRefsP sig pre0 spec0 := by decide
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp (MM F))
      = iprop(cell0 c 0 ∗ cell0 c 1) := by
  rw [Pipeline.ownSems0_eq_of_list c osem0 [0, 1] (by decide) (by decide)]; rfl

section Ends
variable (m : Mem F)

abbrev V0 (c : Dev nD) (b : Ref sig .tc) : Buf (Elt F) ((c.tc : Thread nD τ).loc b) := m ((c.tc : Thread nD τ).loc b)

theorem hbmPts0_eq (c : Dev nD) :
    (bigSep H0 (fun b => ((c : Thread nD τ).loc b) ↦{fullShare} V0 m c b) : sProp (MM F)) = vWhole c (V0 m c main_arg0) := by
  rw [BI.bigSep_eq_bigSepL_of_eq [main_arg0] (by decide) (by decide)]; rfl

theorem PhiD0_eq (c : Dev nD) :
    (Pipeline.ΦD osem0 spec0 H0 (V0 m) c : sProp (MM F))
      = iprop(iprop((∃ f, xWhole c f) ∗ (∃ d, own c sc1 d) ∗ (∃ d, own c sc2 d) ∗ (∃ d, own c sc3 d))
        ∗ (∃ r, prngReg c r) ∗ iprop(cell0 c 0 ∗ cell0 c 1) ∗ vWhole c (V0 m c main_arg0)) := by
  rw [Pipeline.ΦD_eq, scopedRest0_eq, ownSems00_eq, hbmPts0_eq]
  simp only [own, owns_whole]
  rfl

theorem PhiT0_eq (c : Dev nD) :
    (Pipeline.ΦT pre0 (pf m) c : sProp (MM F)) = iprop(tabE c (argE m) ∗ tabU c (argU m)) := by
  obtain rfl : c = 0 := Subsingleton.elim _ _
  unfold Pipeline.ΦT Pipeline.prefHeld
  rw [bigSep_univ_eq_bigSepL [(0 : Fin 2), (1 : Fin 2)] (by decide) (by decide)]
  have h2 : (Memref.whole main_arg2 : Memref sig .tc .smem S608 .i32).view.set = Finset.univ := View.set_whole _
  have h3 : (Memref.whole main_arg3 : Memref sig .tc .smem S608 .i32).view.set = Finset.univ := View.set_whole _
  unfold tabE tabU
  rw [h2, h3]; rfl

theorem ring_home {n : ℕ} (h : ¬ Flying m n) (c : Dev nD) : ring m c n = Home c (argV m) := if_neg h
theorem ring_fly {n : ℕ} (h : Flying m n) (c : Dev nD) : ring m c n = Fly c (argV m) (rowsOf m n) (bOf n) := if_pos h

theorem inv_enter (c : Dev nD) :
    iprop((Pipeline.ΦD osem0 spec0 H0 (V0 m) c : sProp (MM F)) ∗ Pipeline.ΦT pre0 (pf m) c) ⊢ inv m c 0 := by
  obtain rfl : c = 0 := Subsingleton.elim _ _
  rw [PhiD0_eq, PhiT0_eq]
  unfold inv staged
  rw [ring_home m (by rintro ⟨h, -⟩; exact absurd h (by decide))]
  iintro ⟨⟨⟨⟨%fx, HX⟩, ⟨%d1, H1⟩, ⟨%d2, H2⟩, ⟨%d3, H3⟩⟩, Hg, ⟨Hc0, Hc1⟩, HV⟩, HE, HU⟩
  isplitl [HE]; · iexact HE
  isplitl [HU]; · iexact HU
  isplitl [Hg]; · iexact Hg
  isplitl [H1 H2 H3]
  · iexists d1, d2, d3
    isplitr; · ipureintro; intro h; exact absurd h (by decide)
    isplitl [H1]; · iexact H1
    isplitl [H2]; · iexact H2
    iexact H3
  ihave HS := (x_slots 0 fx) $$ HX
  icases HS with ⟨HX0, HX1⟩
  isplitl [HX0]; · iexact HX0
  isplitl [HX1]; · iexact HX1
  isplitl [Hc0]; · iexact Hc0
  isplitl [Hc1]; · iexact Hc1
  iexact HV

theorem inv_leave (c : Dev nD) :
    (inv m c 608 : sProp (MM F)) ⊢ Pipeline.ΦD osem0 spec0 H0 (V0 m) c := by
  obtain rfl : c = 0 := Subsingleton.elim _ _
  rw [PhiD0_eq]
  unfold inv staged
  rw [ring_home m (by rintro ⟨-, h, -⟩; exact absurd h (by decide))]
  iintro ⟨HE, HU, Hg, ⟨%g1, %g2, %g3, -, H1, H2, H3⟩, ⟨HX0, HX1, Hc0, Hc1, HV⟩⟩
  isplitl [HX0 HX1 H1 H2 H3]
  · isplitl [HX0 HX1]
    · iapply (slots_x 0)
      isplitl [HX0]; · iexact HX0
      iexact HX1
    isplitl [H1]; · iexists _; iexact H1
    isplitl [H2]; · iexists _; iexact H2
    iexists _; iexact H3
  isplitl [Hg]; · iexact Hg
  isplitl [Hc0 Hc1]
  · isplitl [Hc0]; · iexact Hc0
    iexact Hc1
  iexact HV

end Ends

end Cert.KernelIdeal.Hand

end
-- ==== Proof.Step.lean ====
/- One point takes what holds before it to what holds after it, and stores its block. -/
module

public import proofs.«01_k».proof.Proof.Inv

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Step
variable {m : Mem F}

theorem entry_used (h : Routed m) (c : Dev nD) {j : ℕ} (hj : j < 608) (hu : Used (argU m) j) :
    ring m c j = (if j = 0 then Home c (argV m) else Fly c (argV m) (rowsOf m j) (bOf j)) := by
  by_cases h0 : j = 0
  · rw [if_pos h0, ring_home m (by rintro ⟨h1, -⟩; omega)]
  · rw [if_neg h0, ring_fly m ⟨by omega, hj, hu⟩]

theorem next_used (h : Routed m) (c : Dev nD) (i : grid0.Coords) :
    nextRes c (argV m) (rowsOf m (nxt (argU m) (i 0).val)) i (argU m) = ring m c ((i 0).val + 1) := by
  have hi := coord_lt i
  unfold nextRes
  by_cases hd : drains i (argU m)
  · rw [if_pos hd, ring_home]
    rintro ⟨-, h1, h2⟩
    rcases hd with hd | hd
    · omega
    · rw [show min ((i 0).val + 1) 607 = (i 0).val + 1 by omega] at hd
      exact (unused_iff h h1).mpr hd h2
  · have h7 : (i 0).val ≠ 607 := fun e => hd (Or.inl e)
    have hm : min ((i 0).val + 1) 607 = (i 0).val + 1 := by omega
    have hu : Used (argU m) ((i 0).val + 1) := by
      by_contra hn
      exact hd (Or.inr (by rw [hm]; exact (unused_iff h (by omega)).mp hn))
    rw [if_neg hd, ring_fly m ⟨by omega, by omega, hu⟩]
    unfold nxt
    rw [hm, if_pos hu]

abbrev ownS (c : Dev nD) {S : Shape} {e : EltTy} (M : Memref sig .tc .smem S e) (d : S.Idx → Elt F e) : sProp (MM F) :=
  owns (Ix := Unit) (Name := ℕ) (U := Pipeline.UD sig nD τ) (Lvl := ℕ) (c : Thread nD τ) M fullShare d

variable (c : Dev nD) (i : grid0.Coords)
  (arg3 : Memref sig .tc .smem S1x1x256 .i32) (harg3 : arg3.IsWhole) (arg4 : Memref sig .tc .smem S1x1x256 .i32) (harg4 : arg4.IsWhole)
  (arg6 : Memref sig .tc .vmem S1x1x1024x512 .f32) (harg6 : arg6.IsWhole) (arg7 : Memref sig .tc .vmem S1x1x1024x512 .f32) (harg7 : arg7.IsWhole)
  (arg8 : Memref sig .tc .vmem S1x1x512x1024 .f32) (harg8 : arg8.IsWhole) (arg9 : Memref sig .tc .vmem S256x1024 .f32) (harg9 : arg9.IsWhole)
  {Q : PUnit → sProp (MM F)}

theorem point_used (h : Routed m) (hu : Used (argU m) (i 0).val) (d3 d4 : S1x1x256.Idx → BitVec 32)
    (hd3 : ∀ r : Fin 256, (d3 (ix3 (0 : Fin 1) (0 : Fin 1) r)).toNat = (rowsOf m (i 0).val r).val)
    (hd4 : ∀ r : Fin 256, (d4 (ix3 (0 : Fin 1) (0 : Fin 1) r)).toNat = (rowsOf m (nxt (argU m) (i 0).val) r).val) :
    iprop(inv m c (i 0).val ∗ ownS c arg3 d3 ∗ ownS c arg4 d4 ∗ own c arg6 (blk1 m (expOf m (i 0).val)) ∗ own c arg7 (blk3 m (expOf m (i 0).val))
        ∗ own c arg8 (blk2 m (expOf m (i 0).val)) ∗ (∃ d, own c arg9 d) ∗ (∃ W, owes (c : Thread nD τ) 0 W))
      ⊢ iprop((iprop(inv m c ((i 0).val + 1) ∗ ownS c arg3 d3 ∗ ownS c arg4 d4 ∗ own c arg6 (blk1 m (expOf m (i 0).val)) ∗ own c arg7 (blk3 m (expOf m (i 0).val))
            ∗ own c arg8 (blk2 m (expOf m (i 0).val)) ∗ own c arg9 (outBlk m (i 0).val) ∗ (∃ W, owes (c : Thread nD τ) 0 W)) -∗ Q ⟨⟩)
        -∗ wp frame (wpE (defs₀ (F := F)) Variants.none (c : Thread nD τ) none) Set.univ (topP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) sc1 (Memref.isWhole_whole _) sc2 (Memref.isWhole_whole _) sc3 (Memref.isWhole_whole _) cc0_scratch4) Q) := by
  have hi := coord_lt i
  have ho : outBlk m (i 0).val = k0_pay4 (k0_pay6 (xval (argV m) (rowsOf m (i 0).val)) (k0_pay1 (blk1 m (expOf m (i 0).val))) (k0_pay2 (blk3 m (expOf m (i 0).val)))) (k0_pay3 (blk2 m (expOf m (i 0).val))) :=
    if_pos hu
  unfold inv staged
  rw [ho, entry_used h c hi hu, ← next_used h c i]
  unfold ownS owns
  iintro ⟨⟨HE, HU, Hg, ⟨%g1, %g2, %g3, %hg, H11, H12, H13⟩, HR⟩, ⟨%f3, %hf3, Hm3⟩, ⟨%f4, %hf4, Hm⟩, H6, H7, H8, H9, HO⟩ Hk
  have hold : (i 0).val ≠ 0 → wordAt (argE m) (i 0).val = wordAt (argE m) ((i 0).val - 1) →
      g1 = k0_pay1 (blk1 m (expOf m (i 0).val)) ∧ g2 = k0_pay2 (blk3 m (expOf m (i 0).val)) ∧ g3 = k0_pay3 (blk2 m (expOf m (i 0).val)) := by
    intro h0 he
    have hex : expOf m (i 0).val = expOf m ((i 0).val - 1) := congrArg BitVec.toNat he
    rw [hex]
    refine hg (by omega) ((used_iff h (by omega)).mpr (h.prefix_ _ (by omega) ?_))
    rw [show (i 0).val - 1 + 1 = (i 0).val by omega]
    exact (used_iff h hi).mp hu
  iapply (top_used c (argV m) (rowsOf m (i 0).val) (rowsOf m (nxt (argU m) (i 0).val)) i (argU m) (argE m) arg3 harg3 arg4 harg4 arg6 harg6 arg7 harg7 arg8 harg8 arg9 harg9 sc1 (Memref.isWhole_whole _) sc2 (Memref.isWhole_whole _) sc3 (Memref.isWhole_whole _) hu f3
    (fun _ r => by rw [hf3]; exact hd3 r) f4 (fun r => by rw [hf4]; exact hd4 r) (blk1 m (expOf m (i 0).val)) (blk3 m (expOf m (i 0).val)) (blk2 m (expOf m (i 0).val)) g1 g2 g3 hold)
    $$ [HE HU Hm3 Hm H6 H7 H8 H9 H11 H12 H13 HR HO]
  · isplitl [HE]; · iexact HE
    isplitl [HU]; · iexact HU
    isplitl [Hm3]; · iexact Hm3
    isplitl [Hm]; · iexact Hm
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [HR]; · iexact HR
    iexact HO
  iintro ⟨HE, HU, Hm3, Hm, H6, H7, H8, H9, H11, H12, H13, HR, HO⟩
  iapply Hk
  isplitl [HE HU Hg H11 H12 H13 HR]
  · isplitl [HE]; · iexact HE
    isplitl [HU]; · iexact HU
    isplitl [Hg]; · iexact Hg
    isplitl [H11 H12 H13]
    · iexists _, _, _
      isplitr; swap
      · isplitl [H11]; · iexact H11
        isplitl [H12]; · iexact H12
        iexact H13
      ipureintro; intro _ _; exact ⟨rfl, rfl, rfl⟩
    iexact HR
  isplitl [Hm3]
  · iexists _; isplitr; swap; · iexact Hm3
    ipureintro; exact hf3
  isplitl [Hm]
  · iexists _; isplitr; swap; · iexact Hm
    ipureintro; exact hf4
  isplitl [H6]; · iexact H6
  isplitl [H7]; · iexact H7
  isplitl [H8]; · iexact H8
  isplitl [H9]; · iexact H9
  iexact HO

theorem point_unused (h : Routed m) (hu : ¬ Used (argU m) (i 0).val) :
    iprop(inv m c (i 0).val ∗ (∃ d, own c arg9 d))
      ⊢ iprop((iprop(inv m c ((i 0).val + 1) ∗ own c arg9 (outBlk m (i 0).val)) -∗ Q ⟨⟩)
        -∗ wp frame (wpE (defs₀ (F := F)) Variants.none (c : Thread nD τ) none) Set.univ (topP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) sc1 (Memref.isWhole_whole _) sc2 (Memref.isWhole_whole _) sc3 (Memref.isWhole_whole _) cc0_scratch4) Q) := by
  have hi := coord_lt i
  have ho : outBlk m (i 0).val = k0_pay5 := if_neg hu
  have h0 : (i 0).val ≠ 0 := by
    intro e
    rw [e] at hu
    exact hu ((used_iff h (by decide)).mpr h.first)
  have hn : ¬ Flying m ((i 0).val + 1) := by
    rintro ⟨-, h1, h2⟩
    exact hu ((used_iff h hi).mpr (h.prefix_ _ h1 ((used_iff h h1).mp h2)))
  unfold inv staged
  rw [ho, ring_home m (fun e => hu e.2.2), ring_home m hn]
  iintro ⟨⟨HE, HU, Hg, ⟨%g1, %g2, %g3, %hg, H11, H12, H13⟩, HR⟩, H9⟩ Hk
  iapply (top_unused c i (argU m) (argE m) arg3 harg3 arg4 harg4 arg6 harg6 arg7 harg7 arg8 harg8 arg9 harg9 sc1 (Memref.isWhole_whole _) sc2 (Memref.isWhole_whole _) sc3 (Memref.isWhole_whole _) h0 hu) $$ [HE HU H9]
  · isplitl [HE]; · iexact HE
    isplitl [HU]; · iexact HU
    iexact H9
  iintro ⟨HE, HU, H9⟩
  iapply Hk
  isplitr [H9]; swap; · iexact H9
  isplitl [HE]; · iexact HE
  isplitl [HU]; · iexact HU
  isplitl [Hg]; · iexact Hg
  isplitl [H11 H12 H13]
  · iexists g1, g2, g3
    isplitr
    · ipureintro; intro _ hu'; exact absurd hu' hu
    isplitl [H11]; · iexact H11
    isplitl [H12]; · iexact H12
    iexact H13
  iexact HR

/-- One point, used or not. -/
theorem point (h : Routed m) (d3 d4 : S1x1x256.Idx → BitVec 32)
    (hd3 : ∀ r : Fin 256, (d3 (ix3 (0 : Fin 1) (0 : Fin 1) r)).toNat = (rowsOf m (i 0).val r).val)
    (hd4 : ∀ r : Fin 256, (d4 (ix3 (0 : Fin 1) (0 : Fin 1) r)).toNat = (rowsOf m (nxt (argU m) (i 0).val) r).val) :
    iprop(inv m c (i 0).val ∗ ownS c arg3 d3 ∗ ownS c arg4 d4 ∗ own c arg6 (blk1 m (expOf m (i 0).val)) ∗ own c arg7 (blk3 m (expOf m (i 0).val))
        ∗ own c arg8 (blk2 m (expOf m (i 0).val)) ∗ (∃ d, own c arg9 d) ∗ (∃ W, owes (c : Thread nD τ) 0 W))
      ⊢ iprop((iprop(inv m c ((i 0).val + 1) ∗ ownS c arg3 d3 ∗ ownS c arg4 d4 ∗ own c arg6 (blk1 m (expOf m (i 0).val)) ∗ own c arg7 (blk3 m (expOf m (i 0).val))
            ∗ own c arg8 (blk2 m (expOf m (i 0).val)) ∗ own c arg9 (outBlk m (i 0).val) ∗ (∃ W, owes (c : Thread nD τ) 0 W)) -∗ Q ⟨⟩)
        -∗ wp frame (wpE (defs₀ (F := F)) Variants.none (c : Thread nD τ) none) Set.univ (topP i (Memref.whole main_arg2) (Memref.isWhole_whole _) (Memref.whole main_arg3) (Memref.isWhole_whole _) arg3 harg3 arg4 harg4 varr (Memref.isWhole_whole _) arg6 harg6 arg7 harg7 arg8 harg8 arg9 harg9 xbuf (Memref.isWhole_whole _) sc1 (Memref.isWhole_whole _) sc2 (Memref.isWhole_whole _) sc3 (Memref.isWhole_whole _) cc0_scratch4) Q) := by
  by_cases hu : Used (argU m) (i 0).val
  · exact point_used c i arg3 harg3 arg4 harg4 arg6 harg6 arg7 harg7 arg8 harg8 arg9 harg9 h hu d3 d4 hd3 hd4
  · iintro ⟨HI, H3, H4, H6, H7, H8, H9, HO⟩ Hk
    iapply (point_unused c i arg3 harg3 arg4 harg4 arg6 harg6 arg7 harg7 arg8 harg8 arg9 harg9 h hu) $$ [HI H9]
    · isplitl [HI]; · iexact HI
      iexact H9
    iintro ⟨HI, H9⟩
    iapply Hk
    isplitl [HI]; · iexact HI
    isplitl [H3]; · iexact H3
    isplitl [H4]; · iexact H4
    isplitl [H6]; · iexact H6
    isplitl [H7]; · iexact H7
    isplitl [H8]; · iexact H8
    isplitl [H9]; · iexact H9
    iexact HO

end Step

end Cert.KernelIdeal.Hand

end
-- ==== Proof.Run.lean ====
/- The launch: the proof data, the body at every point, the run. -/
module

public import proofs.«01_k».proof.Proof.Step

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem coords_val (t : Fin grid0.N) : (grid0.coords t 0).val = t.val :=
  (by decide +kernel : ∀ t : Fin grid0.N, (grid0.coords t 0).val = t.val) t

section Run
variable {m : Mem F} (h : Routed m)

abbrev cfgOf : Pipeline.Cfg sig Λ₀ := cfg0 (F := F) (admOf h 0)

/-- What window `w` stages at point `t`: the array's block there. -/
def inBlk (c : Dev nD) (w : Fin 6) (t : Fin (cfgOf h).N) : ((cfgOf h).win w).block.Idx → Elt F ((cfgOf h).win w).elt :=
  (((cfgOf h).win w).blk t).view.read (Elt F) (V0 m c (Pipeline.arrRef spec0 w))

/-- What the buffers hold after the body: the inputs their blocks, the result the point's block. -/
def aft (c : Dev nD) (w : Fin 6) (t : Fin (cfgOf h).N) : ((cfgOf h).win w).block.Idx → Elt F ((cfgOf h).win w).elt :=
  match w with
  | ⟨0, _⟩ => inBlk h c 0 t
  | ⟨1, _⟩ => inBlk h c 1 t
  | ⟨2, _⟩ => inBlk h c 2 t
  | ⟨3, _⟩ => inBlk h c 3 t
  | ⟨4, _⟩ => inBlk h c 4 t
  | ⟨5, _⟩ => outBlk m t.val

/-- The proof data of the one pipeline. -/
def dats (_ : Fin 1) (c : Dev nD) : Pipeline.Dat τ (Elt F) Unit ℕ (Pipeline.UD sig nD τ) ℕ (cfgOf h) c where
  A w := V0 m c (Pipeline.arrRef spec0 w)
  after w t := aft h c w t
  Φ k := inv m c k.val
  q w := Pipeline.shareOf spec0 w
  owed _ := 0

theorem A_eq (c : Dev nD) (w : Fin 6) : (dats h 0 c).A w = V0 m c (Pipeline.arrRef spec0 w) := by dsimp only [dats]
theorem after_eq (c : Dev nD) (w : Fin 6) (t : Fin (cfgOf h).N) : (dats h 0 c).after w t = aft h c w t := by dsimp only [dats]

theorem idle_false (w : Fin 6) (i : grid0.Coords) : (cfgOf h).idle w i = false := by
  match w with
  | 0 => rfl
  | 1 => rfl
  | 2 => rfl
  | 3 => rfl
  | 4 => rfl
  | 5 =>
    show (!(k0_cond3 (Pipeline.Prefetch.Contents.atD (pf m) 1 (k0_off2 i)) == 1#1) && !(k0_cond5 (Pipeline.Prefetch.Contents.atD (pf m) 1 (k0_off2 i)) == 1#1)) = false
    generalize (Pipeline.Prefetch.Contents.atD (pf m) 1 (k0_off2 i)) = x
    by_cases hx : (0#32).slt x = true
    · rw [(cond3_iff x).mpr hx]; rfl
    · rw [(cond5_iff x).mpr hx, Bool.and_comm]; rfl

/-! ## The blocks, element by element -/

theorem emb_val (w : Fin 6) (t : Fin (cfgOf h).N) (y : (((cfgOf h).win w).xblock (grid0.coords t)).Idx) (a : Fin ((cfgOf h).win w).shape.rank) :
    ((((cfgOf h).win w).rect t).emb y a : ℕ) = ((cfgOf h).win w).index t a * ((cfgOf h).win w).size a + y a :=
  Pipeline.Window.rect_emb_val ((cfgOf h).win w) t y a (by match w with | 0 => rfl | 1 => rfl | 2 => rfl | 3 => rfl | 4 => rfl | 5 => rfl)

theorem index0 (t : Fin (cfgOf h).N) : ((cfgOf h).win 0).index t = (![t.val, 0, 0] : Fin 3 → ℕ) := by
  show cc0_transform_0 (grid0.coords t) = _
  rw [ixm0, coords_val]
theorem index1 (t : Fin (cfgOf h).N) : ((cfgOf h).win 1).index t = (![nxt (argU m) t.val, 0, 0] : Fin 3 → ℕ) := by
  show cc0_transform_1 k0_off1_inb numel1_S1 (pf m) (grid0.coords t) = _
  rw [ixm1, coords_val]; rfl
theorem index2 (t : Fin (cfgOf h).N) : ((cfgOf h).win 2).index t = (![0, expOf m t.val, 0, 0] : Fin 4 → ℕ) := by
  show cc0_transform_3 k0_off2_inb numel1_S1 (pf m) (grid0.coords t) = _
  rw [ixm3, coords_val]; rfl
theorem index3 (t : Fin (cfgOf h).N) : ((cfgOf h).win 3).index t = (![0, expOf m t.val, 0, 0] : Fin 4 → ℕ) := by
  show cc0_transform_4 k0_off2_inb numel1_S1 (pf m) (grid0.coords t) = _
  rw [ixm4, coords_val]; rfl
theorem index4 (t : Fin (cfgOf h).N) : ((cfgOf h).win 4).index t = (![0, expOf m t.val, 0, 0] : Fin 4 → ℕ) := by
  show cc0_transform_5 k0_off2_inb numel1_S1 (pf m) (grid0.coords t) = _
  rw [ixm5, coords_val]; rfl
theorem index5 (t : Fin (cfgOf h).N) : ((cfgOf h).win 5).index t = (![t.val, 0] : Fin 2 → ℕ) := by
  show cc0_transform_6 (grid0.coords t) = _
  rw [ixm6, coords_val]

theorem in0 (c : Dev nD) (t : Fin (cfgOf h).N) (r : Fin 256) :
    (inBlk h c 0 t (ix3 (0 : Fin 1) (0 : Fin 1) r) : BitVec 32).toNat = (rowsOf m t.val r).val := by
  obtain rfl : c = 0 := Subsingleton.elim _ _
  have ht : t.val < 608 := t.isLt
  rw [rowsOf_val h ht]
  refine congrArg BitVec.toNat (congrArg (argS m) ?_)
  funext a; apply Fin.ext
  refine (emb_val h 0 t (ix3 (0 : Fin 1) (0 : Fin 1) r) a).trans ?_
  rw [index0]
  match a with
  | 0 => show t.val * 1 + 0 = t.val; omega
  | 1 => rfl
  | 2 => show 0 * 256 + r.val = r.val; omega

theorem in1 (c : Dev nD) (t : Fin (cfgOf h).N) (r : Fin 256) :
    (inBlk h c 1 t (ix3 (0 : Fin 1) (0 : Fin 1) r) : BitVec 32).toNat = (rowsOf m (nxt (argU m) t.val) r).val := by
  obtain rfl : c = 0 := Subsingleton.elim _ _
  have ht : t.val < 608 := t.isLt
  rw [rowsOf_val h (nxt_lt (argU m) ht)]
  refine congrArg BitVec.toNat (congrArg (argS m) ?_)
  funext a; apply Fin.ext
  refine (emb_val h 1 t (ix3 (0 : Fin 1) (0 : Fin 1) r) a).trans ?_
  rw [index1]
  match a with
  | 0 => show nxt (argU m) t.val * 1 + 0 = nxt (argU m) t.val; omega
  | 1 => rfl
  | 2 => show 0 * 256 + r.val = r.val; omega

theorem in2 (c : Dev nD) (t : Fin (cfgOf h).N) : inBlk h c 2 t = blk1 m (expOf m t.val) := by
  obtain rfl : c = 0 := Subsingleton.elim _ _
  funext x
  refine congrArg (argW1 m) ?_
  funext a; apply Fin.ext
  refine (emb_val h 2 t x a).trans ?_
  rw [index2]
  have he := wordAt_exp h t.val
  match a with
  | 0 => have h0 : (x 0).val < 1 := (x 0).isLt; show 0 * 1 + (x 0).val = 0; omega
  | 1 => have h0 : (x 1).val < 1 := (x 1).isLt; show expOf m t.val * 1 + (x 1).val = expOf m t.val % 32; omega
  | 2 => show 0 * 1024 + (x 2).val = (x 2).val; omega
  | 3 => show 0 * 512 + (x 3).val = (x 3).val; omega

theorem in3 (c : Dev nD) (t : Fin (cfgOf h).N) : inBlk h c 3 t = blk3 m (expOf m t.val) := by
  obtain rfl : c = 0 := Subsingleton.elim _ _
  funext x
  refine congrArg (argW3 m) ?_
  funext a; apply Fin.ext
  refine (emb_val h 3 t x a).trans ?_
  rw [index3]
  have he := wordAt_exp h t.val
  match a with
  | 0 => have h0 : (x 0).val < 1 := (x 0).isLt; show 0 * 1 + (x 0).val = 0; omega
  | 1 => have h0 : (x 1).val < 1 := (x 1).isLt; show expOf m t.val * 1 + (x 1).val = expOf m t.val % 32; omega
  | 2 => show 0 * 1024 + (x 2).val = (x 2).val; omega
  | 3 => show 0 * 512 + (x 3).val = (x 3).val; omega

theorem in4 (c : Dev nD) (t : Fin (cfgOf h).N) : inBlk h c 4 t = blk2 m (expOf m t.val) := by
  obtain rfl : c = 0 := Subsingleton.elim _ _
  funext x
  refine congrArg (argW2 m) ?_
  funext a; apply Fin.ext
  refine (emb_val h 4 t x a).trans ?_
  rw [index4]
  have he := wordAt_exp h t.val
  match a with
  | 0 => have h0 : (x 0).val < 1 := (x 0).isLt; show 0 * 1 + (x 0).val = 0; omega
  | 1 => have h0 : (x 1).val < 1 := (x 1).isLt; show expOf m t.val * 1 + (x 1).val = expOf m t.val % 32; omega
  | 2 => show 0 * 512 + (x 2).val = (x 2).val; omega
  | 3 => show 0 * 1024 + (x 3).val = (x 3).val; omega

/-! ## What the body finds -/

theorem before_eq0 (c : Dev nD) (t : Fin (cfgOf h).N) (d) : (dats h 0 c).before 0 t d = inBlk h c 0 t :=
  (dats h 0 c).before_in_eq_fetched 0 rfl (idle_false h 0) (fun _ _ _ => rfl) (fun _ => rfl) t d
theorem before_eq1 (c : Dev nD) (t : Fin (cfgOf h).N) (d) : (dats h 0 c).before 1 t d = inBlk h c 1 t :=
  (dats h 0 c).before_in_eq_fetched 1 rfl (idle_false h 1) (fun _ _ _ => rfl) (fun _ => rfl) t d
theorem before_eq2 (c : Dev nD) (t : Fin (cfgOf h).N) (d) : (dats h 0 c).before 2 t d = inBlk h c 2 t :=
  (dats h 0 c).before_in_eq_fetched 2 rfl (idle_false h 2) (fun _ _ _ => rfl) (fun _ => rfl) t d
theorem before_eq3 (c : Dev nD) (t : Fin (cfgOf h).N) (d) : (dats h 0 c).before 3 t d = inBlk h c 3 t :=
  (dats h 0 c).before_in_eq_fetched 3 rfl (idle_false h 3) (fun _ _ _ => rfl) (fun _ => rfl) t d
theorem before_eq4 (c : Dev nD) (t : Fin (cfgOf h).N) (d) : (dats h 0 c).before 4 t d = inBlk h c 4 t :=
  (dats h 0 c).before_in_eq_fetched 4 rfl (idle_false h 4) (fun _ _ _ => rfl) (fun _ => rfl) t d

end Run

end Cert.KernelIdeal.Hand

end
-- ==== Proof.Frame.lean ====
/- The body at every point of the pipeline, the run of the whole call, and its frame. -/
module

public import proofs.«01_k».proof.Proof.Run

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Frame
variable {m : Mem F} (h : Routed m)

/-- The stage buffer of window `w` at point `t`. -/
abbrev stg (w : Fin 6) (t : Fin (cfgOf h).N) := ((cfgOf h).win w).stage ((cfgOf h).slots t w)

def found (c : Dev nD) (w : Fin 6) (t : Fin (cfgOf h).N) : sProp (MM F) :=
  iprop(∃ d, owns (Ix := Unit) (Name := ℕ) (U := Pipeline.UD sig nD τ) (Lvl := ℕ) (c : Thread nD τ) (stg h w t) fullShare ((dats h 0 c).before w t d))
def left (c : Dev nD) (w : Fin 6) (t : Fin (cfgOf h).N) : sProp (MM F) :=
  owns (Ix := Unit) (Name := ℕ) (U := Pipeline.UD sig nD τ) (Lvl := ℕ) (c : Thread nD τ) (stg h w t) fullShare ((dats h 0 c).after w t)

theorem found_0 (c : Dev nD) (t : Fin (cfgOf h).N) : found h c 0 t ⊢ owns (Ix := Unit) (Name := ℕ) (U := Pipeline.UD sig nD τ) (Lvl := ℕ) (c : Thread nD τ) (stg h 0 t) fullShare (inBlk h c 0 t) := by
  unfold found
  exact exists_elim fun d => Entails.of_eq (congrArg (fun X => owns (Ix := Unit) (Name := ℕ) (U := Pipeline.UD sig nD τ) (Lvl := ℕ) (c : Thread nD τ) (stg h 0 t) fullShare X) (before_eq0 h c t d))

theorem found_1 (c : Dev nD) (t : Fin (cfgOf h).N) : found h c 1 t ⊢ owns (Ix := Unit) (Name := ℕ) (U := Pipeline.UD sig nD τ) (Lvl := ℕ) (c : Thread nD τ) (stg h 1 t) fullShare (inBlk h c 1 t) := by
  unfold found
  exact exists_elim fun d => Entails.of_eq (congrArg (fun X => owns (Ix := Unit) (Name := ℕ) (U := Pipeline.UD sig nD τ) (Lvl := ℕ) (c : Thread nD τ) (stg h 1 t) fullShare X) (before_eq1 h c t d))

theorem found_2 (c : Dev nD) (t : Fin (cfgOf h).N) : found h c 2 t ⊢ owns (Ix := Unit) (Name := ℕ) (U := Pipeline.UD sig nD τ) (Lvl := ℕ) (c : Thread nD τ) (stg h 2 t) fullShare (inBlk h c 2 t) := by
  unfold found
  exact exists_elim fun d => Entails.of_eq (congrArg (fun X => owns (Ix := Unit) (Name := ℕ) (U := Pipeline.UD sig nD τ) (Lvl := ℕ) (c : Thread nD τ) (stg h 2 t) fullShare X) (before_eq2 h c t d))

theorem found_3 (c : Dev nD) (t : Fin (cfgOf h).N) : found h c 3 t ⊢ owns (Ix := Unit) (Name := ℕ) (U := Pipeline.UD sig nD τ) (Lvl := ℕ) (c : Thread nD τ) (stg h 3 t) fullShare (inBlk h c 3 t) := by
  unfold found
  exact exists_elim fun d => Entails.of_eq (congrArg (fun X => owns (Ix := Unit) (Name := ℕ) (U := Pipeline.UD sig nD τ) (Lvl := ℕ) (c : Thread nD τ) (stg h 3 t) fullShare X) (before_eq3 h c t d))

theorem found_4 (c : Dev nD) (t : Fin (cfgOf h).N) : found h c 4 t ⊢ owns (Ix := Unit) (Name := ℕ) (U := Pipeline.UD sig nD τ) (Lvl := ℕ) (c : Thread nD τ) (stg h 4 t) fullShare (inBlk h c 4 t) := by
  unfold found
  exact exists_elim fun d => Entails.of_eq (congrArg (fun X => owns (Ix := Unit) (Name := ℕ) (U := Pipeline.UD sig nD τ) (Lvl := ℕ) (c : Thread nD τ) (stg h 4 t) fullShare X) (before_eq4 h c t d))

def bodyPre (c : Dev nD) (t : Fin (cfgOf h).N) : sProp (MM F) :=
  iprop((dats h 0 c).Φ t.castSucc ∗ (dats h 0 c).owesAt () t.castSucc
    ∗ found h c 0 t ∗ found h c 1 t ∗ found h c 2 t ∗ found h c 3 t ∗ found h c 4 t ∗ found h c 5 t)
def bodyPost (c : Dev nD) (t : Fin (cfgOf h).N) : sProp (MM F) :=
  iprop((dats h 0 c).Φ t.succ ∗ (dats h 0 c).owesAt () t.succ
    ∗ left h c 0 t ∗ left h c 1 t ∗ left h c 2 t ∗ left h c 3 t ∗ left h c 4 t ∗ left h c 5 t)

/-- The kernel's body at a point, on the point's stage buffers. -/
def bodyAt (t : Fin (cfgOf h).N) : Prog (TpuEff nD τ sig (Elt F) Λ₀ .tc) PUnit :=
  topP (F := F) (grid0.coords t) (Memref.whole main_arg2) (Memref.isWhole_whole _) (Memref.whole main_arg3) (Memref.isWhole_whole _) (spec0_0.stage ((cfgOf h).slots t 0)) (hstage0_0 (((cfgOf h).slots t 0).cast nbuf0_0)) (spec0_1.stage ((cfgOf h).slots t 1)) (hstage0_1 (((cfgOf h).slots t 1).cast nbuf0_1)) (Memref.whole main_arg0) (Memref.isWhole_whole _) (spec0_2.stage ((cfgOf h).slots t 2)) (hstage0_2 (((cfgOf h).slots t 2).cast nbuf0_2)) (spec0_3.stage ((cfgOf h).slots t 3)) (hstage0_3 (((cfgOf h).slots t 3).cast nbuf0_3)) (spec0_4.stage ((cfgOf h).slots t 4)) (hstage0_4 (((cfgOf h).slots t 4).cast nbuf0_4)) (spec0_5.stage ((cfgOf h).slots t 5)) (hstage0_5 (((cfgOf h).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

theorem row_eq (t : Fin (cfgOf h).N) :
    defs₀ (F := F) .tc (cfgOf h).body ((cfgOf h).bodyArgs t ((cfgOf h).slots t)) = bodyAt h t := by
  unfold defs₀; rw [Defs.onTc_tc]
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_experts_eq _) _) _) _) _) _) _) _) _) _) _) _) _) _) _) _) _) _) _) _) _) _) _) _) _) _) _) _

theorem sound_body (c : Dev nD) (t : Fin (cfgOf h).N) :
    bodyPre h c t ⊢ wp frame (wpE (defs₀ (F := F)) Variants.none (c : Thread nD τ) none) Set.univ (bodyAt h t) (fun _ => bodyPost h c t) := by
  unfold bodyPre bodyPost bodyAt
  unfold Pipeline.Dat.owesAt Pipeline.owesWithin
  rw [show (dats h 0 c).owed t.castSucc = 0 from rfl, show (dats h 0 c).owed t.succ = 0 from rfl]
  rw [show (dats h 0 c).Φ t.castSucc = inv m c t.val from rfl, show (dats h 0 c).Φ t.succ = inv m c (t.val + 1) from rfl]
  unfold left
  rw [after_eq, after_eq, after_eq, after_eq, after_eq, after_eq]
  have hp := fun (Q : PUnit → sProp (MM F)) => point (Q := Q) c (grid0.coords t) (spec0_0.stage ((cfgOf h).slots t 0)) (hstage0_0 (((cfgOf h).slots t 0).cast nbuf0_0)) (spec0_1.stage ((cfgOf h).slots t 1)) (hstage0_1 (((cfgOf h).slots t 1).cast nbuf0_1)) (spec0_2.stage ((cfgOf h).slots t 2)) (hstage0_2 (((cfgOf h).slots t 2).cast nbuf0_2)) (spec0_3.stage ((cfgOf h).slots t 3)) (hstage0_3 (((cfgOf h).slots t 3).cast nbuf0_3)) (spec0_4.stage ((cfgOf h).slots t 4)) (hstage0_4 (((cfgOf h).slots t 4).cast nbuf0_4)) (spec0_5.stage ((cfgOf h).slots t 5)) (hstage0_5 (((cfgOf h).slots t 5).cast nbuf0_5)) h
    (inBlk h c 0 t) (inBlk h c 1 t) (by rw [coords_val]; exact in0 h c t) (by rw [coords_val]; exact in1 h c t)
  rw [coords_val] at hp
  rw [← in2 h c t, ← in3 h c t, ← in4 h c t] at hp
  iintro ⟨HI, ⟨%W, -, HW⟩, H0, H1, H2, H3, H4, H5⟩
  iapply (hp _) $$ [HI HW H0 H1 H2 H3 H4 H5]
  · isplitl [HI]; · iexact HI
    isplitl [H0]; · iapply (found_0 h c t); iexact H0
    isplitl [H1]; · iapply (found_1 h c t); iexact H1
    isplitl [H2]; · iapply (found_2 h c t); iexact H2
    isplitl [H3]; · iapply (found_3 h c t); iexact H3
    isplitl [H4]; · iapply (found_4 h c t); iexact H4
    isplitl [H5]
    · unfold found; icases H5 with ⟨%d5, H5⟩; iexists _; iexact H5
    iexists W; iexact HW
  iintro ⟨HI, H0, H1, H2, H3, H4, H5, ⟨%W', HW'⟩⟩
  isplitl [HI]; · iexact HI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem body_obligation (c : Dev nD) : Pipeline.BodyObligation (dats h 0 c) (defs₀ (F := F)) Variants.none () Set.univ := fun t => by
  rw [bigSep_W0, bigSep_W0, row_eq]
  refine triple_restated (sound_body h c t) rfl .rfl fun _ => ?_
  refine sep_mono .rfl (sep_mono .rfl (sep_mono .rfl (sep_mono .rfl (sep_mono .rfl (sep_mono .rfl (sep_mono .rfl ?_))))))
  unfold left
  have h5 : idle0 (pf m) 5 ((pcfg0.gridAt (pf m)).coords t) = false := idle_false h 5 (grid0.coords t)
  dsimp only
  rw [h5]

set_option backward.isDefEq.respectTransparency.types false in
theorem run_main (ρ : Dev nD → PrngReg) : θ_run defs (onTc (τ := τ) (main (F := F))) (s₀ m ρ)
    (fun r => Pipeline.FramePost (Pipeline.pin pcfgs (admOf h)) (dats h) 0 (V0 m) r ∧ r.2.sem = fun _ => 0) :=
  Pipeline.θ_run_frameP_dma_shared (Q' := _) pcfgs (admOf h) (dats h) (0 : Fin 1) launch₀0 osem0 defs₀ Variants.none ownSemFacts0 H0 H0_sub m ρ main
    (hbody := fun c => (body_obligation h c).loose) (hq := fun _ _ _ => rfl) (howed := fun _ _ => rfl) (V := V0 m)
    (hmain := Pipeline.hmainP_region pcfgs 0 defs₀ Variants.none m main fun c => (main_chain c).trans rfl) (hA := fun c w => A_eq h c w)
    (hpf := fun c k => by obtain rfl : c = 0 := Subsingleton.elim _ _; match k with | 0 => rfl | 1 => rfl)
    (hin := fun c => inv_enter m c) (hout := fun c => inv_leave m c)

end Frame

end Cert.KernelIdeal.Hand

end
-- ==== Proof.Pre.lean ====
/- The stated precondition read as the properties of the tables the run uses; the frame. -/
module

public import proofs.«01_k».proof.Proof.Frame
public import proofs.«01_k».proof.Proof.Gen.Pre_routed
public import Idealize.ShloMosaic.Lib.StableHlo.Predicate

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.StableHlo.Predicate

/-! ## Words in range -/

theorem nonneg_of (x : BitVec 32) (e : IntOp.cmpi .sge x 0#32 = 1#1) : x.toNat < 2 ^ 31 := by
  have hx := x.isLt
  have e' : (0#32).sle x = true := by cases hb : (0#32).sle x with | true => rfl | false => exact absurd e (by show BitVec.ofBool ((0#32).sle x) ≠ 1#1; rw [hb]; decide)
  have e2 : (0#32).toInt ≤ x.toInt := of_decide_eq_true e'
  rw [show (0#32).toInt = 0 from rfl] at e2
  unfold BitVec.toInt at e2
  split at e2 <;> omega

theorem range_of (x : BitVec 32) (k : ℕ) (hk : k < 2 ^ 31) (e : IntOp.andi (IntOp.cmpi .sge x 0#32) (IntOp.cmpi .slt x (BitVec.ofNat 32 k)) = 1#1) : x.toNat < k := by
  obtain ⟨e1, e2⟩ := (and_iff _ _).mp e
  have h1 : x.toNat < 2 ^ 31 := nonneg_of x e1
  have h2 : (BitVec.ofNat 32 k).toNat = k := by rw [BitVec.toNat_ofNat]; omega
  have := (slt_iff_toNat h1 (by rw [h2]; exact hk)).mp e2
  rwa [h2] at this

/-- The precondition, read on the tables. -/
theorem routed_of {m : Mem F}
    (hp : (Cert.Pre_routed.fn (F := F) (argV m) (argS m) (argE m) (argU m) (argW1 m) (argW3 m) (argW2 m)).1 = (fun _ => 1#1)
      ∧ (Cert.Pre_routed.fn (F := F) (argV m) (argS m) (argE m) (argU m) (argW1 m) (argW3 m) (argW2 m)).2.1 = (fun _ => 1#1)
      ∧ (Cert.Pre_routed.fn (F := F) (argV m) (argS m) (argE m) (argU m) (argW1 m) (argW3 m) (argW2 m)).2.2.1 = (fun _ => 1#1)
      ∧ (Cert.Pre_routed.fn (F := F) (argV m) (argS m) (argE m) (argU m) (argW1 m) (argW3 m) (argW2 m)).2.2.2.1 = (fun _ => 1#1)
      ∧ (Cert.Pre_routed.fn (F := F) (argV m) (argS m) (argE m) (argU m) (argW1 m) (argW3 m) (argW2 m)).2.2.2.2 = (fun _ => 1#1)) : Routed m := by
  obtain ⟨h1, h2, h3, h4, h5⟩ := hp
  have hU : ∀ n (h : n < 608), (argU m (ix1 ⟨n, h⟩)).toNat < 2 ^ 31 := fun n h => nonneg_of _ (congrFun h3 (ix1 ⟨n, h⟩))
  have h0 : wordAt (argU m) 0 = 1#32 := by
    have e := congrFun h4 (ix1 (0 : Fin 1))
    have e' := cmpi_eq_iff.mp e
    unfold wordAt; rw [dif_pos (by decide)]
    refine (congrArg (argU m) ?_).trans e'
    funext a; match a with | 0 => rfl
  have hstep : ∀ n, n + 1 < 608 → (wordAt (argU m) (n + 1)).toNat ≤ (wordAt (argU m) n).toNat := fun n hn => by
    have e := congrFun h5 (ix1 (⟨n, by omega⟩ : Fin 607))
    have e1 : IntOp.cmpi .sle (argU m (ix1 ⟨n + 1, hn⟩)) (argU m (ix1 ⟨n, by omega⟩)) = 1#1 := by
      refine Eq.trans ?_ e
      refine congrArg₂ (IntOp.cmpi .sle) (congrArg (argU m) ?_) (congrArg (argU m) ?_)
      · funext a; match a with | 0 => exact Fin.ext (Nat.add_comm n 1)
      · funext a; match a with | 0 => exact Fin.ext (Nat.zero_add n).symm
    unfold wordAt; rw [dif_pos hn, dif_pos (by omega)]
    exact (sle_iff_toNat (hU _ _) (hU _ _)).mp e1
  have hle : ∀ n, n < 608 → (wordAt (argU m) n).toNat ≤ 1 := by
    intro n
    induction n with
    | zero => intro _; rw [h0]; decide
    | succ n ih => intro h; exact le_trans (hstep n h) (ih (by omega))
  have hb : ∀ n, n < 608 → wordAt (argU m) n = 0#32 ∨ wordAt (argU m) n = 1#32 := fun n h => by
    have := hle n h
    rcases (by omega : (wordAt (argU m) n).toNat = 0 ∨ (wordAt (argU m) n).toNat = 1) with h | h
    · exact .inl (BitVec.eq_of_toNat_eq h)
    · exact .inr (BitVec.eq_of_toNat_eq h)
  exact
    { src := fun x => range_of _ 73728 (by norm_num) (congrFun h1 x)
      exp := fun x => range_of _ 32 (by norm_num) (congrFun h2 x)
      first := h0
      used := hb
      prefix_ := fun n hn h => by
        rcases hb n (by omega) with h' | h'
        · have := hstep n hn; rw [h, h'] at this; exact absurd this (by decide)
        · exact h' }

/-! ## The frame -/

section Frame
variable {m : Mem F} (h : Routed m)

theorem args_of (r : PUnit × MemSt nD τ sig (Elt F)) (hr : Pipeline.FramePost (Pipeline.pin pcfgs (admOf h)) (dats h) 0 (V0 m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  have hw : ∀ w : Fin 6, ((cfgOf h).win w).isOut = false → r.2.mem (((cfgOf h).win w).arr.view.loc (c.tc : Thread nD τ)) = V0 m c (Pipeline.arrRef spec0 w) :=
    fun w hi => ((hr c).1 w).trans (((dats h 0 c).arrAt_in w hi _).trans (A_eq h c w))
  exact ⟨(hr c).2 main_arg0 (Pipeline.mem_restRefs_of (win := spec0) main_arg0 (by decide) (by decide)), hw 0 rfl,
    (hr c).2 main_arg2 (Pipeline.mem_restRefs_of (win := spec0) main_arg2 (by decide) (by decide)),
    (hr c).2 main_arg3 (Pipeline.mem_restRefs_of (win := spec0) main_arg3 (by decide) (by decide)), hw 2 rfl, hw 3 rfl, hw 4 rfl⟩

include h in
theorem frame_run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r hr => ⟨args_of h r hr.1, hr.2⟩) (run_main h ρ)

end Frame

end Cert.KernelIdeal.Hand

end
-- ==== Proof.Ref.lean ====
/- The reference's run: @main's line of host operations, what its result holds of the arguments, and its frame. -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- @main's operations in order, its two calls unfolded. -/
abbrev ops : List (HloOp τ sig (Elt F)) :=
  unary main_arg3 main_v0 (broadcastInDim S608x1 ![0] bcast_S608_S608x1_0) ::
  nullary main_c (constantI S_ 32 0#32) ::
  unary main_c main_v1 (broadcastInDim S608x1 ![] bcast_S_S608x1) ::
  binary main_v0 main_v1 main_v2 (cmpi .sgt) ::
  reshape main_arg1 main_v3 rfl shapeCasts_S608x1x256_S608x256 ::
  nullary main_c_0 (constantI S_ 32 73728#32) ::
  TRef.unary (.of main_c_0 : TRef sig ⟨S_, .i32⟩) main_call0.v0 id ::
  TRef.unary (.of main_v2 : TRef sig ⟨S608x1, .i1⟩) main_call0.v1 (broadcastInDim S608x256 ![0, 1] bcast_S608x1_S608x256_0_1) ::
  TRef.unary main_call0.v0 main_call0.v2 (broadcastInDim S608x256 ![] bcast_S_S608x256) ::
  TRef.ternary main_call0.v1 (.of main_v3 : TRef sig ⟨S608x256, .i32⟩) main_call0.v2 main_call0.v3 select ::
  nullary main_cst (constant S_ .f32 0x00000000#32) ::
  unary main_cst main_v5 (broadcastInDim S1x1024 ![] bcast_S_S1x1024) ::
  binary main_arg0 main_v5 main_v6 (fun a b => concatenate S73729x1024 0 [⟨S73728x1024, a⟩, ⟨S1x1024, b⟩] concatenates_S73728x1024_S1x1024_S73729x1024_d0) ::
  unary main_arg4 main_v7 (extractStridedSlice S1x32x1024x512 ![0, 0, 0, 0] · slices_S4x32x1024x512_S1x32x1024x512_0_0_0_0) ::
  reshape main_v7 main_v8 rfl shapeCasts_S1x32x1024x512_S32x1024x512 ::
  nullary main_c_1 (constantI S_ 32 0#32) ::
  unary main_c_1 main_v9 (broadcastInDim S608 ![] bcast_S_S608) ::
  binary main_arg2 main_v9 main_v10 (cmpi .slt) ::
  nullary main_c_2 (constantI S_ 32 32#32) ::
  unary main_c_2 main_v11 (broadcastInDim S608 ![] bcast_S_S608) ::
  binary main_arg2 main_v11 main_v12 addi ::
  ternary main_v10 main_v12 main_arg2 main_v13 select ::
  unary main_v13 main_v14 (broadcastInDim S608x1 ![0] bcast_S608_S608x1_0) ::
  binary main_v8 main_v14 main_v15 (fun x i => Host.gather gather_S32x1024x512_S608x1_S608x1024x512_12_0_n_n_0_1_11024512 x i) ::
  unary main_arg5 main_v16 (extractStridedSlice S1x32x1024x512 ![0, 0, 0, 0] · slices_S4x32x1024x512_S1x32x1024x512_0_0_0_0) ::
  reshape main_v16 main_v17 rfl shapeCasts_S1x32x1024x512_S32x1024x512 ::
  nullary main_c_3 (constantI S_ 32 0#32) ::
  unary main_c_3 main_v18 (broadcastInDim S608 ![] bcast_S_S608) ::
  binary main_arg2 main_v18 main_v19 (cmpi .slt) ::
  nullary main_c_4 (constantI S_ 32 32#32) ::
  unary main_c_4 main_v20 (broadcastInDim S608 ![] bcast_S_S608) ::
  binary main_arg2 main_v20 main_v21 addi ::
  ternary main_v19 main_v21 main_arg2 main_v22 select ::
  unary main_v22 main_v23 (broadcastInDim S608x1 ![0] bcast_S608_S608x1_0) ::
  binary main_v17 main_v23 main_v24 (fun x i => Host.gather gather_S32x1024x512_S608x1_S608x1024x512_12_0_n_n_0_1_11024512 x i) ::
  unary main_arg6 main_v25 (extractStridedSlice S1x32x512x1024 ![0, 0, 0, 0] · slices_S4x32x512x1024_S1x32x512x1024_0_0_0_0) ::
  reshape main_v25 main_v26 rfl shapeCasts_S1x32x512x1024_S32x512x1024 ::
  nullary main_c_5 (constantI S_ 32 0#32) ::
  unary main_c_5 main_v27 (broadcastInDim S608 ![] bcast_S_S608) ::
  binary main_arg2 main_v27 main_v28 (cmpi .slt) ::
  nullary main_c_6 (constantI S_ 32 32#32) ::
  unary main_c_6 main_v29 (broadcastInDim S608 ![] bcast_S_S608) ::
  binary main_arg2 main_v29 main_v30 addi ::
  ternary main_v28 main_v30 main_arg2 main_v31 select ::
  unary main_v31 main_v32 (broadcastInDim S608x1 ![0] bcast_S608_S608x1_0) ::
  binary main_v26 main_v32 main_v33 (fun x i => Host.gather gather_S32x512x1024_S608x1_S608x512x1024_12_0_n_n_0_1_15121024 x i) ::
  nullary main_c_7 (constantI S_ 32 0#32) ::
  unary main_c_7 main_v34 (broadcastInDim S608x256 ![] bcast_S_S608x256) ::
  binary main_v4 main_v34 main_v35 (cmpi .slt) ::
  nullary main_c_8 (constantI S_ 32 73729#32) ::
  unary main_c_8 main_v36 (broadcastInDim S608x256 ![] bcast_S_S608x256) ::
  binary main_v4 main_v36 main_v37 addi ::
  ternary main_v35 main_v37 main_v4 main_v38 select ::
  unary main_v38 main_v39 (broadcastInDim S608x256x1 ![0, 1] bcast_S608x256_S608x256x1_0_1) ::
  binary main_v6 main_v39 main_v40 (fun x i => Host.gather gather_S73729x1024_S608x256x1_S608x256x1024_2_0_n_n_0_2_11024 x i) ::
  binary main_v40 main_v15 main_v41 (fun l r => Host.dotGeneral dot_S608x256x1024_S608x1024x512_S608x256x512_2_1_1_2_0_0 none l r) ::
  TRef.unary (.of main_v41 : TRef sig ⟨S608x256x512, .f32⟩) main_call1.v0 Host.negf ::
  TRef.unary main_call1.v0 main_call1.v1 Host.exp ::
  TRef.nullary main_call1.cst (constant S_ .f32 0x3F800000#32) ::
  TRef.unary main_call1.cst main_call1.v2 (broadcastInDim S608x256x512 ![] bcast_S_S608x256x512) ::
  TRef.binary main_call1.v2 main_call1.v1 main_call1.v3 addf ::
  TRef.nullary main_call1.cst_0 (constant S_ .f32 0x3F800000#32) ::
  TRef.unary main_call1.cst_0 main_call1.v4 (broadcastInDim S608x256x512 ![] bcast_S_S608x256x512) ::
  TRef.binary main_call1.v4 main_call1.v3 main_call1.v5 Host.divf ::
  TRef.binary (.of main_v41 : TRef sig ⟨S608x256x512, .f32⟩) main_call1.v5 main_call1.v6 mulf ::
  binary main_v40 main_v24 main_v43 (fun l r => Host.dotGeneral dot_S608x256x1024_S608x1024x512_S608x256x512_2_1_1_2_0_0 none l r) ::
  binary main_v42 main_v43 main_v44 mulf ::
  binary main_v44 main_v33 main_v45 (fun l r => Host.dotGeneral dot_S608x256x512_S608x512x1024_S608x256x1024_2_1_1_2_0_0 none l r) ::
  reshape main_v45 main_v46 rfl shapeCasts_S608x256x1024_S155648x1024 :: []

set_option maxRecDepth 2048 in
theorem main_eq (c : Dev nD) : main (F := F) c = seq ops := by
  simp only [main, fn_where.body, fn_silu.body, seq, bind_assoc, pure_bind]
  rfl

/-! ## The result, of the arguments -/

/-- The row each slot reads: the routed row where the block is used, the row past the end elsewhere. -/
def slots (s : IVec S608x1x256 32) (u : IVec S608 32) : IVec S608x256 32 :=
  select (broadcastInDim S608x256 ![0, 1] bcast_S608x1_S608x256_0_1
      (cmpi .sgt (broadcastInDim S608x1 ![0] bcast_S608_S608x1_0 u) (broadcastInDim S608x1 ![] bcast_S_S608x1 (constantI S_ 32 0#32))))
    (shapeCast S608x256 s shapeCasts_S608x1x256_S608x256)
    (broadcastInDim S608x256 ![] bcast_S_S608x256 (constantI S_ 32 73728#32))

/-- A row index with the negative ones moved up by the row count, as a column. -/
def rowIx (q : IVec S608x256 32) : IVec S608x256x1 32 :=
  broadcastInDim S608x256x1 ![0, 1] bcast_S608x256_S608x256x1_0_1
    (select (cmpi .slt q (broadcastInDim S608x256 ![] bcast_S_S608x256 (constantI S_ 32 0#32)))
      (addi q (broadcastInDim S608x256 ![] bcast_S_S608x256 (constantI S_ 32 73729#32))) q)

/-- An expert's number, likewise. -/
def expIx (e : IVec S608 32) : IVec S608x1 32 :=
  broadcastInDim S608x1 ![0] bcast_S608_S608x1_0
    (select (cmpi .slt e (broadcastInDim S608 ![] bcast_S_S608 (constantI S_ 32 0#32)))
      (addi e (broadcastInDim S608 ![] bcast_S_S608 (constantI S_ 32 32#32))) e)

/-- The token rows with a row of zeros behind them. -/
def padded (v : FVec F S73728x1024 .f32) : FVec F S73729x1024 .f32 :=
  concatenate S73729x1024 0 [⟨S73728x1024, v⟩, ⟨S1x1024, broadcastInDim S1x1024 ![] bcast_S_S1x1024 (constant S_ .f32 0x00000000#32)⟩]
    concatenates_S73728x1024_S1x1024_S73729x1024_d0

/-- The blocks' rows. -/
def xb (v : FVec F S73728x1024 .f32) (s : IVec S608x1x256 32) (u : IVec S608 32) : FVec F S608x256x1024 .f32 :=
  Host.gather gather_S73729x1024_S608x256x1_S608x256x1024_2_0_n_n_0_2_11024 (padded v) (rowIx (slots s u))

/-- The blocks' weights, of the first layer's. -/
def wUp (w : FVec F S4x32x1024x512 .f32) (e : IVec S608 32) : FVec F S608x1024x512 .f32 :=
  Host.gather gather_S32x1024x512_S608x1_S608x1024x512_12_0_n_n_0_1_11024512
    (shapeCast S32x1024x512 (extractStridedSlice S1x32x1024x512 ![0, 0, 0, 0] w slices_S4x32x1024x512_S1x32x1024x512_0_0_0_0) shapeCasts_S1x32x1024x512_S32x1024x512) (expIx e)

def wDown (w : FVec F S4x32x512x1024 .f32) (e : IVec S608 32) : FVec F S608x512x1024 .f32 :=
  Host.gather gather_S32x512x1024_S608x1_S608x512x1024_12_0_n_n_0_1_15121024
    (shapeCast S32x512x1024 (extractStridedSlice S1x32x512x1024 ![0, 0, 0, 0] w slices_S4x32x512x1024_S1x32x512x1024_0_0_0_0) shapeCasts_S1x32x512x1024_S32x512x1024) (expIx e)

def silu (x : FVec F S608x256x512 .f32) : FVec F S608x256x512 .f32 :=
  mulf x (Host.divf (broadcastInDim S608x256x512 ![] bcast_S_S608x256x512 (constant S_ .f32 0x3F800000#32))
    (addf (broadcastInDim S608x256x512 ![] bcast_S_S608x256x512 (constant S_ .f32 0x3F800000#32)) (Host.exp (Host.negf x))))

def up (x : FVec F S608x256x1024 .f32) (w : FVec F S608x1024x512 .f32) : FVec F S608x256x512 .f32 :=
  Host.dotGeneral dot_S608x256x1024_S608x1024x512_S608x256x512_2_1_1_2_0_0 none x w

def down (x : FVec F S608x256x512 .f32) (w : FVec F S608x512x1024 .f32) : FVec F S608x256x1024 .f32 :=
  Host.dotGeneral dot_S608x256x512_S608x512x1024_S608x256x1024_2_1_1_2_0_0 none x w

/-- The result. -/
def out (v : FVec F S73728x1024 .f32) (s : IVec S608x1x256 32) (e u : IVec S608 32) (w1 w3 : FVec F S4x32x1024x512 .f32) (w2 : FVec F S4x32x512x1024 .f32) :
    FVec F S155648x1024 .f32 :=
  shapeCast S155648x1024 (down (mulf (silu (up (xb v s u) (wUp w1 e))) (up (xb v s u) (wUp w3 e))) (wDown w2 e)) shapeCasts_S608x256x1024_S155648x1024

theorem out_eq (V : Valuation τ sig (Elt F)) :
    after ops V (main_v46 : DevRef τ sig) = out (V (main_arg0 : DevRef τ sig)) (V (main_arg1 : DevRef τ sig)) (V (main_arg2 : DevRef τ sig))
      (V (main_arg3 : DevRef τ sig)) (V (main_arg4 : DevRef τ sig)) (V (main_arg5 : DevRef τ sig)) (V (main_arg6 : DevRef τ sig)) := by
  after_results_simp
  rfl

theorem kept0 (V : Valuation τ sig (Elt F)) : after ops V (main_arg0 : DevRef τ sig) = V (main_arg0 : DevRef τ sig) := by
  after_results_simp
theorem kept1 (V : Valuation τ sig (Elt F)) : after ops V (main_arg1 : DevRef τ sig) = V (main_arg1 : DevRef τ sig) := by
  after_results_simp
theorem kept2 (V : Valuation τ sig (Elt F)) : after ops V (main_arg2 : DevRef τ sig) = V (main_arg2 : DevRef τ sig) := by
  after_results_simp
theorem kept3 (V : Valuation τ sig (Elt F)) : after ops V (main_arg3 : DevRef τ sig) = V (main_arg3 : DevRef τ sig) := by
  after_results_simp
theorem kept4 (V : Valuation τ sig (Elt F)) : after ops V (main_arg4 : DevRef τ sig) = V (main_arg4 : DevRef τ sig) := by
  after_results_simp
theorem kept5 (V : Valuation τ sig (Elt F)) : after ops V (main_arg5 : DevRef τ sig) = V (main_arg5 : DevRef τ sig) := by
  after_results_simp
theorem kept6 (V : Valuation τ sig (Elt F)) : after ops V (main_arg6 : DevRef τ sig) = V (main_arg6 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub ..,
    nullary_bufs_sub ..,
    unary_bufs_sub ..,
    binary_bufs_sub ..,
    reshape_bufs_sub ..,
    nullary_bufs_sub ..,
    unary_bufs_sub ..,
    unary_bufs_sub ..,
    unary_bufs_sub ..,
    ternary_bufs_sub ..,
    nullary_bufs_sub ..,
    unary_bufs_sub ..,
    binary_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    binary_bufs_sub ..,
    binary_bufs_sub ..,
    binary_bufs_sub ..,
    binary_bufs_sub ..,
    reshape_bufs_sub ..⟩

/-- The reference's run: the result, the arguments unchanged. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v46) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v46).trans (out_eq _), (h c main_arg0).trans (kept0 _), (h c main_arg1).trans (kept1 _), (h c main_arg2).trans (kept2 _), (h c main_arg3).trans (kept3 _), (h c main_arg4).trans (kept4 _), (h c main_arg5).trans (kept5 _), (h c main_arg6).trans (kept6 _)⟩)
    (run_seq scopedRefs_eq scopedSems_eq defs main (fun _ => ops) main_eq (fun _ => ops_sub) m ρ)

end Cert.ReferenceIdeal.Hand

end
-- ==== Proof.Gate.lean ====
/- The gate x / (1 + e^(-x)) over the extended reals, in the two forms the programs compute it. -/
module

public import Idealize.ShloMosaic.PureOps.Ideal
public import Idealize.ShloMosaic.Lib.IdealHost

@[expose] public section

noncomputable section

namespace Cert.Gate

open Idealize.ShloMosaic

/-- `x / (1 + e^(-x))`. -/
def gate (x : EReal) : EReal := x * (1 + Ideal.exp (-x))⁻¹

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

theorem denom_ne (x : EReal) : 1 + Ideal.exp x ≠ 0 := by
  have h : (1 : EReal) ≤ 1 + Ideal.exp x := le_add_of_nonneg_right (exp_nonneg x)
  intro e
  rw [e] at h
  exact absurd h (not_le.mpr zero_lt_one)

/-- The quotient by the sum. -/
theorem div_denom (x : EReal) : Ideal.div x (1 + Ideal.exp (0 - x)) = gate x := by
  unfold gate Ideal.div
  rw [if_neg (denom_ne _), sub_eq_add_neg, zero_add]

/-- The product with the sum's reciprocal. -/
theorem mul_recip (x : EReal) : x * Ideal.div 1 (1 + Ideal.exp (-x)) = gate x := by
  unfold gate Ideal.div
  rw [if_neg (denom_ne _), one_mul]

theorem gate_zero : gate 0 = 0 := by unfold gate; exact zero_mul _

/-- The gated two-layer product of a row, at one result column. -/
def ffn (x : Fin 1024 → EReal) (w1 w3 : Fin 1024 → Fin 512 → EReal) (w2 : Fin 512 → EReal) : EReal :=
  ∑ c : Fin 512, gate (∑ d : Fin 1024, x d * w1 d c) * (∑ d : Fin 1024, x d * w3 d c) * w2 c

/-- Of the zero row it is zero. -/
theorem ffn_zero (w1 w3 : Fin 1024 → Fin 512 → EReal) (w2 : Fin 512 → EReal) : ffn (fun _ => 0) w1 w3 w2 = 0 := by
  unfold ffn
  simp only [zero_mul, Finset.sum_const_zero, gate_zero]

end Cert.Gate

end
-- ==== Proof.Value.lean ====
/- The array the kernel leaves, element by element. -/
module

public import proofs.«01_k».proof.Proof.Pre

public import proofs.«01_k».proof.Proof.Gate
public import Idealize.ShloMosaic.Lib.MatmulPlain
public import Idealize.ShloMosaic.Lib.ValueIdx
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

open Cert.Gate

/-! ## A block, element by element -/

theorem pay1_apply (w : S1x1x1024x512.Idx → EReal) (d : Fin 1024) (c : Fin 512) :
    (k0_pay1 (F := Ideal) w : S1024x512.Idx → EReal) (ix2 d c) = w (ix4 (0 : Fin 1) (0 : Fin 1) d c) := by
  unfold k0_pay1
  rw [shapeCast_self]
  exact shapeCast_apply w shapeCasts_S1x1x1024x512_S1024x512 (ix2 d c) (ix4 (0 : Fin 1) (0 : Fin 1) d c) (by
    rw [Shape.rowMajor_val_four, Shape.rowMajor_val_two]
    show ((0 * 1 + 0) * 1024 + d.val) * 512 + c.val = d.val * 512 + c.val
    omega)

theorem pay2_apply (w : S1x1x1024x512.Idx → EReal) (d : Fin 1024) (c : Fin 512) :
    (k0_pay2 (F := Ideal) w : S1024x512.Idx → EReal) (ix2 d c) = w (ix4 (0 : Fin 1) (0 : Fin 1) d c) := pay1_apply w d c

theorem pay3_apply (w : S1x1x512x1024.Idx → EReal) (c : Fin 512) (k : Fin 1024) :
    (k0_pay3 (F := Ideal) w : S512x1024.Idx → EReal) (ix2 c k) = w (ix4 (0 : Fin 1) (0 : Fin 1) c k) := by
  unfold k0_pay3
  rw [shapeCast_self]
  exact shapeCast_apply w shapeCasts_S1x1x512x1024_S512x1024 (ix2 c k) (ix4 (0 : Fin 1) (0 : Fin 1) c k) (by
    rw [Shape.rowMajor_val_four, Shape.rowMajor_val_two]
    show ((0 * 1 + 0) * 512 + c.val) * 1024 + k.val = c.val * 1024 + k.val
    omega)

theorem rows_apply (x : S1x256x1024.Idx → EReal) (r : Fin 256) (d : Fin 1024) :
    (shapeCast S256x1024 x shapeCasts_S1x256x1024_S256x1024) (ix2 r d) = x (ix3 (0 : Fin 1) r d) :=
  shapeCast_apply x shapeCasts_S1x256x1024_S256x1024 (ix2 r d) (ix3 (0 : Fin 1) r d) (by
    rw [Shape.rowMajor_val_three, Shape.rowMajor_val_two]
    show (0 * 256 + r.val) * 1024 + d.val = r.val * 1024 + d.val
    omega)

theorem matUp (x : FVec Ideal S256x1024 .bf16) (w : FVec Ideal S1024x512 .bf16) (r : Fin 256) (c : Fin 512) :
    (matmul dot_S256x1024_S1024x512_S256x512_1_0_0_1_n_n none x w (constant S256x512 .f32 0x00000000#32) : FVec Ideal S256x512 .f32) (ix2 r c)
      = ∑ d : Fin 1024, x (ix2 r d) * w (ix2 d c) := by
  refine (Ideal.matmul_plain_apply (M := 256) (K := 1024) (N := 512) none x w (constant S256x512 .f32 0x00000000#32) r c).trans ?_
  rw [constant_apply, Ideal.ofBits_zero_f32, zero_add]

theorem matDown (x : FVec Ideal S256x512 .bf16) (w : FVec Ideal S512x1024 .bf16) (r : Fin 256) (k : Fin 1024) :
    (matmul dot_S256x512_S512x1024_S256x1024_1_0_0_1_n_n none x w (constant S256x1024 .f32 0x00000000#32) : FVec Ideal S256x1024 .f32) (ix2 r k)
      = ∑ c : Fin 512, x (ix2 r c) * w (ix2 c k) := by
  refine (Ideal.matmul_plain_apply (M := 256) (K := 512) (N := 1024) none x w (constant S256x1024 .f32 0x00000000#32) r k).trans ?_
  rw [constant_apply, Ideal.ofBits_zero_f32, zero_add]

theorem pay6_apply (x : S1x256x1024.Idx → EReal) (w1 w3 : S1024x512.Idx → EReal) (r : Fin 256) (c : Fin 512) :
    (k0_pay6 (F := Ideal) x w1 w3 : S256x512.Idx → EReal) (ix2 r c)
      = gate (∑ d : Fin 1024, x (ix3 (0 : Fin 1) r d) * w1 (ix2 d c)) * ∑ d : Fin 1024, x (ix3 (0 : Fin 1) r d) * w3 (ix2 d c) := by
  have hx : ∀ w : S1024x512.Idx → EReal, (matmul (φ₁ := .bf16) (φ₂ := .bf16) dot_S256x1024_S1024x512_S256x512_1_0_0_1_n_n none
      (truncf (F := Ideal) .bf16 (shapeCast S256x1024 x shapeCasts_S1x256x1024_S256x1024 : FVec Ideal S256x1024 .f32) bitsLt_bf16_f32) (w : FVec Ideal S1024x512 .bf16)
      (constant S256x512 .f32 0x00000000#32) : FVec Ideal S256x512 .f32) (ix2 r c) = ∑ d : Fin 1024, x (ix3 (0 : Fin 1) r d) * w (ix2 d c) := by
    intro w
    rw [matUp]
    exact Finset.sum_congr rfl fun d _ => congrArg (· * w (ix2 d c)) (rows_apply x r d)
  rw [← hx w1, ← hx w3, ← div_denom, ← Ideal.ofBits_one_f32, ← Ideal.ofBits_zero_f32]
  rfl

theorem outBlk_used {m : Mem Ideal} {n : ℕ} (hu : Used (argU m) n) (r : Fin 256) (k : Fin 1024) :
    (outBlk m n : S256x1024.Idx → EReal) (ix2 r k)
      = ffn (fun d => argV m (ix2 (rowsOf m n r) d))
          (fun d c => argW1 m (ix4 (0 : Fin 4) (⟨expOf m n % 32, Nat.mod_lt _ (by decide)⟩ : Fin 32) d c))
          (fun d c => argW3 m (ix4 (0 : Fin 4) (⟨expOf m n % 32, Nat.mod_lt _ (by decide)⟩ : Fin 32) d c))
          (fun c => argW2 m (ix4 (0 : Fin 4) (⟨expOf m n % 32, Nat.mod_lt _ (by decide)⟩ : Fin 32) c k)) := by
  unfold outBlk
  rw [if_pos hu]
  refine (matDown _ _ r k).trans ?_
  unfold ffn
  refine Finset.sum_congr rfl fun c _ => ?_
  rw [pay3_apply, pay6_apply]
  simp only [pay1_apply, pay2_apply]
  rfl

theorem outBlk_unused {m : Mem Ideal} {n : ℕ} (hu : ¬ Used (argU m) n) (y : S256x1024.Idx) : (outBlk m n : S256x1024.Idx → EReal) y = 0 := by
  unfold outBlk
  rw [if_neg hu]
  exact Ideal.ofBits_zero_f32

/-! ## The array the run leaves -/

section Array
variable {F : FTy → Type} [FloatOps F] {m : Mem F} (h : Routed m)

/-- Row `i` of the result: row `i % 256` of block `i / 256`. -/
def whole (m : Mem F) : S155648x1024.Idx → Elt F .f32 := fun i =>
  outBlk m ((i 0).val / 256) (ix2 (⟨(i 0).val % 256, Nat.mod_lt _ (by decide)⟩ : Fin 256) (i 1))

theorem whole_at (m : Mem F) (n : ℕ) (y : S256x1024.Idx) (i : S155648x1024.Idx) (h0 : (i 0).val = n * 256 + (y 0).val) (h1 : (i 1).val = (y 1).val) :
    outBlk m n y = whole m i := by
  have hy0 : (y 0).val < 256 := (y 0).isLt
  unfold whole
  rw [show (i 0).val / 256 = n from by rw [h0]; omega]
  refine congrArg (outBlk m n) ?_
  funext a; apply Fin.ext
  match a with
  | 0 => show (y 0).val = (i 0).val % 256; rw [h0]; omega
  | 1 => exact h1.symm

theorem flush5 (t : Fin (cfgOf h).N) : ((cfgOf h).win 5).flush t = true := by
  have hne : ∀ h1 : t.val + 1 < grid0.N, ((cfgOf h).win 5).index ⟨t.val + 1, h1⟩ ≠ ((cfgOf h).win 5).index t := by
    intro h1 e
    have e0 := congrFun e (0 : Fin 2)
    rw [index5, index5] at e0
    have e1 : t.val + 1 = t.val := e0
    omega
  unfold Pipeline.Window.flush
  rw [show ((cfgOf h).win 5).isOut = true from rfl, Bool.true_and, Bool.or_eq_true, decide_eq_true_iff, decide_eq_true_iff]
  by_cases h1 : t.val + 1 < grid0.N
  · exact .inr ⟨h1, hne h1⟩
  · exact .inl (show t.val + 1 = 608 from by
      have h2 : t.val < 608 := t.isLt
      have h3 : ¬ t.val + 1 < 608 := h1
      omega)

theorem flushed5 (c : Dev nD) (t : Fin (cfgOf h).N) :
    (dats h 0 c).flushed 5 t = (((cfgOf h).win 5).blk t).view.read (Elt F) (whole m) := by
  funext y
  have hy0 : (y (0 : Fin 2)).val < 256 := (y (0 : Fin 2)).isLt
  have e0 := emb_val h 5 t y (0 : Fin 2)
  have e1 := emb_val h 5 t y (1 : Fin 2)
  rw [index5] at e0 e1
  have f0 : ((((cfgOf h).win 5).rect t).emb y (0 : Fin 2) : ℕ) = t.val * 256 + (y (0 : Fin 2)).val := e0
  have f1 : ((((cfgOf h).win 5).rect t).emb y (1 : Fin 2) : ℕ) = 0 * 1024 + (y (1 : Fin 2)).val := e1
  exact whole_at m t.val (((cfgOf h).win 5).xinj (grid0.coords t) y) ((((cfgOf h).win 5).rect t).emb y)
    f0 (f1.trans (by rw [Nat.zero_mul, Nat.zero_add]))

theorem cover5 (i : S155648x1024.Idx) : ∃ t : Fin (cfgOf h).N, ((cfgOf h).win 5).flush t = true ∧ i ∈ (((cfgOf h).win 5).blk t).view.set := by
  have hi : (i 0).val < 155648 := (i 0).isLt
  have hi1 : (i 1).val < 1024 := (i 1).isLt
  let t : Fin (cfgOf h).N := ⟨(i 0).val / 256, show (i 0).val / 256 < 608 by omega⟩
  refine ⟨t, flush5 h t, ?_⟩
  let y : (((cfgOf h).win 5).xblock (grid0.coords t)).Idx := ix2 (⟨(i 0).val % 256, Nat.mod_lt _ (by decide)⟩ : Fin 256) (⟨(i 1).val, hi1⟩ : Fin 1024)
  have e : (((cfgOf h).win 5).blk t).view.emb y = i := by
    refine funext fun a : Fin 2 => Fin.ext ?_
    refine (emb_val h 5 t y a).trans ?_
    rw [index5]
    match a with
    | 0 => show (i 0).val / 256 * 256 + (i 0).val % 256 = (i 0).val; omega
    | 1 => show 0 * 1024 + (i 1).val = (i 1).val; omega
  exact e ▸ (((cfgOf h).win 5).blk t).view.emb_mem_set y

theorem arr5 (c : Dev nD) : (dats h 0 c).arrAt 5 (cfgOf h).N = whole m :=
  (dats h 0 c).arrAt_eq_of_cover 5 (whole m) (fun t _ => flushed5 h c t) (cover5 h)

include h in
/-- The run: the result is `whole`, the arguments are kept. -/
theorem value_run (ρ : Dev nD → PrngReg) : θ_run defs (onTc (τ := τ) (main (F := F))) ⟨m, fun _ => 0, ρ⟩ (fun r => (∀ c : Dev nD,
      r.2.mem ((c.tc : Thread nD τ).loc main_v0) = whole m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run _ _ _).mono (fun r hr c => ⟨((hr.1 c).1 5).trans (arr5 h c), args_of h r hr.1 c⟩) (run_main h ρ)

end Array

end Cert.KernelIdeal.Hand

end
-- ==== Proof.RefValue.lean ====
/- The reference's result, element by element. -/
module

public import proofs.«01_k».proof.Proof.Ref
public import proofs.«01_k».proof.Proof.Gate
public import Idealize.ShloMosaic.Lib.StackMember
public import Idealize.ShloMosaic.Lib.ValueIdx
public import Idealize.ShloMosaic.Lib.Pipeline.Value

@[expose] public section

noncomputable section

namespace Cert.ReferenceIdeal.Hand

open Cert.ReferenceIdeal Cert.ReferenceIdeal.Gen Cert.Gate
open Idealize.ShloMosaic Idealize.ShloMosaic.TcCoe Idealize.ShloMosaic.StableHlo Idealize.SL.Sem
open Idealize.ShloMosaic.ValueIdx Idealize.ShloMosaic.StackMember

/-! ## Indices -/

/-- A word below 2^31 is not negative. -/
theorem slt_zero {x : BitVec 32} (hx : x.toNat < 2 ^ 31) : x.slt 0#32 = false := by
  have h0 : x.msb = false := by rw [BitVec.msb_eq_false_iff_two_mul_lt]; omega
  rw [BitVec.slt_zero_eq_msb, h0]

theorem toInt_small {x : BitVec 32} (hx : x.toNat < 2 ^ 31) : x.toInt.toNat = x.toNat := by
  rw [BitVec.toInt_eq_toNat_of_lt (by omega)]; rfl

/-- Wrapping a word that is not negative keeps it. -/
theorem wrap_small {x y : BitVec 32} (hx : x.toNat < 2 ^ 31) : Scalar.select (IntOp.cmpi .slt x 0#32) y x = x := by
  show Scalar.select (BitVec.ofBool (x.slt 0#32)) y x = x
  rw [slt_zero hx]; rfl

section Ints
variable (s : IVec S608x1x256 32) (e u : IVec S608 32) (n : Fin 608) (r : Fin 256)

theorem slots_apply : slots s u (ix2 n r) = if (0#32).slt (u (ix1 n)) = true then s (ix3 n (0 : Fin 1) r) else 73728#32 := by
  have eu : ∀ j : S608x1.Idx, (broadcastInDim S608x1 ![0] bcast_S608_S608x1_0 u) j = u (ix1 (j 0)) := fun j =>
    congrArg u (funext fun a => by match a with | 0 => rfl)
  have es : (shapeCast S608x256 s shapeCasts_S608x1x256_S608x256) (ix2 n r) = s (ix3 n (0 : Fin 1) r) :=
    shapeCast_apply s shapeCasts_S608x1x256_S608x256 (ix2 n r) (ix3 n (0 : Fin 1) r) (by
      rw [Shape.rowMajor_val_three, Shape.rowMajor_val_two]
      show (n.val * 1 + 0) * 256 + r.val = n.val * 256 + r.val
      omega)
  rw [← es]
  show Scalar.select (BitVec.ofBool ((0#32).slt ((broadcastInDim S608x1 ![0] bcast_S608_S608x1_0 u) _))) _ 73728#32 = _
  rw [eu]
  show Scalar.select (BitVec.ofBool ((0#32).slt (u (ix1 n)))) _ 73728#32 = _
  cases (0#32).slt (u (ix1 n)) <;> rfl

theorem rowIx_apply (q : IVec S608x256 32) (hq : (q (ix2 n r)).toNat < 2 ^ 31) : rowIx q (ix3 n r (0 : Fin 1)) = q (ix2 n r) := by
  refine Eq.trans ?_ (wrap_small (y := q (ix2 n r) + 73729#32) hq)
  have ej : ∀ f : IVec S608x256 32, (broadcastInDim S608x256x1 ![0, 1] bcast_S608x256_S608x256x1_0_1 f) (ix3 n r (0 : Fin 1)) = f (ix2 n r) := fun f =>
    congrArg f (funext fun a => by match a with | 0 => rfl | 1 => rfl)
  unfold rowIx
  rw [ej]
  rfl

theorem expIx_apply (he : (e (ix1 n)).toNat < 2 ^ 31) : expIx e (ix2 n (0 : Fin 1)) = e (ix1 n) := by
  refine Eq.trans ?_ (wrap_small (y := e (ix1 n) + 32#32) he)
  have ej : ∀ f : IVec S608 32, (broadcastInDim S608x1 ![0] bcast_S608_S608x1_0 f) (ix2 n (0 : Fin 1)) = f (ix1 n) := fun f =>
    congrArg f (funext fun a => by match a with | 0 => rfl)
  unfold expIx
  rw [ej]
  rfl

end Ints

/-! ## Gathers -/

theorem gatherRows_apply {α : Type} (x : S73729x1024.Idx → α) (idx : IVec S608x256x1 32) (n : Fin 608) (r : Fin 256) (d : Fin 1024) (q : Fin 73729)
    (hq : (idx (ix3 n r (0 : Fin 1))).toInt.toNat = q.val) :
    Host.gather gather_S73729x1024_S608x256x1_S608x256x1024_2_0_n_n_0_2_11024 x idx (ix3 n r d) = x (ix2 q d) := by
  unfold Host.gather
  refine congrArg x (funext fun a : Fin 2 => Fin.ext ?_)
  have hsi : ∀ k, gather_S73729x1024_S608x256x1_S608x256x1024_2_0_n_n_0_2_11024.siIdx (ix3 n r d) k = ix3 n r (0 : Fin 1) := by
    intro k
    have hk : k.val < 1 := k.isLt
    funext b; apply Fin.ext
    match b with
    | ⟨0, _⟩ => rfl
    | ⟨1, _⟩ => rfl
    | ⟨2, _⟩ => show k.val = 0; omega
  match a with
  | ⟨0, _⟩ =>
    show min (idx (gather_S73729x1024_S608x256x1_S608x256x1024_2_0_n_n_0_2_11024.siIdx (ix3 n r d) _)).toInt.toNat (73729 - 1) + 0 + 0 = q.val
    rw [hsi, hq]
    have := q.isLt
    omega
  | ⟨1, _⟩ => show 0 + 0 + d.val = d.val; omega

theorem gatherUp_apply {α : Type} (x : S32x1024x512.Idx → α) (idx : IVec S608x1 32) (n : Fin 608) (d : Fin 1024) (c : Fin 512) (q : Fin 32)
    (hq : (idx (ix2 n (0 : Fin 1))).toInt.toNat = q.val) :
    Host.gather gather_S32x1024x512_S608x1_S608x1024x512_12_0_n_n_0_1_11024512 x idx (ix3 n d c) = x (ix3 q d c) := by
  unfold Host.gather
  refine congrArg x (funext fun a : Fin 3 => Fin.ext ?_)
  have hsi : ∀ k, gather_S32x1024x512_S608x1_S608x1024x512_12_0_n_n_0_1_11024512.siIdx (ix3 n d c) k = ix2 n (0 : Fin 1) := by
    intro k
    have hk : k.val < 1 := k.isLt
    funext b; apply Fin.ext
    match b with
    | ⟨0, _⟩ => rfl
    | ⟨1, _⟩ => show k.val = 0; omega
  match a with
  | ⟨0, _⟩ =>
    show min (idx (gather_S32x1024x512_S608x1_S608x1024x512_12_0_n_n_0_1_11024512.siIdx (ix3 n d c) _)).toInt.toNat (32 - 1) + 0 + 0 = q.val
    rw [hsi, hq]
    have := q.isLt
    omega
  | ⟨1, _⟩ => show 0 + 0 + d.val = d.val; omega
  | ⟨2, _⟩ => show 0 + 0 + c.val = c.val; omega

theorem gatherDown_apply {α : Type} (x : S32x512x1024.Idx → α) (idx : IVec S608x1 32) (n : Fin 608) (c : Fin 512) (k : Fin 1024) (q : Fin 32)
    (hq : (idx (ix2 n (0 : Fin 1))).toInt.toNat = q.val) :
    Host.gather gather_S32x512x1024_S608x1_S608x512x1024_12_0_n_n_0_1_15121024 x idx (ix3 n c k) = x (ix3 q c k) := by
  unfold Host.gather
  refine congrArg x (funext fun a : Fin 3 => Fin.ext ?_)
  have hsi : ∀ l, gather_S32x512x1024_S608x1_S608x512x1024_12_0_n_n_0_1_15121024.siIdx (ix3 n c k) l = ix2 n (0 : Fin 1) := by
    intro l
    have hl : l.val < 1 := l.isLt
    funext b; apply Fin.ext
    match b with
    | ⟨0, _⟩ => rfl
    | ⟨1, _⟩ => show l.val = 0; omega
  match a with
  | ⟨0, _⟩ =>
    show min (idx (gather_S32x512x1024_S608x1_S608x512x1024_12_0_n_n_0_1_15121024.siIdx (ix3 n c k) _)).toInt.toNat (32 - 1) + 0 + 0 = q.val
    rw [hsi, hq]
    have := q.isLt
    omega
  | ⟨1, _⟩ => show 0 + 0 + c.val = c.val; omega
  | ⟨2, _⟩ => show 0 + 0 + k.val = k.val; omega

/-! ## The operands -/

section Floats
variable (v : FVec Ideal S73728x1024 .f32) (s : IVec S608x1x256 32) (e u : IVec S608 32)
  (w1 w3 : FVec Ideal S4x32x1024x512 .f32) (w2 : FVec Ideal S4x32x512x1024 .f32)

theorem padded_row (q : Fin 73728) (d : Fin 1024) : padded v (ix2 (⟨q.val, by omega⟩ : Fin 73729) d) = v (ix2 q d) := by
  unfold padded
  exact concatenate_pair_apply_left (t := S73729x1024) (s₁ := S73728x1024) (s₂ := S1x1024) 0 v _ concatenates_S73728x1024_S1x1024_S73729x1024_d0
    (ix2 (⟨q.val, by omega⟩ : Fin 73729) d) rfl (ix2 q d) (fun b : Fin 2 => by match b with | 0 => rfl | 1 => rfl)

theorem padded_last (d : Fin 1024) : padded v (ix2 (⟨73728, by decide⟩ : Fin 73729) d) = 0 := by
  unfold padded
  refine (concatenate_pair_apply_right (t := S73729x1024) (s₁ := S73728x1024) (s₂ := S1x1024) 0 v _ concatenates_S73728x1024_S1x1024_S73729x1024_d0
    (ix2 (⟨73728, by decide⟩ : Fin 73729) d) rfl rfl (ix2 (0 : Fin 1) d) (fun b : Fin 2 => by
      match b with
      | 0 => exact fun hb => absurd rfl hb
      | 1 => exact fun _ => rfl) rfl).trans ?_
  exact Ideal.ofBits_zero_f32

theorem xb_used (n : Fin 608) (r : Fin 256) (d : Fin 1024) (hu : (0#32).slt (u (ix1 n)) = true) (q : Fin 73728)
    (hq : (s (ix3 n (0 : Fin 1) r)).toNat = q.val) : xb v s u (ix3 n r d) = v (ix2 q d) := by
  have hs : slots s u (ix2 n r) = s (ix3 n (0 : Fin 1) r) := by rw [slots_apply, if_pos hu]
  have hl : (s (ix3 n (0 : Fin 1) r)).toNat < 2 ^ 31 := by have := q.isLt; omega
  refine (gatherRows_apply (padded v) (rowIx (slots s u)) n r d (⟨q.val, by omega⟩ : Fin 73729) ?_).trans (padded_row v q d)
  rw [rowIx_apply n r (slots s u) (by rw [hs]; exact hl), hs, toInt_small hl, hq]

theorem xb_unused (n : Fin 608) (r : Fin 256) (d : Fin 1024) (hu : ¬ (0#32).slt (u (ix1 n)) = true) : xb v s u (ix3 n r d) = 0 := by
  have hs : slots s u (ix2 n r) = 73728#32 := by rw [slots_apply, if_neg hu]
  refine (gatherRows_apply (padded v) (rowIx (slots s u)) n r d (⟨73728, by decide⟩ : Fin 73729) ?_).trans (padded_last v d)
  rw [rowIx_apply n r (slots s u) (by rw [hs]; decide), hs]
  decide

theorem wUp_apply (w : FVec Ideal S4x32x1024x512 .f32) (n : Fin 608) (d : Fin 1024) (c : Fin 512) (q : Fin 32) (hq : (e (ix1 n)).toNat = q.val) :
    wUp w e (ix3 n d c) = w (ix4 (0 : Fin 4) q d c) := by
  have hl : (e (ix1 n)).toNat < 2 ^ 31 := by have := q.isLt; omega
  unfold wUp
  rw [gatherUp_apply _ (expIx e) n d c q (by rw [expIx_apply e n hl, toInt_small hl, hq])]
  refine (shapeCast_apply _ shapeCasts_S1x32x1024x512_S32x1024x512 (ix3 q d c) (ix4 (0 : Fin 1) q d c) (by
    rw [Shape.rowMajor_val_four, Shape.rowMajor_val_three]
    show ((0 * 32 + q.val) * 1024 + d.val) * 512 + c.val = (q.val * 1024 + d.val) * 512 + c.val
    omega)).trans ?_
  refine congrArg w (funext fun a : Fin 4 => Fin.ext ?_)
  match a with
  | 0 => rfl
  | 1 => show 0 + q.val = q.val; omega
  | 2 => show 0 + d.val = d.val; omega
  | 3 => show 0 + c.val = c.val; omega

theorem wDown_apply (w : FVec Ideal S4x32x512x1024 .f32) (n : Fin 608) (c : Fin 512) (k : Fin 1024) (q : Fin 32) (hq : (e (ix1 n)).toNat = q.val) :
    wDown w e (ix3 n c k) = w (ix4 (0 : Fin 4) q c k) := by
  have hl : (e (ix1 n)).toNat < 2 ^ 31 := by have := q.isLt; omega
  unfold wDown
  rw [gatherDown_apply _ (expIx e) n c k q (by rw [expIx_apply e n hl, toInt_small hl, hq])]
  refine (shapeCast_apply _ shapeCasts_S1x32x512x1024_S32x512x1024 (ix3 q c k) (ix4 (0 : Fin 1) q c k) (by
    rw [Shape.rowMajor_val_four, Shape.rowMajor_val_three]
    show ((0 * 32 + q.val) * 512 + c.val) * 1024 + k.val = (q.val * 512 + c.val) * 1024 + k.val
    omega)).trans ?_
  refine congrArg w (funext fun a : Fin 4 => Fin.ext ?_)
  match a with
  | 0 => rfl
  | 1 => show 0 + q.val = q.val; omega
  | 2 => show 0 + c.val = c.val; omega
  | 3 => show 0 + k.val = k.val; omega

theorem up_apply (x : FVec Ideal S608x256x1024 .f32) (w : FVec Ideal S608x1024x512 .f32) (n : Fin 608) (r : Fin 256) (c : Fin 512) :
    up x w (ix3 n r c) = ∑ d : Fin 1024, x (ix3 n r d) * w (ix3 n d c) :=
  dotGeneral_stack_apply (G := 608) (m := 256) (k := 1024) (n := 512) dot_S608x256x1024_S608x1024x512_S608x256x512_2_1_1_2_0_0_wf none x w n r c

theorem down_apply (x : FVec Ideal S608x256x512 .f32) (w : FVec Ideal S608x512x1024 .f32) (n : Fin 608) (r : Fin 256) (k : Fin 1024) :
    down x w (ix3 n r k) = ∑ c : Fin 512, x (ix3 n r c) * w (ix3 n c k) :=
  dotGeneral_stack_apply (G := 608) (m := 256) (k := 512) (n := 1024) dot_S608x256x512_S608x512x1024_S608x256x1024_2_1_1_2_0_0_wf none x w n r k

theorem silu_apply (x : FVec Ideal S608x256x512 .f32) (i : S608x256x512.Idx) : silu x i = gate (x i) := by
  rw [← mul_recip, ← Ideal.ofBits_one_f32]
  rfl

/-- Row `r` of block `n` of the result, from that block's rows of tokens. -/
theorem out_apply (i : S155648x1024.Idx) (n : Fin 608) (r : Fin 256) (k : Fin 1024) (h0 : (i 0).val = n.val * 256 + r.val) (h1 : (i 1).val = k.val)
    (q : Fin 32) (hq : (e (ix1 n)).toNat = q.val) :
    out v s e u w1 w3 w2 i = ffn (fun d => xb v s u (ix3 n r d)) (fun d c => w1 (ix4 (0 : Fin 4) q d c)) (fun d c => w3 (ix4 (0 : Fin 4) q d c))
      (fun c => w2 (ix4 (0 : Fin 4) q c k)) := by
  unfold out
  refine (shapeCast_apply _ shapeCasts_S608x256x1024_S155648x1024 i (ix3 n r k) (by
    rw [Shape.rowMajor_val_three, Shape.rowMajor_val_two]
    show (n.val * 256 + r.val) * 1024 + k.val = (i 0).val * 1024 + (i 1).val
    rw [h0, h1])).trans ?_
  rw [down_apply]
  unfold ffn
  refine Finset.sum_congr rfl fun c _ => ?_
  rw [wDown_apply e w2 n c k q hq]
  refine congrArg (· * w2 (ix4 (0 : Fin 4) q c k)) ?_
  show silu (up (xb v s u) (wUp w1 e)) (ix3 n r c) * up (xb v s u) (wUp w3 e) (ix3 n r c) = _
  rw [silu_apply, up_apply, up_apply]
  simp only [fun d => wUp_apply e w1 n d c q hq, fun d => wUp_apply e w3 n d c q hq]

end Floats

end Cert.ReferenceIdeal.Hand

end
-- ==== Proof.Claim.lean ====
/- The kernel's array is the reference's, element by element, over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_routed
public import proofs.«01_k».proof.Proof.Value
public import proofs.«01_k».proof.Proof.RefValue

@[expose] public section

noncomputable section

namespace Cert.Proof

open Idealize.ShloMosaic Idealize.SL.Sem
open Idealize.ShloMosaic.ValueIdx
open Cert.KernelIdeal.Hand (Mem Routed argV argS argE argU argW1 argW3 argW2 whole wordAt expOf rowsOf Used)

/-- Row by row the two arrays agree: a used block's rows are the same tokens', an unused block's are zero in both. -/
theorem whole_eq {m : Mem Ideal} (h : Routed m) :
    (whole m : Cert.KernelIdeal.S155648x1024.Idx → EReal)
      = Cert.ReferenceIdeal.Hand.out (F := Ideal) (argV m) (argS m) (argE m) (argU m) (argW1 m) (argW3 m) (argW2 m) := by
  funext i
  have hi : (i 0).val < 155648 := (i 0).isLt
  have hn : (i 0).val / 256 < 608 := by omega
  let n : Fin 608 := ⟨(i 0).val / 256, hn⟩
  let r : Fin 256 := ⟨(i 0).val % 256, Nat.mod_lt _ (by decide)⟩
  let k : Fin 1024 := i 1
  have hw : ∀ t : Cert.KernelIdeal.S608.Idx → BitVec 32, wordAt t n.val = t (ix1 n) := fun t => by unfold wordAt; rw [dif_pos hn]
  have he : expOf m n.val < 32 := Cert.KernelIdeal.Hand.wordAt_exp h n.val
  have hq : (argE m (ix1 n)).toNat = (⟨expOf m n.val % 32, Nat.mod_lt _ (by decide)⟩ : Fin 32).val := by
    show _ = expOf m n.val % 32
    rw [Nat.mod_eq_of_lt he]
    unfold expOf
    rw [hw]
  rw [Cert.ReferenceIdeal.Hand.out_apply (argV m) (argS m) (argE m) (argU m) (argW1 m) (argW3 m) (argW2 m) i n r k
    (show (i 0).val = (i 0).val / 256 * 256 + (i 0).val % 256 by omega) rfl _ hq]
  show (Cert.KernelIdeal.Hand.outBlk m n.val : Cert.KernelIdeal.S256x1024.Idx → EReal) (ix2 r k) = _
  by_cases hu : Used (argU m) n.val
  · have hu' : (0#32).slt (argU m (ix1 n)) = true := by
      have := hu
      unfold Used at this
      rwa [hw] at this
    rw [Cert.KernelIdeal.Hand.outBlk_used hu]
    refine congrArg (fun x => Cert.Gate.ffn x _ _ _) (funext fun d => ?_)
    exact (Cert.ReferenceIdeal.Hand.xb_used (argV m) (argS m) (argU m) n r d hu' (rowsOf m n.val r)
      (Cert.KernelIdeal.Hand.rowsOf_val h hn r).symm).symm
  · have hu' : ¬ (0#32).slt (argU m (ix1 n)) = true := fun e => hu (by unfold Used; rw [hw]; exact e)
    rw [Cert.KernelIdeal.Hand.outBlk_unused hu]
    refine Eq.symm (Eq.trans (congrArg (fun x => Cert.Gate.ffn x _ _ _) (funext fun d => ?_)) (Cert.Gate.ffn_zero _ _ _))
    exact Cert.ReferenceIdeal.Hand.xb_unused (argV m) (argS m) (argU m) n r d hu'

/-- The value claim. -/
theorem algebraic : Cert.algebraic_KernelIdeal_ReferenceIdeal := fun m g m' g' hp hm => by
  have h : Routed m := Cert.KernelIdeal.Hand.routed_of (hp 0)
  obtain ⟨e0, e1, e2, e3, e4, e5, e6⟩ := hm 0
  refine ⟨fun _ => whole m, Cert.KernelIdeal.Hand.value_run h g, ?_⟩
  refine (θ_run _ _ _).mono (fun r hr c => ⟨(hr c).1.trans ?_, (hr c).2⟩) (Cert.ReferenceIdeal.Hand.run_main (F := Ideal) m' g')
  obtain rfl : c = 0 := Subsingleton.elim _ _
  rw [e0, e1, e2, e3, e4, e5, e6]
  exact (whole_eq h).symm

end Cert.Proof

end
-- ==== Proof.NormSpec.lean ====
/- A token's modulated norm and its projection, over the extended reals. -/
module

public import Idealize.ShloMosaic.PureOps.Ideal
public import Idealize.ShloMosaic.Lib.IdealHost

@[expose] public section

noncomputable section

namespace Cert.NormSpec

open Idealize.ShloMosaic

/-- A row divided by its root mean square, times the weights `g`, times one plus the scale, plus the shift. -/
def normed (x g sc sh : Fin 1024 → EReal) (d : Fin 1024) : EReal :=
  x d * Ideal.rsqrt (Ideal.div (∑ k : Fin 1024, x k * x k) (Ideal.ofBits .f32 0x44800000#32) + Ideal.ofBits .f32 0x358637BD#32)
    * g d * (1 + sc d) + sh d

/-- The 3104 columns in the kernel's order: the main ones, Hyena's, the ranks', then columns of zeros. -/
def packed (w : Fin 3104 → EReal) (j : Fin 3200) : EReal :=
  if h : j.val < 1536 then w ⟨j.val, by omega⟩
  else if h2 : j.val < 3072 then w ⟨j.val + 32, by omega⟩
  else if h3 : j.val < 3104 then w ⟨j.val - 1536, by omega⟩
  else 0

/-- The same choice with the columns counted from each piece's start. -/
theorem packed_pieces (w : Fin 3104 → EReal) (j : Fin 3200) :
    (if h : j.val < 1536 then w ⟨j.val, by omega⟩
      else if h2 : j.val - 1536 < 1536 then w ⟨1568 + (j.val - 1536), by omega⟩
      else if h3 : j.val - 1536 - 1536 < 32 then w ⟨1536 + (j.val - 1536 - 1536), by omega⟩
      else 0) = packed w j := by
  unfold packed
  by_cases h1 : j.val < 1536
  · simp only [h1, dif_pos]
  simp only [h1, dif_neg, not_false_eq_true]
  by_cases h2 : j.val < 3072
  · rw [dif_pos h2, dif_pos (by omega)]
    exact congrArg w (Fin.ext (by show 1568 + (j.val - 1536) = j.val + 32; omega))
  rw [dif_neg h2, dif_neg (by omega)]
  by_cases h3 : j.val < 3104
  · rw [dif_pos h3, dif_pos (by omega)]
    exact congrArg w (Fin.ext (by show 1536 + (j.val - 1536 - 1536) = j.val - 1536; omega))
  · rw [dif_neg h3, dif_neg (by omega)]

/-- Ordering the columns of the weights orders those of the product. -/
theorem sum_packed (u : Fin 1024 → EReal) (w : Fin 1024 → Fin 3104 → EReal) (j : Fin 3200) :
    ∑ d : Fin 1024, u d * packed (w d) j = packed (fun c => ∑ d : Fin 1024, u d * w d c) j := by
  unfold packed
  split
  · rfl
  split
  · rfl
  split
  · rfl
  · simp only [mul_zero, Finset.sum_const_zero]

end Cert.NormSpec

end
-- ==== Proof.NormKernel.lean ====
/- What one block of the projection call computes. -/
module

public import proofs.«01_k».proof.Proof.Gen.Kernel2Ideal.Value
public import proofs.«01_k».proof.Proof.NormSpec
public import Idealize.ShloMosaic.Lib.Pointwise

@[expose] public section

noncomputable section

namespace Cert.Kernel2Ideal.Hand

open Cert.Kernel2Ideal Cert.Kernel2Ideal.Gen Cert.NormSpec
open Idealize.ShloMosaic Idealize.ShloMosaic.TcCoe Idealize.ShloMosaic.StableHlo Idealize.SL.Sem

/-- The payload at a row and a column: the row's norm against the weights' column. -/
theorem pay_apply (i : grid0.Coords) (x0 x1 : Vec Ideal S256x1024 .f32) (g : Vec Ideal S1x1024 .f32) (m0 m1 : Vec Ideal S1x1x1x1024 .f32)
    (w : Vec Ideal S1024x3200 .bf16) (r : Fin 256) (j : Fin 3200) :
    (k0_pay1 i x0 x1 g m0 m1 w : S256x3200.Idx → EReal) (ix2 r j)
      = ∑ d : Fin 1024, normed (fun k => if (i 0).val < 32 then x0 (ix2 r k) else x1 (ix2 r k)) (fun k => g (ix2 (0 : Fin 1) k))
          (fun k => m1 (ix4 (0 : Fin 1) (0 : Fin 1) (0 : Fin 1) k)) (fun k => m0 (ix4 (0 : Fin 1) (0 : Fin 1) (0 : Fin 1) k)) d * w (ix2 d j) := by
  have hs : ∀ a b : EReal, Scalar.select (Scalar.cmpi .slt (BitVec.ofNat 32 (i 0).val) 32#32) a b = if (i 0).val < 32 then a else b := fun a b => by
    have hi : (i 0).val < 288 := (i 0).isLt
    have hb : (BitVec.ofNat 32 (i 0).val).slt 32#32 = decide ((i 0).val < 32) := by
      have e : (BitVec.ofNat 32 (i 0).val).toInt = ((i 0).val : Int) := by
        rw [BitVec.toInt_eq_toNat_of_lt (by rw [BitVec.toNat_ofNat]; omega), BitVec.toNat_ofNat, Nat.mod_eq_of_lt (by omega)]
      rw [BitVec.slt, e]
      exact decide_eq_decide.mpr (by show ((i 0).val : Int) < 32 ↔ _; omega)
    show Scalar.select (BitVec.ofBool ((BitVec.ofNat 32 (i 0).val).slt 32#32)) a b = _
    rw [hb]
    by_cases h : (i 0).val < 32 <;> simp only [h, decide_true, decide_false, if_true, if_false] <;> rfl
  unfold normed
  pointwise [k0_pay1]
  simp only [hs]

end Cert.Kernel2Ideal.Hand

end
-- ==== Proof.NormRef.lean ====
/- The reference's modulated norm and projection, element by element. -/
module

public import proofs.«01_k».proof.Proof.Gen.Reference2Ideal.Run
public import proofs.«01_k».proof.Proof.NormSpec
public import Idealize.ShloMosaic.Lib.Pointwise

@[expose] public section

noncomputable section

namespace Cert.Reference2Ideal.Hand

open Cert.Reference2Ideal Cert.Reference2Ideal.Gen Cert.NormSpec
open Idealize.ShloMosaic Idealize.ShloMosaic.TcCoe Idealize.ShloMosaic.StableHlo Idealize.SL.Sem

variable (X : FVec Ideal S32x2048x1024 .f32) (C : FVec Ideal S32x256x1024 .f32) (G : FVec Ideal S1024 .f32)
  (M : FVec Ideal S40x6x1x1024 .f32) (W : FVec Ideal S1024x3104 .f32)

/-- The context's modulated norm: every row by the row of modulations behind the samples'. -/
def uc : FVec Ideal S32x256x1024 .f32 :=
  addf (mulf (mulf (mulf C (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf C C) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 G))) (broadcastInDim S32x256x1024 ![0, 1, 2] bcast_S1x1x1024_S32x256x1024_0_1_2 (broadcastInDim S1x1x1024 ![1, 2] bcast_S1x1024_S1x1x1024_1_2 (addf (broadcastInDim S1x1024 ![] bcast_S_S1x1024 (constant S_ .f32 0x3F800000#32)) (shapeCast _ (extractStridedSlice S1x1x1x1024 ![32, 1, 0, 0] M slices_S40x6x1x1024_S1x1x1x1024_32_1_0_0) shapeCasts_S1x1x1x1024_S1x1024))))) (broadcastInDim S32x256x1024 ![0, 1, 2] bcast_S1x1x1024_S32x256x1024_0_1_2 (broadcastInDim S1x1x1024 ![1, 2] bcast_S1x1024_S1x1x1024_1_2 (shapeCast _ (extractStridedSlice S1x1x1x1024 ![32, 0, 0, 0] M slices_S40x6x1x1024_S1x1x1x1024_32_0_0_0) shapeCasts_S1x1x1x1024_S1x1024)))

/-- The samples' modulated norm: each sample by its own modulations. -/
def u : FVec Ideal S32x2048x1024 .f32 :=
  addf (mulf (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))) (broadcastInDim S32x2048x1024 ![0, 1, 2] bcast_S32x1x1024_S32x2048x1024_0_1_2 (addf (broadcastInDim S32x1x1024 ![] bcast_S_S32x1x1024 (constant S_ .f32 0x3F800000#32)) (shapeCast _ (extractStridedSlice S32x1x1x1024 ![0, 1, 0, 0] M slices_S40x6x1x1024_S32x1x1x1024_0_1_0_0) shapeCasts_S32x1x1x1024_S32x1x1024)))) (broadcastInDim S32x2048x1024 ![0, 1, 2] bcast_S32x1x1024_S32x2048x1024_0_1_2 (shapeCast _ (extractStridedSlice S32x1x1x1024 ![0, 0, 0, 0] M slices_S40x6x1x1024_S32x1x1x1024_0_0_0_0) shapeCasts_S32x1x1x1024_S32x1x1024))

/-- The two projections, the context's rows first. -/
def proj : FVec Ideal S73728x3104 .f32 :=
  concatenate S73728x3104 0 [⟨S8192x3104, shapeCast _ (Host.dotGeneral dot_S32x256x1024_S1024x3104_S32x256x3104_2_0_01_1_n_n none (uc C G M) W) shapeCasts_S32x256x3104_S8192x3104⟩,
    ⟨S65536x3104, shapeCast _ (Host.dotGeneral dot_S32x2048x1024_S1024x3104_S32x2048x3104_2_0_01_1_n_n none (u X G M) W) shapeCasts_S32x2048x3104_S65536x3104⟩] concatenates_S8192x3104_S65536x3104_S73728x3104_d0

/-- The columns in the kernel's order. -/
def ordered (p : FVec Ideal S73728x3104 .f32) : FVec Ideal S73728x3200 .bf16 :=
  truncf .bf16 (concatenate S73728x3200 1 [⟨S73728x1536, extractStridedSlice S73728x1536 ![0, 0] p slices_S73728x3104_S73728x1536_0_0⟩,
    ⟨S73728x1536, extractStridedSlice S73728x1536 ![0, 1568] p slices_S73728x3104_S73728x1536_0_1568⟩,
    ⟨S73728x32, extractStridedSlice S73728x32 ![0, 1536] p slices_S73728x3104_S73728x32_0_1536⟩,
    ⟨S73728x96, broadcastInDim S73728x96 ![] bcast_S_S73728x96 (constant S_ .f32 0x00000000#32)⟩] concatenates_S73728x1536_S73728x1536_S73728x32_S73728x96_S73728x3200_d1) bitsLt_bf16_f32

theorem uc_apply (b : Fin 32) (s : Fin 256) (d : Fin 1024) :
    uc C G M (ix3 b s d) = normed (fun k => C (ix3 b s k)) (fun k => G (ix1 k)) (fun k => M (ix4 (32 : Fin 40) (1 : Fin 6) (0 : Fin 1) k))
      (fun k => M (ix4 (32 : Fin 40) (0 : Fin 6) (0 : Fin 1) k)) d := by
  unfold normed
  pointwise [uc]

theorem u_apply (b : Fin 32) (s : Fin 2048) (d : Fin 1024) :
    u X G M (ix3 b s d) = normed (fun k => X (ix3 b s k)) (fun k => G (ix1 k)) (fun k => M (ix4 (⟨b.val, by omega⟩ : Fin 40) (1 : Fin 6) (0 : Fin 1) k))
      (fun k => M (ix4 (⟨b.val, by omega⟩ : Fin 40) (0 : Fin 6) (0 : Fin 1) k)) d := by
  unfold normed
  pointwise [u]

theorem ordered_apply (p : FVec Ideal S73728x3104 .f32) (i : Fin 73728) (j : Fin 3200) :
    (ordered p : S73728x3200.Idx → EReal) (ix2 i j) = packed (fun k => p (ix2 i k)) j := by
  refine Eq.trans ?_ (packed_pieces (fun k => p (ix2 i k)) j)
  pointwise [ordered]

theorem proj_ctx (b : Fin 32) (s : Fin 256) (j : Fin 3104) :
    proj X C G M W (ix2 (⟨b.val * 256 + s.val, by omega⟩ : Fin 73728) j) = ∑ d : Fin 1024, uc C G M (ix3 b s d) * W (ix2 d j) := by
  pointwise [proj]
  rw [dif_pos (by omega)]

theorem proj_lat (b : Fin 32) (s : Fin 2048) (j : Fin 3104) :
    proj X C G M W (ix2 (⟨8192 + b.val * 2048 + s.val, by omega⟩ : Fin 73728) j) = ∑ d : Fin 1024, u X G M (ix3 b s d) * W (ix2 d j) := by
  pointwise [proj]
  rw [dif_neg (by omega)]
  have eb : (8192 + b.val * 2048 + s.val - 8192) / 2048 = b.val := by omega
  have es : (8192 + b.val * 2048 + s.val - 8192) % 2048 = s.val := by omega
  simp only [eb, es]

set_option maxRecDepth 16384 in
theorem res_eq (m : (ℓ : Loc nD τ sig) → Buf (Elt Ideal) ℓ) (c : Dev nD) :
    Value.res_main_v58 m c = ordered (proj (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) := rfl

end Cert.Reference2Ideal.Hand

end
-- ==== Proof.NormClaim.lean ====
/- The projection call's array is the reference's, element by element, over the extended reals. -/
module

public import proofs.«01_k».proof.Defs
public import proofs.«01_k».proof.Proof.NormKernel
public import proofs.«01_k».proof.Proof.NormRef
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen Cert.NormSpec
open Idealize.ShloMosaic Idealize.ShloMosaic.TcCoe Idealize.ShloMosaic.StableHlo Idealize.SL.Sem

variable (m : (ℓ : Loc nD τ sig) → Buf (Elt Ideal) ℓ)

/-- The reference's array of the kernel's arguments. -/
abbrev goal (c : Dev nD) : S73728x3200.Idx → EReal :=
  Cert.Reference2Ideal.Hand.ordered (Cert.Reference2Ideal.Hand.proj (m ((c : Thread nD τ).loc main_arg0)) (m ((c : Thread nD τ).loc main_arg1))
    (m ((c : Thread nD τ).loc main_arg2)) (m ((c : Thread nD τ).loc main_arg3)) (m ((c : Thread nD τ).loc main_arg4)))

/-- Where each window's block lies at a grid point. -/
theorem idx : ∀ t : Fin cfg0.N, ((grid0.coords t) 0).val = t.val
    ∧ win0_0.index t = ![min t.val 31, 0] ∧ win0_1.index t = ![t.val - 32, 0] ∧ win0_2.index t = ![0, 0]
    ∧ win0_3.index t = ![if t.val < 32 then 32 else (t.val - 32) / 8, 0, 0, 0] ∧ win0_4.index t = ![0, 0] ∧ win0_5.index t = ![t.val, 0] :=
  (by decide +kernel : ∀ t : Fin grid0.N, ((grid0.coords t) 0).val = t.val
    ∧ win0_0.index t = ![min t.val 31, 0] ∧ win0_1.index t = ![t.val - 32, 0] ∧ win0_2.index t = ![0, 0]
    ∧ win0_3.index t = ![if t.val < 32 then 32 else (t.val - 32) / 8, 0, 0, 0] ∧ win0_4.index t = ![0, 0] ∧ win0_5.index t = ![t.val, 0])

/-- What the region finds in the arrays the host prepared. -/
theorem V_weights (c : Dev nD) (d : Fin 1024) (j : Fin 3200) :
    (V m c main_v7 : S1024x3200.Idx → EReal) (ix2 d j) = packed (fun k => (m ((c : Thread nD τ).loc main_arg4) : S1024x3104.Idx → EReal) (ix2 d k)) j := by
  have e : (V m c main_v7 : S1024x3200.Idx → EReal) = truncf (F := Ideal) .bf16 (concatenate S1024x3200 1
      [⟨S1024x1536, extractStridedSlice S1024x1536 ![0, 0] (m ((c : Thread nD τ).loc main_arg4)) slices_S1024x3104_S1024x1536_0_0⟩,
        ⟨S1024x1536, extractStridedSlice S1024x1536 ![0, 1568] (m ((c : Thread nD τ).loc main_arg4)) slices_S1024x3104_S1024x1536_0_1568⟩,
        ⟨S1024x32, extractStridedSlice S1024x32 ![0, 1536] (m ((c : Thread nD τ).loc main_arg4)) slices_S1024x3104_S1024x32_0_1536⟩,
        ⟨S1024x96, broadcastInDim S1024x96 ![] bcast_S_S1024x96 (constant S_ .f32 0x00000000#32)⟩]
      concatenates_S1024x1536_S1024x1536_S1024x32_S1024x96_S1024x3200_d1) bitsLt_bf16_f32 := by
    show StableHlo.after hostOps0 (fun b => m (c, b)) main_v7 = _
    after_results_simp <;> (try dsimp only [Matrix.cons_val]) <;> (try after_results_simp) <;> rfl
  rw [e]
  refine Eq.trans ?_ (packed_pieces _ j)
  pointwise

theorem V_ctx (c : Dev nD) (i : Fin 8192) (k : Fin 1024) :
    (V m c main_v0 : S8192x1024.Idx → EReal) (ix2 i k)
      = (m ((c : Thread nD τ).loc main_arg1) : S32x256x1024.Idx → EReal) (ix3 ⟨i.val / 256, by omega⟩ ⟨i.val % 256, by omega⟩ k) := by
  entry_read
  pointwise

theorem V_lat (c : Dev nD) (i : Fin 65536) (k : Fin 1024) :
    (V m c main_v1 : S65536x1024.Idx → EReal) (ix2 i k)
      = (m ((c : Thread nD τ).loc main_arg0) : S32x2048x1024.Idx → EReal) (ix3 ⟨i.val / 2048, by omega⟩ ⟨i.val % 2048, by omega⟩ k) := by
  entry_read
  pointwise

theorem V_gain (c : Dev nD) (k : Fin 1024) :
    (V m c main_v8 : S1x1024.Idx → EReal) (ix2 (0 : Fin 1) k) = (m ((c : Thread nD τ).loc main_arg2) : S1024.Idx → EReal) (ix1 k) := by
  entry_read
  pointwise

theorem blk_weights (c : Dev nD) (t : Fin cfg0.N) (d : Fin 1024) (j : Fin 3200) :
    (iblk m c 4 t : S1024x3200.Idx → EReal) (ix2 d j) = (V m c main_v7 : S1024x3200.Idx → EReal) (ix2 d j) := by
  generalize hV : V m c main_v7 = v
  unfold iblk
  blk_ext [hV, idx t]

theorem blk_gain (c : Dev nD) (t : Fin cfg0.N) (k : Fin 1024) :
    (iblk m c 2 t : S1x1024.Idx → EReal) (ix2 (0 : Fin 1) k) = (V m c main_v8 : S1x1024.Idx → EReal) (ix2 (0 : Fin 1) k) := by
  blk_ext [iblk, idx t]

theorem blk_ctx (c : Dev nD) (t : Fin cfg0.N) (r : Fin 256) (k : Fin 1024) :
    (iblk m c 0 t : S256x1024.Idx → EReal) (ix2 r k) = (V m c main_v0 : S8192x1024.Idx → EReal) (ix2 ⟨min t.val 31 * 256 + r.val, by omega⟩ k) := by
  blk_ext [iblk, idx t]

theorem blk_lat (c : Dev nD) (t : Fin cfg0.N) (r : Fin 256) (k : Fin 1024) :
    (iblk m c 1 t : S256x1024.Idx → EReal) (ix2 r k)
      = (V m c main_v1 : S65536x1024.Idx → EReal) (ix2 ⟨(t.val - 32) * 256 + r.val, by have := t.isLt; have : cfg0.N = 288 := rfl; omega⟩ k) := by
  blk_ext [iblk, idx t]

/-- The modulations' row of a grid point. -/
def modRow (t : ℕ) : ℕ := if t < 32 then 32 else (t - 32) / 8

theorem blk_shift (c : Dev nD) (t : Fin cfg0.N) (k : Fin 1024) (h : modRow t.val < 40) :
    (View.ld (iblk m c 3 t) r0_2 : S1x1x1x1024.Idx → EReal) (ix4 (0 : Fin 1) (0 : Fin 1) (0 : Fin 1) k)
      = (V m c main_arg3 : S40x6x1x1024.Idx → EReal) (ix4 ⟨modRow t.val, h⟩ (0 : Fin 6) (0 : Fin 1) k) := by
  refine Eq.trans (b := (iblk m c 3 t : S1x6x1x1024.Idx → EReal) (ix4 (0 : Fin 1) (0 : Fin 6) (0 : Fin 1) k)) (by pointwise) ?_
  unfold modRow at h ⊢
  blk_ext [iblk, idx t]

theorem blk_scale (c : Dev nD) (t : Fin cfg0.N) (k : Fin 1024) (h : modRow t.val < 40) :
    (View.ld (iblk m c 3 t) r0_3 : S1x1x1x1024.Idx → EReal) (ix4 (0 : Fin 1) (0 : Fin 1) (0 : Fin 1) k)
      = (V m c main_arg3 : S40x6x1x1024.Idx → EReal) (ix4 ⟨modRow t.val, h⟩ (1 : Fin 6) (0 : Fin 1) k) := by
  refine Eq.trans (b := (iblk m c 3 t : S1x6x1x1024.Idx → EReal) (ix4 (0 : Fin 1) (1 : Fin 6) (0 : Fin 1) k)) (by pointwise) ?_
  unfold modRow at h ⊢
  blk_ext [iblk, idx t]

/-! ## The blocks in the arguments' terms -/

theorem in_weights (c : Dev nD) (t : Fin cfg0.N) (d : Fin 1024) (j : Fin 3200) :
    (iblk m c 4 t : S1024x3200.Idx → EReal) (ix2 d j) = packed (fun k => (m ((c : Thread nD τ).loc main_arg4) : S1024x3104.Idx → EReal) (ix2 d k)) j :=
  (blk_weights m c t d j).trans (V_weights m c d j)

theorem in_gain (c : Dev nD) (t : Fin cfg0.N) (k : Fin 1024) :
    (iblk m c 2 t : S1x1024.Idx → EReal) (ix2 (0 : Fin 1) k) = (m ((c : Thread nD τ).loc main_arg2) : S1024.Idx → EReal) (ix1 k) :=
  (blk_gain m c t k).trans (V_gain m c k)

theorem in_ctx (c : Dev nD) (t : Fin cfg0.N) (r : Fin 256) (k : Fin 1024) (b : Fin 32) (hb : b.val = t.val) :
    (iblk m c 0 t : S256x1024.Idx → EReal) (ix2 r k) = (m ((c : Thread nD τ).loc main_arg1) : S32x256x1024.Idx → EReal) (ix3 b r k) := by
  refine (blk_ctx m c t r k).trans ((V_ctx m c _ k).trans ?_)
  have hr := r.isLt
  have hb' := b.isLt
  have e1 : (⟨(min t.val 31 * 256 + r.val) / 256, by omega⟩ : Fin 32) = b := Fin.ext (by show (min t.val 31 * 256 + r.val) / 256 = b.val; omega)
  have e2 : (⟨(min t.val 31 * 256 + r.val) % 256, by omega⟩ : Fin 256) = r := Fin.ext (by show (min t.val 31 * 256 + r.val) % 256 = r.val; omega)
  exact congrArg₂ (fun x y => (m ((c : Thread nD τ).loc main_arg1) : S32x256x1024.Idx → EReal) (ix3 x y k)) e1 e2

theorem in_lat (c : Dev nD) (t : Fin cfg0.N) (r : Fin 256) (k : Fin 1024) (b : Fin 32) (s : Fin 2048)
    (h : (t.val - 32) * 256 + r.val = b.val * 2048 + s.val) :
    (iblk m c 1 t : S256x1024.Idx → EReal) (ix2 r k) = (m ((c : Thread nD τ).loc main_arg0) : S32x2048x1024.Idx → EReal) (ix3 b s k) := by
  refine (blk_lat m c t r k).trans ((V_lat m c _ k).trans ?_)
  have hs := s.isLt
  have hb := b.isLt
  have e1 : (⟨((t.val - 32) * 256 + r.val) / 2048, by omega⟩ : Fin 32) = b := Fin.ext (by show ((t.val - 32) * 256 + r.val) / 2048 = b.val; omega)
  have e2 : (⟨((t.val - 32) * 256 + r.val) % 2048, by omega⟩ : Fin 2048) = s := Fin.ext (by show ((t.val - 32) * 256 + r.val) % 2048 = s.val; omega)
  exact congrArg₂ (fun x y => (m ((c : Thread nD τ).loc main_arg0) : S32x2048x1024.Idx → EReal) (ix3 x y k)) e1 e2

theorem in_shift (c : Dev nD) (t : Fin cfg0.N) (k : Fin 1024) (q : Fin 40) (h : q.val = modRow t.val) :
    (View.ld (iblk m c 3 t) r0_2 : S1x1x1x1024.Idx → EReal) (ix4 (0 : Fin 1) (0 : Fin 1) (0 : Fin 1) k)
      = (m ((c : Thread nD τ).loc main_arg3) : S40x6x1x1024.Idx → EReal) (ix4 q (0 : Fin 6) (0 : Fin 1) k) := by
  obtain ⟨q, hq⟩ := q
  subst h
  exact (blk_shift m c t k hq).trans (congrFun (V_main_arg3 m c) _)

theorem in_scale (c : Dev nD) (t : Fin cfg0.N) (k : Fin 1024) (q : Fin 40) (h : q.val = modRow t.val) :
    (View.ld (iblk m c 3 t) r0_3 : S1x1x1x1024.Idx → EReal) (ix4 (0 : Fin 1) (0 : Fin 1) (0 : Fin 1) k)
      = (m ((c : Thread nD τ).loc main_arg3) : S40x6x1x1024.Idx → EReal) (ix4 q (1 : Fin 6) (0 : Fin 1) k) := by
  obtain ⟨q, hq⟩ := q
  subst h
  exact (blk_scale m c t k hq).trans (congrFun (V_main_arg3 m c) _)

/-- What a grid point computes is the reference's array at the point's rows. -/
theorem point (c : Dev nD) (t : Fin cfg0.N) (r : Fin 256) (j : Fin 3200) :
    (k0_pay1 (grid0.coords t) (iblk m c 0 t) (iblk m c 1 t) (iblk m c 2 t) (View.ld (iblk m c 3 t) r0_2)
      (View.ld (iblk m c 3 t) r0_3) (iblk m c 4 t) : S256x3200.Idx → EReal) (ix2 r j)
      = goal m c (ix2 ⟨t.val * 256 + r.val, by have := t.isLt; have : cfg0.N = 288 := rfl; omega⟩ j) := by
  have ht : t.val < 288 := t.isLt
  have hr := r.isLt
  rw [pay_apply, goal, Cert.Reference2Ideal.Hand.ordered_apply]
  simp only [in_weights]
  rw [sum_packed]
  refine congrArg (fun f => packed f j) (funext fun k => ?_)
  rw [(idx t).1]
  simp only [in_gain]
  by_cases h : t.val < 32
  · have e1 : (32 : Fin 40).val = modRow t.val := by unfold modRow; rw [if_pos h]; rfl
    refine Eq.trans ?_ (Cert.Reference2Ideal.Hand.proj_ctx (m ((c : Thread nD τ).loc main_arg0)) (m ((c : Thread nD τ).loc main_arg1))
      (m ((c : Thread nD τ).loc main_arg2)) (m ((c : Thread nD τ).loc main_arg3)) (m ((c : Thread nD τ).loc main_arg4)) ⟨t.val, h⟩ r k).symm
    simp only [Cert.Reference2Ideal.Hand.uc_apply, h, if_true, fun d => in_ctx m c t r d ⟨t.val, h⟩ rfl, fun d => in_shift m c t d (32 : Fin 40) e1,
      fun d => in_scale m c t d (32 : Fin 40) e1]
  · have hb : (t.val - 32) / 8 < 32 := by omega
    have hs : (t.val - 32) % 8 * 256 + r.val < 2048 := by omega
    have e1 : (⟨(t.val - 32) / 8, by omega⟩ : Fin 40).val = modRow t.val := by unfold modRow; rw [if_neg h]
    have e0 : t.val * 256 + r.val = 8192 + (t.val - 32) / 8 * 2048 + ((t.val - 32) % 8 * 256 + r.val) := by omega
    have el : (t.val - 32) * 256 + r.val = (t.val - 32) / 8 * 2048 + ((t.val - 32) % 8 * 256 + r.val) := by omega
    simp only [e0]
    refine Eq.trans ?_ (Cert.Reference2Ideal.Hand.proj_lat (m ((c : Thread nD τ).loc main_arg0)) (m ((c : Thread nD τ).loc main_arg1))
      (m ((c : Thread nD τ).loc main_arg2)) (m ((c : Thread nD τ).loc main_arg3)) (m ((c : Thread nD τ).loc main_arg4))
      ⟨(t.val - 32) / 8, hb⟩ ⟨(t.val - 32) % 8 * 256 + r.val, hs⟩ k).symm
    simp only [Cert.Reference2Ideal.Hand.u_apply, h, if_false, fun d => in_lat m c t r d ⟨(t.val - 32) / 8, hb⟩ ⟨(t.val - 32) % 8 * 256 + r.val, hs⟩ el,
      fun d => in_shift m c t d ⟨(t.val - 32) / 8, by omega⟩ e1, fun d => in_scale m c t d ⟨(t.val - 32) / 8, by omega⟩ e1]

/-- The array after the run. -/
theorem final (c : Dev nD) : ((dats m 0 c).arrAt 5 cfg0.N : S73728x3200.Idx → EReal) = goal m c := by
  refine (dats m 0 c).arrAt_eq_of_covers 5 _ (by decide +kernel) fun t hf y => ?_
  blk_simp
  rw [after0_5]
  frame_out
  obtain ⟨r, j, rfl⟩ : ∃ (r : Fin 256) (j : Fin 3200), y = ix2 r j := ⟨y 0, y 1, eq_ix2 (n0 := 256) (n1 := 3200) y⟩
  refine (point m c t r j).trans (congrArg (goal m c) ?_)
  blk_ext [idx t]

end Cert.Kernel2Ideal.Hand

namespace Cert.Proof

open Idealize.ShloMosaic Idealize.ShloMosaic.TcCoe Idealize.SL.Sem

/-- The projection call's value claim. -/
theorem algebraic2 : Cert.algebraic_Kernel2Ideal_Reference2Ideal := fun m g m' g' _ hm => by
  refine ⟨fun c => Cert.Kernel2Ideal.Hand.goal m c, ?_, ?_⟩
  · exact (θ_run _ _ _).mono (fun r h c => (h c).imp_left fun e => e.trans (Cert.Kernel2Ideal.Hand.final m c)) (Cert.Kernel2Ideal.Value.run_blocks (F := Ideal) m g)
  · refine (θ_run _ _ _).mono (fun r h c => (h c).imp_left fun e => e.trans ?_) (Cert.Reference2Ideal.Value.run (F := Ideal) m' g')
    obtain ⟨e0, e1, e2, e3, e4⟩ := hm c
    rw [Cert.Reference2Ideal.Hand.res_eq, e0, e1, e2, e3, e4]

end Cert.Proof

end
-- ==== Proof.MixSpec.lean ====
/- One element of the gated output projection, over the extended reals. -/
module

public import Idealize.ShloMosaic.PureOps.Ideal
public import Idealize.ShloMosaic.Lib.IdealHost

@[expose] public section

noncomputable section

namespace Cert.MixSpec

open Idealize.ShloMosaic

/-- The stream's element plus the gate times the two halves' products. -/
def mixed (x g : EReal) (a b u v : Fin 512 → EReal) : EReal :=
  x + g * (∑ d : Fin 512, a d * u d + ∑ d : Fin 512, b d * v d)

/-- A product over both halves side by side is the sum of the halves' products. -/
theorem sum_halves (a b : Fin 512 → EReal) (w : Fin 1024 → EReal) :
    (∑ d : Fin 1024, (if h : d.val < 512 then a ⟨d.val, h⟩ else b ⟨d.val - 512, by omega⟩) * w d)
      = ∑ d : Fin 512, a d * w ⟨d.val, by omega⟩ + ∑ d : Fin 512, b d * w ⟨512 + d.val, by omega⟩ := by
  refine (Fin.sum_univ_add (a := 512) (b := 512) (fun d : Fin 1024 => (if h : d.val < 512 then a ⟨d.val, h⟩ else b ⟨d.val - 512, by omega⟩) * w d)).trans ?_
  refine congrArg₂ (· + ·) (Finset.sum_congr rfl fun d _ => ?_) (Finset.sum_congr rfl fun d _ => ?_)
  · have hd : (Fin.castAdd 512 d).val = d.val := rfl
    rw [dif_pos (by rw [hd]; exact d.isLt)]
    rfl
  · have hd : (Fin.natAdd 512 d).val = 512 + d.val := rfl
    rw [dif_neg (by rw [hd]; omega)]
    have e : (⟨(Fin.natAdd 512 d).val - 512, by rw [hd]; omega⟩ : Fin 512) = d := Fin.ext (by show (Fin.natAdd 512 d).val - 512 = d.val; rw [hd]; omega)
    exact congrArg (fun q => b q * w ⟨512 + d.val, by omega⟩) e

end Cert.MixSpec

end
-- ==== Proof.MixKernel.lean ====
/- What one block of the output projection's call computes. -/
module

public import proofs.«01_k».proof.Proof.Gen.Kernel3Ideal.Value
public import proofs.«01_k».proof.Proof.MixSpec
public import Idealize.ShloMosaic.Lib.Pointwise

@[expose] public section

noncomputable section

namespace Cert.Kernel3Ideal.Hand

open Cert.Kernel3Ideal Cert.Kernel3Ideal.Gen Cert.MixSpec
open Idealize.ShloMosaic Idealize.ShloMosaic.TcCoe Idealize.ShloMosaic.StableHlo Idealize.SL.Sem

/-- The payload at a row and a column: the rows of the context at the first 32 points, of the samples behind them. -/
theorem pay_apply (i : grid0.Coords) (a0 a1 b0 b1 : Vec Ideal S256x512 .bf16) (u v : Vec Ideal S512x1024 .bf16) (x0 x1 : Vec Ideal S256x1024 .f32)
    (g : Vec Ideal S1x1x1x1024 .f32) (r : Fin 256) (j : Fin 1024) :
    (k0_pay1 i a0 a1 b0 b1 u v x0 x1 g : S256x1024.Idx → EReal) (ix2 r j)
      = mixed (if (i 0).val < 32 then x0 (ix2 r j) else x1 (ix2 r j)) (g (ix4 (0 : Fin 1) (0 : Fin 1) (0 : Fin 1) j))
          (fun d => if (i 0).val < 32 then a0 (ix2 r d) else a1 (ix2 r d)) (fun d => if (i 0).val < 32 then b0 (ix2 r d) else b1 (ix2 r d))
          (fun d => u (ix2 d j)) (fun d => v (ix2 d j)) := by
  have hs : ∀ a b : EReal, Scalar.select (Scalar.cmpi .slt (BitVec.ofNat 32 (i 0).val) 32#32) a b = if (i 0).val < 32 then a else b := fun a b => by
    have hi : (i 0).val < 288 := (i 0).isLt
    have hb : (BitVec.ofNat 32 (i 0).val).slt 32#32 = decide ((i 0).val < 32) := by
      have e : (BitVec.ofNat 32 (i 0).val).toInt = ((i 0).val : Int) := by
        rw [BitVec.toInt_eq_toNat_of_lt (by rw [BitVec.toNat_ofNat]; omega), BitVec.toNat_ofNat, Nat.mod_eq_of_lt (by omega)]
      rw [BitVec.slt, e]
      exact decide_eq_decide.mpr (by show ((i 0).val : Int) < 32 ↔ _; omega)
    show Scalar.select (BitVec.ofBool ((BitVec.ofNat 32 (i 0).val).slt 32#32)) a b = _
    rw [hb]
    by_cases h : (i 0).val < 32 <;> simp only [h, decide_true, decide_false, if_true, if_false] <;> rfl
  unfold mixed
  pointwise [k0_pay1]
  simp only [hs]

end Cert.Kernel3Ideal.Hand

end
-- ==== Proof.MixRef.lean ====
/- The reference's output projection and gated sum, element by element. -/
module

public import proofs.«01_k».proof.Proof.Gen.Reference3Ideal.Run
public import proofs.«01_k».proof.Proof.MixSpec
public import Idealize.ShloMosaic.Lib.Pointwise

@[expose] public section

set_option maxRecDepth 16384

noncomputable section

namespace Cert.Reference3Ideal.Hand

open Cert.Reference3Ideal Cert.Reference3Ideal.Gen Cert.MixSpec
open Idealize.ShloMosaic Idealize.ShloMosaic.TcCoe Idealize.ShloMosaic.StableHlo Idealize.SL.Sem

variable (AL : FVec Ideal S32x2048x512 .f32) (AC : FVec Ideal S32x256x512 .f32) (BL : FVec Ideal S32x2048x512 .f32) (BC : FVec Ideal S32x256x512 .f32)
  (W : FVec Ideal S1024x1024 .f32) (X : FVec Ideal S32x2048x1024 .f32) (C : FVec Ideal S32x256x1024 .f32) (M : FVec Ideal S40x6x1x1024 .f32)

/-- The context's two halves side by side. -/
def joinC : FVec Ideal S32x256x1024 .f32 :=
  concatenate S32x256x1024 2 [⟨S32x256x512, AC⟩, ⟨S32x256x512, BC⟩] concatenates_S32x256x512_S32x256x512_S32x256x1024_d2

/-- The samples' two halves side by side. -/
def joinL : FVec Ideal S32x2048x1024 .f32 :=
  concatenate S32x2048x1024 2 [⟨S32x2048x512, AL⟩, ⟨S32x2048x512, BL⟩] concatenates_S32x2048x512_S32x2048x512_S32x2048x1024_d2

/-- The context's gated sum, of the halves side by side. -/
def gatedC (Y : FVec Ideal S32x256x1024 .f32) : FVec Ideal S32x256x1024 .f32 :=
  addf C (mulf (broadcastInDim S32x256x1024 ![0, 1, 2] bcast_S1x1x1024_S32x256x1024_0_1_2 (broadcastInDim S1x1x1024 ![1, 2] bcast_S1x1024_S1x1x1024_1_2 (shapeCast _ (extractStridedSlice S1x1x1x1024 ![32, 2, 0, 0] M slices_S40x6x1x1024_S1x1x1x1024_32_2_0_0) shapeCasts_S1x1x1x1024_S1x1024))) (Host.dotGeneral dot_S32x256x1024_S1024x1024_S32x256x1024_2_0_01_1_n_n none Y W))

/-- The samples' gated sum, of the halves side by side. -/
def gatedL (Y : FVec Ideal S32x2048x1024 .f32) : FVec Ideal S32x2048x1024 .f32 :=
  addf X (mulf (broadcastInDim S32x2048x1024 ![0, 1, 2] bcast_S32x1x1024_S32x2048x1024_0_1_2 (shapeCast _ (extractStridedSlice S32x1x1x1024 ![0, 2, 0, 0] M slices_S40x6x1x1024_S32x1x1x1024_0_2_0_0) shapeCasts_S32x1x1x1024_S32x1x1024)) (Host.dotGeneral dot_S32x2048x1024_S1024x1024_S32x2048x1024_2_0_01_1_n_n none Y W))

/-- The rows of both, the context's first. -/
def stack (P : FVec Ideal S32x256x1024 .f32) (Q : FVec Ideal S32x2048x1024 .f32) : FVec Ideal S73728x1024 .f32 :=
  concatenate S73728x1024 0 [⟨S8192x1024, shapeCast _ P shapeCasts_S32x256x1024_S8192x1024⟩,
    ⟨S65536x1024, shapeCast _ Q shapeCasts_S32x2048x1024_S65536x1024⟩] concatenates_S8192x1024_S65536x1024_S73728x1024_d0

/-- The two streams after the mixer. -/
def streams : FVec Ideal S73728x1024 .f32 :=
  stack (gatedC W C M (joinC AC BC)) (gatedL W X M (joinL AL BL))

theorem joinC_apply (b : Fin 32) (s : Fin 256) (d : Fin 1024) :
    joinC AC BC (ix3 b s d) = if h : d.val < 512 then AC (ix3 b s ⟨d.val, h⟩) else BC (ix3 b s ⟨d.val - 512, by omega⟩) := by
  pointwise [joinC]

theorem joinL_apply (b : Fin 32) (s : Fin 2048) (d : Fin 1024) :
    joinL AL BL (ix3 b s d) = if h : d.val < 512 then AL (ix3 b s ⟨d.val, h⟩) else BL (ix3 b s ⟨d.val - 512, by omega⟩) := by
  pointwise [joinL]

theorem gatedC_apply (Y : FVec Ideal S32x256x1024 .f32) (b : Fin 32) (s : Fin 256) (j : Fin 1024) :
    gatedC W C M Y (ix3 b s j) = C (ix3 b s j) + M (ix4 (32 : Fin 40) (2 : Fin 6) (0 : Fin 1) j) * ∑ d : Fin 1024, Y (ix3 b s d) * W (ix2 d j) := by
  pointwise [gatedC]

theorem gatedL_apply (Y : FVec Ideal S32x2048x1024 .f32) (b : Fin 32) (s : Fin 2048) (j : Fin 1024) :
    gatedL W X M Y (ix3 b s j) = X (ix3 b s j) + M (ix4 (⟨b.val, by omega⟩ : Fin 40) (2 : Fin 6) (0 : Fin 1) j) * ∑ d : Fin 1024, Y (ix3 b s d) * W (ix2 d j) := by
  pointwise [gatedL]

theorem stack_ctx (P : FVec Ideal S32x256x1024 .f32) (Q : FVec Ideal S32x2048x1024 .f32) (b : Fin 32) (s : Fin 256) (j : Fin 1024) :
    stack P Q (ix2 (⟨b.val * 256 + s.val, by omega⟩ : Fin 73728) j) = P (ix3 b s j) := by
  pointwise [stack]
  rw [dif_pos (by omega)]

theorem stack_lat (P : FVec Ideal S32x256x1024 .f32) (Q : FVec Ideal S32x2048x1024 .f32) (b : Fin 32) (s : Fin 2048) (j : Fin 1024) :
    stack P Q (ix2 (⟨8192 + b.val * 2048 + s.val, by omega⟩ : Fin 73728) j) = Q (ix3 b s j) := by
  pointwise [stack]
  rw [dif_neg (by omega)]
  have eb : (8192 + b.val * 2048 + s.val - 8192) / 2048 = b.val := by omega
  have es : (8192 + b.val * 2048 + s.val - 8192) % 2048 = s.val := by omega
  simp only [eb, es]

theorem streams_ctx (b : Fin 32) (s : Fin 256) (j : Fin 1024) :
    streams AL AC BL BC W X C M (ix2 (⟨b.val * 256 + s.val, by omega⟩ : Fin 73728) j)
      = mixed (C (ix3 b s j)) (M (ix4 (32 : Fin 40) (2 : Fin 6) (0 : Fin 1) j)) (fun d => AC (ix3 b s d)) (fun d => BC (ix3 b s d))
          (fun d => W (ix2 (⟨d.val, by omega⟩ : Fin 1024) j)) (fun d => W (ix2 (⟨512 + d.val, by omega⟩ : Fin 1024) j)) := by
  rw [streams, stack_ctx, gatedC_apply, mixed]
  refine congrArg (fun q => C (ix3 b s j) + M (ix4 (32 : Fin 40) (2 : Fin 6) (0 : Fin 1) j) * q) ?_
  refine (Finset.sum_congr rfl fun d _ => congrArg (· * W (ix2 d j)) (joinC_apply AC BC b s d)).trans ?_
  exact sum_halves (fun d => AC (ix3 b s d)) (fun d => BC (ix3 b s d)) (fun d => W (ix2 d j))

theorem streams_lat (b : Fin 32) (s : Fin 2048) (j : Fin 1024) :
    streams AL AC BL BC W X C M (ix2 (⟨8192 + b.val * 2048 + s.val, by omega⟩ : Fin 73728) j)
      = mixed (X (ix3 b s j)) (M (ix4 (⟨b.val, by omega⟩ : Fin 40) (2 : Fin 6) (0 : Fin 1) j)) (fun d => AL (ix3 b s d)) (fun d => BL (ix3 b s d))
          (fun d => W (ix2 (⟨d.val, by omega⟩ : Fin 1024) j)) (fun d => W (ix2 (⟨512 + d.val, by omega⟩ : Fin 1024) j)) := by
  rw [streams, stack_lat, gatedL_apply, mixed]
  refine congrArg (fun q => X (ix3 b s j) + M (ix4 (⟨b.val, by omega⟩ : Fin 40) (2 : Fin 6) (0 : Fin 1) j) * q) ?_
  refine (Finset.sum_congr rfl fun d _ => congrArg (· * W (ix2 d j)) (joinL_apply AL BL b s d)).trans ?_
  exact sum_halves (fun d => AL (ix3 b s d)) (fun d => BL (ix3 b s d)) (fun d => W (ix2 d j))

end Cert.Reference3Ideal.Hand

end
-- ==== Proof.MixClaim.lean ====
/- The output projection's array is the reference's, element by element, over the extended reals. -/
module

public import proofs.«01_k».proof.Defs
public import proofs.«01_k».proof.Proof.MixKernel
public import proofs.«01_k».proof.Proof.MixRef
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen Cert.MixSpec
open Idealize.ShloMosaic Idealize.ShloMosaic.TcCoe Idealize.ShloMosaic.StableHlo Idealize.SL.Sem

variable (m : (ℓ : Loc nD τ sig) → Buf (Elt Ideal) ℓ)

/-- The reference's array of the kernel's arguments. -/
abbrev goal (c : Dev nD) : S73728x1024.Idx → EReal :=
  Cert.Reference3Ideal.Hand.streams (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Where each window's block lies at a grid point. -/
theorem idx : ∀ t : Fin cfg0.N, ((grid0.coords t) 0).val = t.val
    ∧ win0_0.index t = ![min t.val 31, 0] ∧ win0_1.index t = ![t.val - 32, 0] ∧ win0_2.index t = ![min t.val 31, 0] ∧ win0_3.index t = ![t.val - 32, 0]
    ∧ win0_4.index t = ![0, 0] ∧ win0_5.index t = ![1, 0] ∧ win0_6.index t = ![min t.val 31, 0] ∧ win0_7.index t = ![t.val - 32, 0]
    ∧ win0_8.index t = ![if t.val < 32 then 32 else (t.val - 32) / 8, 0, 0, 0] ∧ win0_9.index t = ![t.val, 0] :=
  (by decide +kernel : ∀ t : Fin grid0.N, ((grid0.coords t) 0).val = t.val
    ∧ win0_0.index t = ![min t.val 31, 0] ∧ win0_1.index t = ![t.val - 32, 0] ∧ win0_2.index t = ![min t.val 31, 0] ∧ win0_3.index t = ![t.val - 32, 0]
    ∧ win0_4.index t = ![0, 0] ∧ win0_5.index t = ![1, 0] ∧ win0_6.index t = ![min t.val 31, 0] ∧ win0_7.index t = ![t.val - 32, 0]
    ∧ win0_8.index t = ![if t.val < 32 then 32 else (t.val - 32) / 8, 0, 0, 0] ∧ win0_9.index t = ![t.val, 0])

/-! ## What the region finds in the arrays the host prepared -/

theorem V_w (c : Dev nD) (d : Fin 1024) (j : Fin 1024) :
    (V m c main_v8 : S1024x1024.Idx → EReal) (ix2 d j) = (m ((c : Thread nD τ).loc main_arg4) : S1024x1024.Idx → EReal) (ix2 d j) := by
  entry_read
  pointwise

theorem V_ac (c : Dev nD) (i : Fin 8192) (k : Fin 512) :
    (V m c main_v1 : S8192x512.Idx → EReal) (ix2 i k)
      = (m ((c : Thread nD τ).loc main_arg1) : S32x256x512.Idx → EReal) (ix3 ⟨i.val / 256, by omega⟩ ⟨i.val % 256, by omega⟩ k) := by
  entry_read
  pointwise

theorem V_al (c : Dev nD) (i : Fin 65536) (k : Fin 512) :
    (V m c main_v3 : S65536x512.Idx → EReal) (ix2 i k)
      = (m ((c : Thread nD τ).loc main_arg0) : S32x2048x512.Idx → EReal) (ix3 ⟨i.val / 2048, by omega⟩ ⟨i.val % 2048, by omega⟩ k) := by
  entry_read
  pointwise

theorem V_bc (c : Dev nD) (i : Fin 8192) (k : Fin 512) :
    (V m c main_v5 : S8192x512.Idx → EReal) (ix2 i k)
      = (m ((c : Thread nD τ).loc main_arg3) : S32x256x512.Idx → EReal) (ix3 ⟨i.val / 256, by omega⟩ ⟨i.val % 256, by omega⟩ k) := by
  entry_read
  pointwise

theorem V_bl (c : Dev nD) (i : Fin 65536) (k : Fin 512) :
    (V m c main_v7 : S65536x512.Idx → EReal) (ix2 i k)
      = (m ((c : Thread nD τ).loc main_arg2) : S32x2048x512.Idx → EReal) (ix3 ⟨i.val / 2048, by omega⟩ ⟨i.val % 2048, by omega⟩ k) := by
  entry_read
  pointwise

theorem V_xc (c : Dev nD) (i : Fin 8192) (k : Fin 1024) :
    (V m c main_v9 : S8192x1024.Idx → EReal) (ix2 i k)
      = (m ((c : Thread nD τ).loc main_arg6) : S32x256x1024.Idx → EReal) (ix3 ⟨i.val / 256, by omega⟩ ⟨i.val % 256, by omega⟩ k) := by
  entry_read
  pointwise

theorem V_xl (c : Dev nD) (i : Fin 65536) (k : Fin 1024) :
    (V m c main_v10 : S65536x1024.Idx → EReal) (ix2 i k)
      = (m ((c : Thread nD τ).loc main_arg5) : S32x2048x1024.Idx → EReal) (ix3 ⟨i.val / 2048, by omega⟩ ⟨i.val % 2048, by omega⟩ k) := by
  entry_read
  pointwise

/-! ## The blocks -/

theorem in_u (c : Dev nD) (t : Fin cfg0.N) (d : Fin 512) (j : Fin 1024) :
    (iblk m c 4 t : S512x1024.Idx → EReal) (ix2 d j) = (m ((c : Thread nD τ).loc main_arg4) : S1024x1024.Idx → EReal) (ix2 ⟨d.val, by omega⟩ j) := by
  refine Eq.trans (b := (V m c main_v8 : S1024x1024.Idx → EReal) (ix2 ⟨d.val, by omega⟩ j)) ?_ (V_w m c _ j)
  blk_ext [iblk, idx t]

theorem in_v (c : Dev nD) (t : Fin cfg0.N) (d : Fin 512) (j : Fin 1024) :
    (iblk m c 5 t : S512x1024.Idx → EReal) (ix2 d j) = (m ((c : Thread nD τ).loc main_arg4) : S1024x1024.Idx → EReal) (ix2 ⟨512 + d.val, by omega⟩ j) := by
  refine Eq.trans (b := (V m c main_v8 : S1024x1024.Idx → EReal) (ix2 ⟨512 + d.val, by omega⟩ j)) ?_ (V_w m c _ j)
  blk_ext [iblk, idx t]

theorem in_ac (c : Dev nD) (t : Fin cfg0.N) (r : Fin 256) (k : Fin 512) (b : Fin 32) (hb : b.val = t.val) :
    (iblk m c 0 t : S256x512.Idx → EReal) (ix2 r k) = (m ((c : Thread nD τ).loc main_arg1) : S32x256x512.Idx → EReal) (ix3 b r k) := by
  have hr := r.isLt
  have hb' := b.isLt
  refine Eq.trans (b := (V m c main_v1 : S8192x512.Idx → EReal) (ix2 ⟨min t.val 31 * 256 + r.val, by omega⟩ k)) (by blk_ext [iblk, idx t])
    ((V_ac m c _ k).trans ?_)
  have e1 : (⟨(min t.val 31 * 256 + r.val) / 256, by omega⟩ : Fin 32) = b := Fin.ext (by show (min t.val 31 * 256 + r.val) / 256 = b.val; omega)
  have e2 : (⟨(min t.val 31 * 256 + r.val) % 256, by omega⟩ : Fin 256) = r := Fin.ext (by show (min t.val 31 * 256 + r.val) % 256 = r.val; omega)
  exact congrArg₂ (fun x y => (m ((c : Thread nD τ).loc main_arg1) : S32x256x512.Idx → EReal) (ix3 x y k)) e1 e2

theorem in_al (c : Dev nD) (t : Fin cfg0.N) (r : Fin 256) (k : Fin 512) (b : Fin 32) (s : Fin 2048)
    (h : (t.val - 32) * 256 + r.val = b.val * 2048 + s.val) :
    (iblk m c 1 t : S256x512.Idx → EReal) (ix2 r k) = (m ((c : Thread nD τ).loc main_arg0) : S32x2048x512.Idx → EReal) (ix3 b s k) := by
  have hs := s.isLt
  have hb := b.isLt
  refine Eq.trans (b := (V m c main_v3 : S65536x512.Idx → EReal) (ix2 ⟨(t.val - 32) * 256 + r.val, by omega⟩ k)) (by blk_ext [iblk, idx t])
    ((V_al m c _ k).trans ?_)
  have e1 : (⟨((t.val - 32) * 256 + r.val) / 2048, by omega⟩ : Fin 32) = b := Fin.ext (by show ((t.val - 32) * 256 + r.val) / 2048 = b.val; omega)
  have e2 : (⟨((t.val - 32) * 256 + r.val) % 2048, by omega⟩ : Fin 2048) = s := Fin.ext (by show ((t.val - 32) * 256 + r.val) % 2048 = s.val; omega)
  exact congrArg₂ (fun x y => (m ((c : Thread nD τ).loc main_arg0) : S32x2048x512.Idx → EReal) (ix3 x y k)) e1 e2

theorem in_bc (c : Dev nD) (t : Fin cfg0.N) (r : Fin 256) (k : Fin 512) (b : Fin 32) (hb : b.val = t.val) :
    (iblk m c 2 t : S256x512.Idx → EReal) (ix2 r k) = (m ((c : Thread nD τ).loc main_arg3) : S32x256x512.Idx → EReal) (ix3 b r k) := by
  have hr := r.isLt
  have hb' := b.isLt
  refine Eq.trans (b := (V m c main_v5 : S8192x512.Idx → EReal) (ix2 ⟨min t.val 31 * 256 + r.val, by omega⟩ k)) (by blk_ext [iblk, idx t])
    ((V_bc m c _ k).trans ?_)
  have e1 : (⟨(min t.val 31 * 256 + r.val) / 256, by omega⟩ : Fin 32) = b := Fin.ext (by show (min t.val 31 * 256 + r.val) / 256 = b.val; omega)
  have e2 : (⟨(min t.val 31 * 256 + r.val) % 256, by omega⟩ : Fin 256) = r := Fin.ext (by show (min t.val 31 * 256 + r.val) % 256 = r.val; omega)
  exact congrArg₂ (fun x y => (m ((c : Thread nD τ).loc main_arg3) : S32x256x512.Idx → EReal) (ix3 x y k)) e1 e2

theorem in_bl (c : Dev nD) (t : Fin cfg0.N) (r : Fin 256) (k : Fin 512) (b : Fin 32) (s : Fin 2048)
    (h : (t.val - 32) * 256 + r.val = b.val * 2048 + s.val) :
    (iblk m c 3 t : S256x512.Idx → EReal) (ix2 r k) = (m ((c : Thread nD τ).loc main_arg2) : S32x2048x512.Idx → EReal) (ix3 b s k) := by
  have hs := s.isLt
  have hb := b.isLt
  refine Eq.trans (b := (V m c main_v7 : S65536x512.Idx → EReal) (ix2 ⟨(t.val - 32) * 256 + r.val, by omega⟩ k)) (by blk_ext [iblk, idx t])
    ((V_bl m c _ k).trans ?_)
  have e1 : (⟨((t.val - 32) * 256 + r.val) / 2048, by omega⟩ : Fin 32) = b := Fin.ext (by show ((t.val - 32) * 256 + r.val) / 2048 = b.val; omega)
  have e2 : (⟨((t.val - 32) * 256 + r.val) % 2048, by omega⟩ : Fin 2048) = s := Fin.ext (by show ((t.val - 32) * 256 + r.val) % 2048 = s.val; omega)
  exact congrArg₂ (fun x y => (m ((c : Thread nD τ).loc main_arg2) : S32x2048x512.Idx → EReal) (ix3 x y k)) e1 e2

theorem in_xc (c : Dev nD) (t : Fin cfg0.N) (r : Fin 256) (k : Fin 1024) (b : Fin 32) (hb : b.val = t.val) :
    (iblk m c 6 t : S256x1024.Idx → EReal) (ix2 r k) = (m ((c : Thread nD τ).loc main_arg6) : S32x256x1024.Idx → EReal) (ix3 b r k) := by
  have hr := r.isLt
  have hb' := b.isLt
  refine Eq.trans (b := (V m c main_v9 : S8192x1024.Idx → EReal) (ix2 ⟨min t.val 31 * 256 + r.val, by omega⟩ k)) (by blk_ext [iblk, idx t])
    ((V_xc m c _ k).trans ?_)
  have e1 : (⟨(min t.val 31 * 256 + r.val) / 256, by omega⟩ : Fin 32) = b := Fin.ext (by show (min t.val 31 * 256 + r.val) / 256 = b.val; omega)
  have e2 : (⟨(min t.val 31 * 256 + r.val) % 256, by omega⟩ : Fin 256) = r := Fin.ext (by show (min t.val 31 * 256 + r.val) % 256 = r.val; omega)
  exact congrArg₂ (fun x y => (m ((c : Thread nD τ).loc main_arg6) : S32x256x1024.Idx → EReal) (ix3 x y k)) e1 e2

theorem in_xl (c : Dev nD) (t : Fin cfg0.N) (r : Fin 256) (k : Fin 1024) (b : Fin 32) (s : Fin 2048)
    (h : (t.val - 32) * 256 + r.val = b.val * 2048 + s.val) :
    (iblk m c 7 t : S256x1024.Idx → EReal) (ix2 r k) = (m ((c : Thread nD τ).loc main_arg5) : S32x2048x1024.Idx → EReal) (ix3 b s k) := by
  have hs := s.isLt
  have hb := b.isLt
  refine Eq.trans (b := (V m c main_v10 : S65536x1024.Idx → EReal) (ix2 ⟨(t.val - 32) * 256 + r.val, by omega⟩ k)) (by blk_ext [iblk, idx t])
    ((V_xl m c _ k).trans ?_)
  have e1 : (⟨((t.val - 32) * 256 + r.val) / 2048, by omega⟩ : Fin 32) = b := Fin.ext (by show ((t.val - 32) * 256 + r.val) / 2048 = b.val; omega)
  have e2 : (⟨((t.val - 32) * 256 + r.val) % 2048, by omega⟩ : Fin 2048) = s := Fin.ext (by show ((t.val - 32) * 256 + r.val) % 2048 = s.val; omega)
  exact congrArg₂ (fun x y => (m ((c : Thread nD τ).loc main_arg5) : S32x2048x1024.Idx → EReal) (ix3 x y k)) e1 e2

/-- The modulations' row of a grid point. -/
def modRow (t : ℕ) : ℕ := if t < 32 then 32 else (t - 32) / 8

theorem in_gate (c : Dev nD) (t : Fin cfg0.N) (k : Fin 1024) (q : Fin 40) (h : q.val = modRow t.val) :
    (View.ld (iblk m c 8 t) r0_3 : S1x1x1x1024.Idx → EReal) (ix4 (0 : Fin 1) (0 : Fin 1) (0 : Fin 1) k)
      = (m ((c : Thread nD τ).loc main_arg7) : S40x6x1x1024.Idx → EReal) (ix4 q (2 : Fin 6) (0 : Fin 1) k) := by
  obtain ⟨q, hq⟩ := q
  subst h
  refine Eq.trans (b := (V m c main_arg7 : S40x6x1x1024.Idx → EReal) (ix4 ⟨modRow t.val, hq⟩ (2 : Fin 6) (0 : Fin 1) k)) ?_ (congrFun (V_main_arg7 m c) _)
  refine Eq.trans (b := (iblk m c 8 t : S1x6x1x1024.Idx → EReal) (ix4 (0 : Fin 1) (2 : Fin 6) (0 : Fin 1) k)) (by pointwise) ?_
  unfold modRow at hq ⊢
  blk_ext [iblk, idx t]

/-- What a grid point computes is the reference's array at the point's rows. -/
theorem point (c : Dev nD) (t : Fin cfg0.N) (r : Fin 256) (j : Fin 1024) :
    (k0_pay1 (grid0.coords t) (iblk m c 0 t) (iblk m c 1 t) (iblk m c 2 t) (iblk m c 3 t) (iblk m c 4 t) (iblk m c 5 t) (iblk m c 6 t) (iblk m c 7 t)
      (View.ld (iblk m c 8 t) r0_3) : S256x1024.Idx → EReal) (ix2 r j)
      = goal m c (ix2 ⟨t.val * 256 + r.val, by have := t.isLt; have : cfg0.N = 288 := rfl; omega⟩ j) := by
  have ht : t.val < 288 := t.isLt
  have hr := r.isLt
  rw [pay_apply, goal, (idx t).1]
  simp only [in_u, in_v]
  by_cases h : t.val < 32
  · have e1 : (32 : Fin 40).val = modRow t.val := by unfold modRow; rw [if_pos h]; rfl
    refine Eq.trans ?_ (Cert.Reference3Ideal.Hand.streams_ctx (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) ⟨t.val, h⟩ r j).symm
    simp only [h, if_true, fun d => in_ac m c t r d ⟨t.val, h⟩ rfl, fun d => in_bc m c t r d ⟨t.val, h⟩ rfl, fun d => in_xc m c t r d ⟨t.val, h⟩ rfl,
      fun d => in_gate m c t d (32 : Fin 40) e1]
  · have hb : (t.val - 32) / 8 < 32 := by omega
    have hs : (t.val - 32) % 8 * 256 + r.val < 2048 := by omega
    have e1 : (⟨(t.val - 32) / 8, by omega⟩ : Fin 40).val = modRow t.val := by unfold modRow; rw [if_neg h]
    have e0 : t.val * 256 + r.val = 8192 + (t.val - 32) / 8 * 2048 + ((t.val - 32) % 8 * 256 + r.val) := by omega
    have el : (t.val - 32) * 256 + r.val = (t.val - 32) / 8 * 2048 + ((t.val - 32) % 8 * 256 + r.val) := by omega
    simp only [e0]
    refine Eq.trans ?_ (Cert.Reference3Ideal.Hand.streams_lat (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
      ⟨(t.val - 32) / 8, hb⟩ ⟨(t.val - 32) % 8 * 256 + r.val, hs⟩ j).symm
    simp only [h, if_false, fun d => in_al m c t r d ⟨(t.val - 32) / 8, hb⟩ ⟨(t.val - 32) % 8 * 256 + r.val, hs⟩ el,
      fun d => in_bl m c t r d ⟨(t.val - 32) / 8, hb⟩ ⟨(t.val - 32) % 8 * 256 + r.val, hs⟩ el,
      fun d => in_xl m c t r d ⟨(t.val - 32) / 8, hb⟩ ⟨(t.val - 32) % 8 * 256 + r.val, hs⟩ el, fun d => in_gate m c t d ⟨(t.val - 32) / 8, by omega⟩ e1]

/-- The array after the run. -/
theorem final (c : Dev nD) : ((dats m 0 c).arrAt 9 cfg0.N : S73728x1024.Idx → EReal) = goal m c := by
  refine (dats m 0 c).arrAt_eq_of_covers 9 _ (by decide +kernel) fun t hf y => ?_
  blk_simp
  rw [after0_9]
  frame_out
  obtain ⟨r, j, rfl⟩ : ∃ (r : Fin 256) (j : Fin 1024), y = ix2 r j := ⟨y 0, y 1, eq_ix2 (n0 := 256) (n1 := 1024) y⟩
  refine (point m c t r j).trans (congrArg (goal m c) ?_)
  blk_ext [idx t]

end Cert.Kernel3Ideal.Hand

namespace Cert.Proof

open Idealize.ShloMosaic Idealize.ShloMosaic.TcCoe Idealize.SL.Sem

/-- The output projection's value claim. -/
theorem algebraic3 : Cert.algebraic_Kernel3Ideal_Reference3Ideal := fun m g m' g' _ hm => by
  refine ⟨fun c => Cert.Kernel3Ideal.Hand.goal m c, ?_, ?_⟩
  · exact (θ_run _ _ _).mono (fun r h c => (h c).imp_left fun e => e.trans (Cert.Kernel3Ideal.Hand.final m c)) (Cert.Kernel3Ideal.Value.run_blocks (F := Ideal) m g)
  · refine (θ_run _ _ _).mono (fun r h c => (h c).imp_left fun e => e.trans ?_) (Cert.Reference3Ideal.Value.run (F := Ideal) m' g')
    obtain ⟨e0, e1, e2, e3, e4, e5, e6, e7⟩ := hm c
    rw [e0, e1, e2, e3, e4, e5, e6, e7]
    rfl

end Cert.Proof

end
-- ==== Proof.ConvKernel.lean ====
/- What one block of the short convolution's call computes. -/
module

public import proofs.«01_k».proof.Proof.Gen.Kernel4Ideal.Value
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.StableHlo Idealize.SL.Sem

/-! ## The flags of a sequence's first and last block -/

def firstBit (n : ℕ) : BitVec 1 :=
  let arg0 : BitVec 32 := BitVec.ofNat 32 n
  let v0 : BitVec 1 := Scalar.cmpi .eq 1#32 0#32
  let v1 : BitVec 32 := Scalar.select v0 1#32 1#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg0 32#32
  let v11 : BitVec 1 := Scalar.cmpi .eq 8#32 0#32
  let v12 : BitVec 32 := Scalar.select v11 1#32 8#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  let v21 : BitVec 1 := Scalar.cmpi .slt arg0 32#32
  let v22 : BitVec 1 := Scalar.cmpi .eq v9 0#32
  let v23 : BitVec 1 := Scalar.cmpi .eq v20 0#32
  let v24 : BitVec 1 := Scalar.select v21 v22 v23
  v24

def lastBit (n : ℕ) : BitVec 1 :=
  let arg0 : BitVec 32 := BitVec.ofNat 32 n
  let v0 : BitVec 1 := Scalar.cmpi .eq 1#32 0#32
  let v1 : BitVec 32 := Scalar.select v0 1#32 1#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg0 32#32
  let v11 : BitVec 1 := Scalar.cmpi .eq 8#32 0#32
  let v12 : BitVec 32 := Scalar.select v11 1#32 8#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  let v21 : BitVec 1 := Scalar.cmpi .slt arg0 32#32
  let v25 : BitVec 1 := Scalar.cmpi .eq v9 0#32
  let v26 : BitVec 1 := Scalar.cmpi .eq v20 7#32
  let v27 : BitVec 1 := Scalar.select v21 v25 v26
  v27

theorem firstBit_eq : ∀ n : Fin 288, firstBit n.val = if n.val < 32 ∨ (n.val - 32) % 8 = 0 then 1#1 else 0#1 := by decide +kernel

theorem lastBit_eq : ∀ n : Fin 288, lastBit n.val = if n.val < 32 ∨ (n.val - 32) % 8 = 7 then 1#1 else 0#1 := by decide +kernel

theorem pay2_eq (i : grid0.Coords) : k0_pay2 (F := Ideal) i = (if (i 0).val < 32 ∨ ((i 0).val - 32) % 8 = 0 then (0 : EReal) else 1) := by
  have e : k0_pay2 (F := Ideal) i = (Scalar.select (firstBit (i 0).val) (Ideal.ofBits .f32 0x00000000#32) (Ideal.ofBits .f32 0x3F800000#32) : EReal) := rfl
  rw [e, firstBit_eq ⟨(i 0).val, (i 0).isLt⟩]
  dsimp only
  split
  · show Ideal.ofBits .f32 0x00000000#32 = 0
    simp
  · show Ideal.ofBits .f32 0x3F800000#32 = 1
    simp

theorem pay3_eq (i : grid0.Coords) : k0_pay3 (F := Ideal) i = (if (i 0).val < 32 ∨ ((i 0).val - 32) % 8 = 7 then (0 : EReal) else 1) := by
  have e : k0_pay3 (F := Ideal) i = (Scalar.select (lastBit (i 0).val) (Ideal.ofBits .f32 0x00000000#32) (Ideal.ofBits .f32 0x3F800000#32) : EReal) := rfl
  rw [e, lastBit_eq ⟨(i 0).val, (i 0).isLt⟩]
  dsimp only
  split
  · show Ideal.ofBits .f32 0x00000000#32 = 0
    simp
  · show Ideal.ofBits .f32 0x3F800000#32 = 1
    simp

/-! ## The payloads, element by element -/

theorem isFirst : ∀ r : Fin 256, IntOp.cmpi CmpIPredicate.eq (BitVec.ofNat 32 r.val) 0#32 = if r.val = 0 then 1#1 else 0#1 := by decide +kernel

theorem isLast : ∀ r : Fin 256, IntOp.cmpi CmpIPredicate.eq (BitVec.ofNat 32 r.val) 255#32 = if r.val = 255 then 1#1 else 0#1 := by decide +kernel

theorem pay5_apply (x : Vec Ideal S256x1024 .bf16) (y : Vec Ideal S256x1024 .bf16) (r : Fin 256) (d : Fin 1024) :
    (k0_pay5 (k0_pay4 x) y : S256x1024.Idx → EReal) (ix2 r d) = x (ix2 r d) * y (ix2 r d) := by
  pointwise [k0_pay5, k0_pay4]

theorem pay6_apply (x : Vec Ideal S256x1024 .bf16) (r : Fin 256) (d : Fin 1024) :
    (k0_pay6 x : S256x1024.Idx → EReal) (ix2 r d) = x (ix2 r d) := by
  pointwise [k0_pay6]

theorem pay8_apply (k : EReal) (x y : Vec Ideal S256x1024 .bf16) (xp yp : Vec Ideal S1x1024 .bf16) (w : Vec Ideal S1x1024 .f32) (r : Fin 256) (d : Fin 1024) :
    (k0_pay8 k (k0_pay4 x) y xp yp w : S256x1024.Idx → EReal) (ix2 r d)
      = w (ix2 (0 : Fin 1) d) * (if h : r.val = 0 then xp (ix2 (0 : Fin 1) d) * yp (ix2 (0 : Fin 1) d) * k
          else x (ix2 ⟨r.val - 1, by omega⟩ d) * y (ix2 ⟨r.val - 1, by omega⟩ d)) := by
  pointwise [k0_pay8, k0_pay5, k0_pay4]
  rw [isFirst r]
  refine congrArg (w (ix2 (0 : Fin 1) d) * ·) ?_
  by_cases h : r.val = 0
  · rw [if_pos h, dif_pos h]
    rfl
  · rw [if_neg h, dif_neg h]
    have e : (⟨(r.val + 256 - 1) % 256, Nat.mod_lt _ (by omega)⟩ : Fin 256) = ⟨r.val - 1, by omega⟩ := Fin.ext (by show (r.val + 256 - 1) % 256 = r.val - 1; omega)
    exact congrArg (fun q : Fin 256 => x (ix2 q d) * y (ix2 q d)) e

theorem pay7_apply (k : EReal) (x y : Vec Ideal S256x1024 .bf16) (xn yn : Vec Ideal S1x1024 .bf16) (r : Fin 256) (d : Fin 1024) :
    (k0_pay7 k (k0_pay4 x) y xn yn : S256x1024.Idx → EReal) (ix2 r d)
      = if h : r.val = 255 then xn (ix2 (0 : Fin 1) d) * yn (ix2 (0 : Fin 1) d) * k
          else x (ix2 ⟨r.val + 1, by omega⟩ d) * y (ix2 ⟨r.val + 1, by omega⟩ d) := by
  pointwise [k0_pay7, k0_pay5, k0_pay4]
  rw [isLast r]
  by_cases h : r.val = 255
  · rw [if_pos h, dif_pos h]
    rfl
  · rw [if_neg h, dif_neg h]
    have e : (⟨(r.val + 256 - 255) % 256, Nat.mod_lt _ (by omega)⟩ : Fin 256) = ⟨r.val + 1, by omega⟩ := Fin.ext (by show (r.val + 256 - 255) % 256 = r.val + 1; omega)
    exact congrArg (fun q : Fin 256 => x (ix2 q d) * y (ix2 q d)) e

theorem pay1_apply (v36 v57 v70 v73 : FVec Ideal S256x1024 .f32) (w1 w2 : Vec Ideal S1x1024 .f32) (x : Vec Ideal S256x1024 .f32)
    (g : Vec Ideal S1x1x1x1024 .f32) (w : Vec Ideal S1024x1024 .bf16) (r : Fin 256) (j : Fin 1024) :
    (k0_pay1 v36 v57 v70 v73 w1 w2 x g w : S256x1024.Idx → EReal) (ix2 r j)
      = x (ix2 r j) + g (ix4 (0 : Fin 1) (0 : Fin 1) (0 : Fin 1) j)
          * ∑ d : Fin 1024, v57 (ix2 r d) * (v73 (ix2 r d) + w1 (ix2 (0 : Fin 1) d) * v36 (ix2 r d) + w2 (ix2 (0 : Fin 1) d) * v70 (ix2 r d)) * w (ix2 d j) := by
  pointwise [k0_pay1]

end Cert.Kernel4Ideal.Hand

end
-- ==== Proof.ConvSpec.lean ====
/- One element of the short convolution mixer's gated sum, over the extended reals. -/
module

public import Idealize.ShloMosaic.PureOps.Ideal
public import Idealize.ShloMosaic.Lib.IdealHost

@[expose] public section

noncomputable section

namespace Cert.ConvSpec

open Idealize.ShloMosaic

/-- The convolved product at a position: the second part of the columns times the third. -/
def tap {L : ℕ} (p : Fin L → Fin 3072 → EReal) (s : Fin L) (d : Fin 1024) : EReal :=
  p s ⟨1024 + d.val, by omega⟩ * p s ⟨2048 + d.val, by omega⟩

/-- The stream's element plus the gate times the projected convolution of one sequence at position `s`, nothing beyond its ends. -/
def mixed {L : ℕ} (p : Fin L → Fin 3072 → EReal) (k : Fin 3 → Fin 1024 → EReal) (x g : EReal) (s : Fin L) (w : Fin 1024 → EReal) : EReal :=
  x + g * ∑ d : Fin 1024, p s ⟨d.val, by omega⟩
    * (k 0 d * (if h : s.val = 0 then 0 else tap p ⟨s.val - 1, by omega⟩ d) + k 1 d * tap p s d
      + k 2 d * (if h : s.val + 1 = L then 0 else tap p ⟨s.val + 1, by omega⟩ d)) * w d

end Cert.ConvSpec

end
-- ==== Proof.ConvRef.lean ====
/- The reference's short convolution mixer and gated sum, element by element. -/
module

public import proofs.«01_k».proof.Proof.Gen.Reference4Ideal.Run
public import proofs.«01_k».proof.Proof.ConvSpec
public import Idealize.ShloMosaic.Lib.Pointwise

@[expose] public section

set_option maxRecDepth 16384

noncomputable section

namespace Cert.Reference4Ideal.Hand

open Cert.Reference4Ideal Cert.Reference4Ideal.Gen Cert.ConvSpec
open Idealize.ShloMosaic Idealize.ShloMosaic.TcCoe Idealize.ShloMosaic.StableHlo Idealize.SL.Sem

variable (PL : FVec Ideal S32x2048x3072 .f32) (PC : FVec Ideal S32x256x3072 .f32) (K : FVec Ideal S3x1024 .f32) (W : FVec Ideal S1024x1024 .f32)
  (X : FVec Ideal S32x2048x1024 .f32) (C : FVec Ideal S32x256x1024 .f32) (M : FVec Ideal S40x6x1x1024 .f32)

/-- The product of the second and the third part, with a row of zeros at each end. -/
def padC : FVec Ideal S32x258x1024 .f32 :=
  pad S32x258x1024 ![0, 1, 0] ![0, 1, 0] ![0, 0, 0] (mulf (extractStridedSlice S32x256x1024 ![0, 0, 1024] PC slices_S32x256x3072_S32x256x1024_0_0_1024) (extractStridedSlice S32x256x1024 ![0, 0, 2048] PC slices_S32x256x3072_S32x256x1024_0_0_2048)) (sitofp .f32 (constantI S_ 32 0#32)) pads_S32x256x1024_S32x258x1024_000_110_000 h_S_

/-- The gated convolution of a padded array. -/
def convC (Z : FVec Ideal S32x258x1024 .f32) : FVec Ideal S32x256x1024 .f32 :=
  mulf (extractStridedSlice S32x256x1024 ![0, 0, 0] PC slices_S32x256x3072_S32x256x1024_0_0_0) (addf (addf (mulf (broadcastInDim S32x256x1024 ![0, 1, 2] bcast_S1x1x1024_S32x256x1024_0_1_2 (broadcastInDim S1x1x1024 ![2] bcast_S1024_S1x1x1024_2 (shapeCast _ (extractStridedSlice S1x1024 ![0, 0] K slices_S3x1024_S1x1024_0_0) shapeCasts_S1x1024_S1024))) (extractStridedSlice S32x256x1024 ![0, 0, 0] Z slices_S32x258x1024_S32x256x1024_0_0_0)) (mulf (broadcastInDim S32x256x1024 ![0, 1, 2] bcast_S1x1x1024_S32x256x1024_0_1_2 (broadcastInDim S1x1x1024 ![2] bcast_S1024_S1x1x1024_2 (shapeCast _ (extractStridedSlice S1x1024 ![1, 0] K slices_S3x1024_S1x1024_1_0) shapeCasts_S1x1024_S1024))) (extractStridedSlice S32x256x1024 ![0, 1, 0] Z slices_S32x258x1024_S32x256x1024_0_1_0))) (mulf (broadcastInDim S32x256x1024 ![0, 1, 2] bcast_S1x1x1024_S32x256x1024_0_1_2 (broadcastInDim S1x1x1024 ![2] bcast_S1024_S1x1x1024_2 (shapeCast _ (extractStridedSlice S1x1024 ![2, 0] K slices_S3x1024_S1x1024_2_0) shapeCasts_S1x1024_S1024))) (extractStridedSlice S32x256x1024 ![0, 2, 0] Z slices_S32x258x1024_S32x256x1024_0_2_0)))

/-- The product of the second and the third part, with a row of zeros at each end. -/
def padL : FVec Ideal S32x2050x1024 .f32 :=
  pad S32x2050x1024 ![0, 1, 0] ![0, 1, 0] ![0, 0, 0] (mulf (extractStridedSlice S32x2048x1024 ![0, 0, 1024] PL slices_S32x2048x3072_S32x2048x1024_0_0_1024) (extractStridedSlice S32x2048x1024 ![0, 0, 2048] PL slices_S32x2048x3072_S32x2048x1024_0_0_2048)) (sitofp .f32 (constantI S_ 32 0#32)) pads_S32x2048x1024_S32x2050x1024_000_110_000 h_S_

/-- The gated convolution of a padded array. -/
def convL (Z : FVec Ideal S32x2050x1024 .f32) : FVec Ideal S32x2048x1024 .f32 :=
  mulf (extractStridedSlice S32x2048x1024 ![0, 0, 0] PL slices_S32x2048x3072_S32x2048x1024_0_0_0) (addf (addf (mulf (broadcastInDim S32x2048x1024 ![0, 1, 2] bcast_S1x1x1024_S32x2048x1024_0_1_2 (broadcastInDim S1x1x1024 ![2] bcast_S1024_S1x1x1024_2 (shapeCast _ (extractStridedSlice S1x1024 ![0, 0] K slices_S3x1024_S1x1024_0_0) shapeCasts_S1x1024_S1024))) (extractStridedSlice S32x2048x1024 ![0, 0, 0] Z slices_S32x2050x1024_S32x2048x1024_0_0_0)) (mulf (broadcastInDim S32x2048x1024 ![0, 1, 2] bcast_S1x1x1024_S32x2048x1024_0_1_2 (broadcastInDim S1x1x1024 ![2] bcast_S1024_S1x1x1024_2 (shapeCast _ (extractStridedSlice S1x1024 ![1, 0] K slices_S3x1024_S1x1024_1_0) shapeCasts_S1x1024_S1024))) (extractStridedSlice S32x2048x1024 ![0, 1, 0] Z slices_S32x2050x1024_S32x2048x1024_0_1_0))) (mulf (broadcastInDim S32x2048x1024 ![0, 1, 2] bcast_S1x1x1024_S32x2048x1024_0_1_2 (broadcastInDim S1x1x1024 ![2] bcast_S1024_S1x1x1024_2 (shapeCast _ (extractStridedSlice S1x1024 ![2, 0] K slices_S3x1024_S1x1024_2_0) shapeCasts_S1x1024_S1024))) (extractStridedSlice S32x2048x1024 ![0, 2, 0] Z slices_S32x2050x1024_S32x2048x1024_0_2_0)))

/-- The context's gated sum. -/
def gatedC (Y : FVec Ideal S32x256x1024 .f32) : FVec Ideal S32x256x1024 .f32 :=
  addf C (mulf (broadcastInDim S32x256x1024 ![0, 1, 2] bcast_S1x1x1024_S32x256x1024_0_1_2 (broadcastInDim S1x1x1024 ![1, 2] bcast_S1x1024_S1x1x1024_1_2 (shapeCast _ (extractStridedSlice S1x1x1x1024 ![32, 2, 0, 0] M slices_S40x6x1x1024_S1x1x1x1024_32_2_0_0) shapeCasts_S1x1x1x1024_S1x1024))) (Host.dotGeneral dot_S32x256x1024_S1024x1024_S32x256x1024_2_0_01_1_n_n none Y W))

/-- The samples' gated sum. -/
def gatedL (Y : FVec Ideal S32x2048x1024 .f32) : FVec Ideal S32x2048x1024 .f32 :=
  addf X (mulf (broadcastInDim S32x2048x1024 ![0, 1, 2] bcast_S32x1x1024_S32x2048x1024_0_1_2 (shapeCast _ (extractStridedSlice S32x1x1x1024 ![0, 2, 0, 0] M slices_S40x6x1x1024_S32x1x1x1024_0_2_0_0) shapeCasts_S32x1x1x1024_S32x1x1024)) (Host.dotGeneral dot_S32x2048x1024_S1024x1024_S32x2048x1024_2_0_01_1_n_n none Y W))

/-- The rows of both, the context's first. -/
def stack (P : FVec Ideal S32x256x1024 .f32) (Q : FVec Ideal S32x2048x1024 .f32) : FVec Ideal S73728x1024 .f32 :=
  concatenate S73728x1024 0 [⟨S8192x1024, shapeCast _ P shapeCasts_S32x256x1024_S8192x1024⟩,
    ⟨S65536x1024, shapeCast _ Q shapeCasts_S32x2048x1024_S65536x1024⟩] concatenates_S8192x1024_S65536x1024_S73728x1024_d0

/-- The two streams after the mixer. -/
def streams : FVec Ideal S73728x1024 .f32 :=
  stack (gatedC W C M (convC PC K (padC PC))) (gatedL W X M (convL PL K (padL PL)))

theorem padC_apply (b : Fin 32) (q : Fin 258) (d : Fin 1024) :
    padC PC (ix3 b q d) = if h : 1 ≤ q.val ∧ q.val - 1 < 256 then
      PC (ix3 b (⟨q.val - 1, by omega⟩ : Fin 256) (⟨1024 + d.val, by omega⟩ : Fin 3072)) * PC (ix3 b (⟨q.val - 1, by omega⟩ : Fin 256) (⟨2048 + d.val, by omega⟩ : Fin 3072)) else 0 := by
  pointwise [padC]
  have z : (FloatOps.sitofp FTy.f32 (0#32) : Ideal FTy.f32) = (0 : EReal) := by
    show (((0#32).toInt : ℝ) : EReal) = 0
    simp
  rw [z]

theorem convC_apply (Z : FVec Ideal S32x258x1024 .f32) (b : Fin 32) (s : Fin 256) (d : Fin 1024) :
    convC PC K Z (ix3 b s d) = PC (ix3 b s (⟨d.val, by omega⟩ : Fin 3072)) * (K (ix2 (0 : Fin 3) d) * Z (ix3 b (⟨s.val, by omega⟩ : Fin 258) d)
      + K (ix2 (1 : Fin 3) d) * Z (ix3 b (⟨1 + s.val, by omega⟩ : Fin 258) d) + K (ix2 (2 : Fin 3) d) * Z (ix3 b (⟨2 + s.val, by omega⟩ : Fin 258) d)) := by
  pointwise [convC]

theorem gatedC_apply (Y : FVec Ideal S32x256x1024 .f32) (b : Fin 32) (s : Fin 256) (j : Fin 1024) :
    gatedC W C M Y (ix3 b s j) = C (ix3 b s j) + M (ix4 (32 : Fin 40) (2 : Fin 6) (0 : Fin 1) j) * ∑ d : Fin 1024, Y (ix3 b s d) * W (ix2 d j) := by
  pointwise [gatedC]

theorem padL_apply (b : Fin 32) (q : Fin 2050) (d : Fin 1024) :
    padL PL (ix3 b q d) = if h : 1 ≤ q.val ∧ q.val - 1 < 2048 then
      PL (ix3 b (⟨q.val - 1, by omega⟩ : Fin 2048) (⟨1024 + d.val, by omega⟩ : Fin 3072)) * PL (ix3 b (⟨q.val - 1, by omega⟩ : Fin 2048) (⟨2048 + d.val, by omega⟩ : Fin 3072)) else 0 := by
  pointwise [padL]
  have z : (FloatOps.sitofp FTy.f32 (0#32) : Ideal FTy.f32) = (0 : EReal) := by
    show (((0#32).toInt : ℝ) : EReal) = 0
    simp
  rw [z]

theorem convL_apply (Z : FVec Ideal S32x2050x1024 .f32) (b : Fin 32) (s : Fin 2048) (d : Fin 1024) :
    convL PL K Z (ix3 b s d) = PL (ix3 b s (⟨d.val, by omega⟩ : Fin 3072)) * (K (ix2 (0 : Fin 3) d) * Z (ix3 b (⟨s.val, by omega⟩ : Fin 2050) d)
      + K (ix2 (1 : Fin 3) d) * Z (ix3 b (⟨1 + s.val, by omega⟩ : Fin 2050) d) + K (ix2 (2 : Fin 3) d) * Z (ix3 b (⟨2 + s.val, by omega⟩ : Fin 2050) d)) := by
  pointwise [convL]

theorem gatedL_apply (Y : FVec Ideal S32x2048x1024 .f32) (b : Fin 32) (s : Fin 2048) (j : Fin 1024) :
    gatedL W X M Y (ix3 b s j) = X (ix3 b s j) + M (ix4 (⟨b.val, by omega⟩ : Fin 40) (2 : Fin 6) (0 : Fin 1) j) * ∑ d : Fin 1024, Y (ix3 b s d) * W (ix2 d j) := by
  pointwise [gatedL]

theorem stack_ctx (P : FVec Ideal S32x256x1024 .f32) (Q : FVec Ideal S32x2048x1024 .f32) (b : Fin 32) (s : Fin 256) (j : Fin 1024) :
    stack P Q (ix2 (⟨b.val * 256 + s.val, by omega⟩ : Fin 73728) j) = P (ix3 b s j) := by
  pointwise [stack]
  rw [dif_pos (by omega)]

theorem stack_lat (P : FVec Ideal S32x256x1024 .f32) (Q : FVec Ideal S32x2048x1024 .f32) (b : Fin 32) (s : Fin 2048) (j : Fin 1024) :
    stack P Q (ix2 (⟨8192 + b.val * 2048 + s.val, by omega⟩ : Fin 73728) j) = Q (ix3 b s j) := by
  pointwise [stack]
  rw [dif_neg (by omega)]
  have eb : (8192 + b.val * 2048 + s.val - 8192) / 2048 = b.val := by omega
  have es : (8192 + b.val * 2048 + s.val - 8192) % 2048 = s.val := by omega
  simp only [eb, es]

theorem streams_ctx (b : Fin 32) (s : Fin 256) (j : Fin 1024) :
    streams PL PC K W X C M (ix2 (⟨b.val * 256 + s.val, by omega⟩ : Fin 73728) j)
      = mixed (fun q d => PC (ix3 b q d)) (fun q d => K (ix2 q d)) (C (ix3 b s j)) (M (ix4 (32 : Fin 40) (2 : Fin 6) (0 : Fin 1) j)) s (fun d => W (ix2 d j)) := by
  rw [streams, stack_ctx, gatedC_apply, mixed]
  refine congrArg (fun q => C (ix3 b s j) + M (ix4 (32 : Fin 40) (2 : Fin 6) (0 : Fin 1) j) * q) (Finset.sum_congr rfl fun d _ => congrArg (· * W (ix2 d j)) ?_)
  have hs := s.isLt
  rw [convC_apply, padC_apply, padC_apply, padC_apply]
  unfold tap
  refine congrArg (PC (ix3 b s (⟨d.val, by omega⟩ : Fin 3072)) * ·) (congrArg₂ (· + ·) (congrArg₂ (· + ·) (congrArg (K (ix2 (0 : Fin 3) d) * ·) ?_)
    (congrArg (K (ix2 (1 : Fin 3) d) * ·) ?_)) (congrArg (K (ix2 (2 : Fin 3) d) * ·) ?_))
  · by_cases h : s.val = 0
    · rw [dif_neg (by dsimp only; omega), dif_pos h]
    · rw [dif_pos (by dsimp only; omega), dif_neg h]
  · rw [dif_pos (by dsimp only; omega)]
    have e : (⟨1 + s.val - 1, by omega⟩ : Fin 256) = s := Fin.ext (by show 1 + s.val - 1 = s.val; omega)
    exact congrArg (fun q => PC (ix3 b q (⟨1024 + d.val, by omega⟩ : Fin 3072)) * PC (ix3 b q (⟨2048 + d.val, by omega⟩ : Fin 3072))) e
  · by_cases h : s.val + 1 = 256
    · rw [dif_neg (by dsimp only; omega), dif_pos h]
    · rw [dif_pos (by dsimp only; omega), dif_neg h]
      have e : (⟨2 + s.val - 1, by omega⟩ : Fin 256) = ⟨s.val + 1, by omega⟩ := Fin.ext (by show 2 + s.val - 1 = s.val + 1; omega)
      exact congrArg (fun q => PC (ix3 b q (⟨1024 + d.val, by omega⟩ : Fin 3072)) * PC (ix3 b q (⟨2048 + d.val, by omega⟩ : Fin 3072))) e

theorem streams_lat (b : Fin 32) (s : Fin 2048) (j : Fin 1024) :
    streams PL PC K W X C M (ix2 (⟨8192 + b.val * 2048 + s.val, by omega⟩ : Fin 73728) j)
      = mixed (fun q d => PL (ix3 b q d)) (fun q d => K (ix2 q d)) (X (ix3 b s j)) (M (ix4 (⟨b.val, by omega⟩ : Fin 40) (2 : Fin 6) (0 : Fin 1) j)) s (fun d => W (ix2 d j)) := by
  rw [streams, stack_lat, gatedL_apply, mixed]
  refine congrArg (fun q => X (ix3 b s j) + M (ix4 (⟨b.val, by omega⟩ : Fin 40) (2 : Fin 6) (0 : Fin 1) j) * q) (Finset.sum_congr rfl fun d _ => congrArg (· * W (ix2 d j)) ?_)
  have hs := s.isLt
  rw [convL_apply, padL_apply, padL_apply, padL_apply]
  unfold tap
  refine congrArg (PL (ix3 b s (⟨d.val, by omega⟩ : Fin 3072)) * ·) (congrArg₂ (· + ·) (congrArg₂ (· + ·) (congrArg (K (ix2 (0 : Fin 3) d) * ·) ?_)
    (congrArg (K (ix2 (1 : Fin 3) d) * ·) ?_)) (congrArg (K (ix2 (2 : Fin 3) d) * ·) ?_))
  · by_cases h : s.val = 0
    · rw [dif_neg (by dsimp only; omega), dif_pos h]
    · rw [dif_pos (by dsimp only; omega), dif_neg h]
  · rw [dif_pos (by dsimp only; omega)]
    have e : (⟨1 + s.val - 1, by omega⟩ : Fin 2048) = s := Fin.ext (by show 1 + s.val - 1 = s.val; omega)
    exact congrArg (fun q => PL (ix3 b q (⟨1024 + d.val, by omega⟩ : Fin 3072)) * PL (ix3 b q (⟨2048 + d.val, by omega⟩ : Fin 3072))) e
  · by_cases h : s.val + 1 = 2048
    · rw [dif_neg (by dsimp only; omega), dif_pos h]
    · rw [dif_pos (by dsimp only; omega), dif_neg h]
      have e : (⟨2 + s.val - 1, by omega⟩ : Fin 2048) = ⟨s.val + 1, by omega⟩ := Fin.ext (by show 2 + s.val - 1 = s.val + 1; omega)
      exact congrArg (fun q => PL (ix3 b q (⟨1024 + d.val, by omega⟩ : Fin 3072)) * PL (ix3 b q (⟨2048 + d.val, by omega⟩ : Fin 3072))) e

theorem res_eq (m : (ℓ : Loc nD τ sig) → Buf (Elt Ideal) ℓ) (c : Dev nD) :
    Value.res_main_v67 m c = streams (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.Reference4Ideal.Hand

end
-- ==== Proof.ConvClaim.lean ====
/- The short convolution's array is the reference's, element by element, over the extended reals. -/
module

public import proofs.«01_k».proof.Defs
public import proofs.«01_k».proof.Proof.ConvKernel
public import proofs.«01_k».proof.Proof.ConvRef
public import Idealize.ShloMosaic.Lib.Pipeline.ValueKit
public import Idealize.ShloMosaic.Lib.Claim

@[expose] public section

set_option maxRecDepth 16384

noncomputable section

namespace Cert.Kernel4Ideal.Hand

open Cert.Kernel4Ideal Cert.Kernel4Ideal.Gen Cert.ConvSpec
open Idealize.ShloMosaic Idealize.ShloMosaic.TcCoe Idealize.ShloMosaic.StableHlo Idealize.SL.Sem

variable (m : (ℓ : Loc nD τ sig) → Buf (Elt Ideal) ℓ)

/-- The reference's array of the kernel's arguments. -/
abbrev goal (c : Dev nD) : S73728x1024.Idx → EReal :=
  Cert.Reference4Ideal.Hand.streams (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- Where each window's block lies at a grid point. -/
theorem idx : ∀ t : Fin cfg0.N, ((grid0.coords t) 0).val = t.val
    ∧ win0_0.index t = ![t.val, 0] ∧ win0_1.index t = ![t.val, 1] ∧ win0_2.index t = ![t.val, 2] ∧ win0_3.index t = ![16 * t.val - 1, 1]
    ∧ win0_4.index t = ![min (16 * (t.val + 1)) 4607, 1] ∧ win0_5.index t = ![16 * t.val - 1, 2] ∧ win0_6.index t = ![min (16 * (t.val + 1)) 4607, 2]
    ∧ win0_7.index t = ![0, 0] ∧ win0_8.index t = ![0, 0] ∧ win0_9.index t = ![t.val, 0]
    ∧ win0_10.index t = ![if t.val < 32 then 32 else (t.val - 32) / 8, 0, 0, 0] ∧ win0_11.index t = ![t.val, 0] :=
  (by decide +kernel : ∀ t : Fin grid0.N, ((grid0.coords t) 0).val = t.val
    ∧ win0_0.index t = ![t.val, 0] ∧ win0_1.index t = ![t.val, 1] ∧ win0_2.index t = ![t.val, 2] ∧ win0_3.index t = ![16 * t.val - 1, 1]
    ∧ win0_4.index t = ![min (16 * (t.val + 1)) 4607, 1] ∧ win0_5.index t = ![16 * t.val - 1, 2] ∧ win0_6.index t = ![min (16 * (t.val + 1)) 4607, 2]
    ∧ win0_7.index t = ![0, 0] ∧ win0_8.index t = ![0, 0] ∧ win0_9.index t = ![t.val, 0]
    ∧ win0_10.index t = ![if t.val < 32 then 32 else (t.val - 32) / 8, 0, 0, 0] ∧ win0_11.index t = ![t.val, 0])

/-! ## What the region finds in the arrays the host prepared -/

theorem V_w (c : Dev nD) (d : Fin 1024) (j : Fin 1024) :
    (V m c main_v7 : S1024x1024.Idx → EReal) (ix2 d j) = (m ((c : Thread nD τ).loc main_arg3) : S1024x1024.Idx → EReal) (ix2 d j) := by
  entry_read
  pointwise

/-- The input projection's rows, the context's first. -/
def stackP (a : FVec Ideal S32x256x3072 .f32) (b : FVec Ideal S32x2048x3072 .f32) : FVec Ideal S73728x3072 .f32 :=
  concatenate S73728x3072 0 [⟨S8192x3072, shapeCast _ a shapeCasts_S32x256x3072_S8192x3072⟩,
    ⟨S65536x3072, shapeCast _ b shapeCasts_S32x2048x3072_S65536x3072⟩] concatenates_S8192x3072_S65536x3072_S73728x3072_d0

/-- The streams' rows, the context's first. -/
def stackX (a : FVec Ideal S32x256x1024 .f32) (b : FVec Ideal S32x2048x1024 .f32) : FVec Ideal S73728x1024 .f32 :=
  concatenate S73728x1024 0 [⟨S8192x1024, shapeCast _ a shapeCasts_S32x256x1024_S8192x1024⟩,
    ⟨S65536x1024, shapeCast _ b shapeCasts_S32x2048x1024_S65536x1024⟩] concatenates_S8192x1024_S65536x1024_S73728x1024_d0

theorem stackP_ctx (P : FVec Ideal S32x256x3072 .f32) (Q : FVec Ideal S32x2048x3072 .f32) (b : Fin 32) (s : Fin 256) (j : Fin 3072) :
    stackP P Q (ix2 (⟨b.val * 256 + s.val, by omega⟩ : Fin 73728) j) = P (ix3 b s j) := by
  pointwise [stackP]
  rw [dif_pos (by omega)]

theorem stackP_lat (P : FVec Ideal S32x256x3072 .f32) (Q : FVec Ideal S32x2048x3072 .f32) (b : Fin 32) (s : Fin 2048) (j : Fin 3072) :
    stackP P Q (ix2 (⟨8192 + b.val * 2048 + s.val, by omega⟩ : Fin 73728) j) = Q (ix3 b s j) := by
  pointwise [stackP]
  rw [dif_neg (by omega)]
  have eb : (8192 + b.val * 2048 + s.val - 8192) / 2048 = b.val := by omega
  have es : (8192 + b.val * 2048 + s.val - 8192) % 2048 = s.val := by omega
  simp only [eb, es]

theorem stackX_ctx (P : FVec Ideal S32x256x1024 .f32) (Q : FVec Ideal S32x2048x1024 .f32) (b : Fin 32) (s : Fin 256) (j : Fin 1024) :
    stackX P Q (ix2 (⟨b.val * 256 + s.val, by omega⟩ : Fin 73728) j) = P (ix3 b s j) := by
  pointwise [stackX]
  rw [dif_pos (by omega)]

theorem stackX_lat (P : FVec Ideal S32x256x1024 .f32) (Q : FVec Ideal S32x2048x1024 .f32) (b : Fin 32) (s : Fin 2048) (j : Fin 1024) :
    stackX P Q (ix2 (⟨8192 + b.val * 2048 + s.val, by omega⟩ : Fin 73728) j) = Q (ix3 b s j) := by
  pointwise [stackX]
  rw [dif_neg (by omega)]
  have eb : (8192 + b.val * 2048 + s.val - 8192) / 2048 = b.val := by omega
  have es : (8192 + b.val * 2048 + s.val - 8192) % 2048 = s.val := by omega
  simp only [eb, es]

theorem V_p (c : Dev nD) (R : Fin 73728) (q : Fin 3072) :
    (V m c main_v3 : S73728x3072.Idx → EReal) (ix2 R q) = stackP (m ((c : Thread nD τ).loc main_arg1)) (m ((c : Thread nD τ).loc main_arg0)) (ix2 R q) := by
  entry_read
  rfl

theorem V_x (c : Dev nD) (R : Fin 73728) (q : Fin 1024) :
    (V m c main_v6 : S73728x1024.Idx → EReal) (ix2 R q) = stackX (m ((c : Thread nD τ).loc main_arg5)) (m ((c : Thread nD τ).loc main_arg4)) (ix2 R q) := by
  entry_read
  rfl

theorem V_pc (c : Dev nD) (b : Fin 32) (s : Fin 256) (q : Fin 3072) :
    (V m c main_v3 : S73728x3072.Idx → EReal) (ix2 (⟨b.val * 256 + s.val, by omega⟩ : Fin 73728) q)
      = (m ((c : Thread nD τ).loc main_arg1) : S32x256x3072.Idx → EReal) (ix3 b s q) := (V_p m c _ q).trans (stackP_ctx _ _ b s q)

theorem V_pl (c : Dev nD) (b : Fin 32) (s : Fin 2048) (q : Fin 3072) :
    (V m c main_v3 : S73728x3072.Idx → EReal) (ix2 (⟨8192 + b.val * 2048 + s.val, by omega⟩ : Fin 73728) q)
      = (m ((c : Thread nD τ).loc main_arg0) : S32x2048x3072.Idx → EReal) (ix3 b s q) := (V_p m c _ q).trans (stackP_lat _ _ b s q)

theorem V_xc (c : Dev nD) (b : Fin 32) (s : Fin 256) (q : Fin 1024) :
    (V m c main_v6 : S73728x1024.Idx → EReal) (ix2 (⟨b.val * 256 + s.val, by omega⟩ : Fin 73728) q)
      = (m ((c : Thread nD τ).loc main_arg5) : S32x256x1024.Idx → EReal) (ix3 b s q) := (V_x m c _ q).trans (stackX_ctx _ _ b s q)

theorem V_xl (c : Dev nD) (b : Fin 32) (s : Fin 2048) (q : Fin 1024) :
    (V m c main_v6 : S73728x1024.Idx → EReal) (ix2 (⟨8192 + b.val * 2048 + s.val, by omega⟩ : Fin 73728) q)
      = (m ((c : Thread nD τ).loc main_arg4) : S32x2048x1024.Idx → EReal) (ix3 b s q) := (V_x m c _ q).trans (stackX_lat _ _ b s q)

/-! ## The blocks -/

/-- The modulations' row of a grid point. -/
def modRow (t : ℕ) : ℕ := if t < 32 then 32 else (t - 32) / 8

theorem in_gate (c : Dev nD) (t : Fin cfg0.N) (k : Fin 1024) (q : Fin 40) (h : q.val = modRow t.val) :
    (View.ld (iblk m c 10 t) r0_6 : S1x1x1x1024.Idx → EReal) (ix4 (0 : Fin 1) (0 : Fin 1) (0 : Fin 1) k)
      = (m ((c : Thread nD τ).loc main_arg6) : S40x6x1x1024.Idx → EReal) (ix4 q (2 : Fin 6) (0 : Fin 1) k) := by
  obtain ⟨q, hq⟩ := q
  subst h
  refine Eq.trans (b := (V m c main_arg6 : S40x6x1x1024.Idx → EReal) (ix4 ⟨modRow t.val, hq⟩ (2 : Fin 6) (0 : Fin 1) k)) ?_ (congrFun (V_main_arg6 m c) _)
  refine Eq.trans (b := (iblk m c 10 t : S1x6x1x1024.Idx → EReal) (ix4 (0 : Fin 1) (2 : Fin 6) (0 : Fin 1) k)) (by pointwise) ?_
  unfold modRow at hq ⊢
  blk_ext [iblk, idx t]

theorem in_w (c : Dev nD) (t : Fin cfg0.N) (d : Fin 1024) (j : Fin 1024) :
    (iblk m c 8 t : S1024x1024.Idx → EReal) (ix2 d j) = (m ((c : Thread nD τ).loc main_arg3) : S1024x1024.Idx → EReal) (ix2 d j) := by
  refine Eq.trans (b := (V m c main_v7 : S1024x1024.Idx → EReal) (ix2 d j)) ?_ (V_w m c d j)
  blk_ext [iblk, idx t]

theorem in_k (c : Dev nD) (t : Fin cfg0.N) (q : Fin 3) (d : Fin 1024) :
    (iblk m c 7 t : S3x1024.Idx → EReal) (ix2 q d) = (m ((c : Thread nD τ).loc main_arg2) : S3x1024.Idx → EReal) (ix2 q d) := by
  refine Eq.trans (b := (V m c main_arg2 : S3x1024.Idx → EReal) (ix2 q d)) ?_ (congrFun (V_main_arg2 m c) _)
  blk_ext [iblk, idx t]

theorem in_k0 (c : Dev nD) (t : Fin cfg0.N) (d : Fin 1024) :
    (View.ld (iblk m c 7 t) r0_3 : S1x1024.Idx → EReal) (ix2 (0 : Fin 1) d) = (m ((c : Thread nD τ).loc main_arg2) : S3x1024.Idx → EReal) (ix2 (0 : Fin 3) d) :=
  Eq.trans (b := (iblk m c 7 t : S3x1024.Idx → EReal) (ix2 (0 : Fin 3) d)) (by pointwise) (in_k m c t 0 d)

theorem in_k1 (c : Dev nD) (t : Fin cfg0.N) (d : Fin 1024) :
    (View.ld (iblk m c 7 t) r0_4 : S1x1024.Idx → EReal) (ix2 (0 : Fin 1) d) = (m ((c : Thread nD τ).loc main_arg2) : S3x1024.Idx → EReal) (ix2 (1 : Fin 3) d) :=
  Eq.trans (b := (iblk m c 7 t : S3x1024.Idx → EReal) (ix2 (1 : Fin 3) d)) (by pointwise) (in_k m c t 1 d)

theorem in_k2 (c : Dev nD) (t : Fin cfg0.N) (d : Fin 1024) :
    (View.ld (iblk m c 7 t) r0_5 : S1x1024.Idx → EReal) (ix2 (0 : Fin 1) d) = (m ((c : Thread nD τ).loc main_arg2) : S3x1024.Idx → EReal) (ix2 (2 : Fin 3) d) :=
  Eq.trans (b := (iblk m c 7 t : S3x1024.Idx → EReal) (ix2 (2 : Fin 3) d)) (by pointwise) (in_k m c t 2 d)

theorem in_x (c : Dev nD) (t : Fin cfg0.N) (r : Fin 256) (d : Fin 1024) (R : Fin 73728) (h : R.val = t.val * 256 + r.val) :
    (iblk m c 9 t : S256x1024.Idx → EReal) (ix2 r d) = (V m c main_v6 : S73728x1024.Idx → EReal) (ix2 R d) := by
  obtain ⟨R, hR⟩ := R
  subst h
  blk_ext [iblk, idx t]

theorem in_b (c : Dev nD) (t : Fin cfg0.N) (r : Fin 256) (d : Fin 1024) (R : Fin 73728) (h : R.val = t.val * 256 + r.val) :
    (iblk m c 0 t : S256x1024.Idx → EReal) (ix2 r d) = (V m c main_v3 : S73728x3072.Idx → EReal) (ix2 R ⟨d.val, by omega⟩) := by
  obtain ⟨R, hR⟩ := R
  subst h
  blk_ext [iblk, idx t]

theorem in_c (c : Dev nD) (t : Fin cfg0.N) (r : Fin 256) (d : Fin 1024) (R : Fin 73728) (h : R.val = t.val * 256 + r.val) :
    (iblk m c 1 t : S256x1024.Idx → EReal) (ix2 r d) = (V m c main_v3 : S73728x3072.Idx → EReal) (ix2 R ⟨1024 + d.val, by omega⟩) := by
  obtain ⟨R, hR⟩ := R
  subst h
  blk_ext [iblk, idx t]

theorem in_h (c : Dev nD) (t : Fin cfg0.N) (r : Fin 256) (d : Fin 1024) (R : Fin 73728) (h : R.val = t.val * 256 + r.val) :
    (iblk m c 2 t : S256x1024.Idx → EReal) (ix2 r d) = (V m c main_v3 : S73728x3072.Idx → EReal) (ix2 R ⟨2048 + d.val, by omega⟩) := by
  obtain ⟨R, hR⟩ := R
  subst h
  blk_ext [iblk, idx t]

theorem in_cp (c : Dev nD) (t : Fin cfg0.N) (d : Fin 1024) (R : Fin 73728) (h : R.val + 1 = t.val * 256) :
    (View.ld (iblk m c 3 t) r0_1 : S1x1024.Idx → EReal) (ix2 (0 : Fin 1) d) = (V m c main_v3 : S73728x3072.Idx → EReal) (ix2 R ⟨1024 + d.val, by omega⟩) := by
  refine Eq.trans (b := (iblk m c 3 t : S16x1024.Idx → EReal) (ix2 (15 : Fin 16) d)) (by pointwise) ?_
  have e : R = ⟨(16 * t.val - 1) * 16 + 15, by omega⟩ := Fin.ext (by show R.val = (16 * t.val - 1) * 16 + 15; omega)
  rw [e]
  blk_ext [iblk, idx t]

theorem in_hp (c : Dev nD) (t : Fin cfg0.N) (d : Fin 1024) (R : Fin 73728) (h : R.val + 1 = t.val * 256) :
    (View.ld (iblk m c 5 t) r0_1 : S1x1024.Idx → EReal) (ix2 (0 : Fin 1) d) = (V m c main_v3 : S73728x3072.Idx → EReal) (ix2 R ⟨2048 + d.val, by omega⟩) := by
  refine Eq.trans (b := (iblk m c 5 t : S16x1024.Idx → EReal) (ix2 (15 : Fin 16) d)) (by pointwise) ?_
  have e : R = ⟨(16 * t.val - 1) * 16 + 15, by omega⟩ := Fin.ext (by show R.val = (16 * t.val - 1) * 16 + 15; omega)
  rw [e]
  blk_ext [iblk, idx t]

theorem in_cn (c : Dev nD) (t : Fin cfg0.N) (d : Fin 1024) (R : Fin 73728) (h : R.val = (t.val + 1) * 256) :
    (View.ld (iblk m c 4 t) r0_2 : S1x1024.Idx → EReal) (ix2 (0 : Fin 1) d) = (V m c main_v3 : S73728x3072.Idx → EReal) (ix2 R ⟨1024 + d.val, by omega⟩) := by
  refine Eq.trans (b := (iblk m c 4 t : S16x1024.Idx → EReal) (ix2 (0 : Fin 16) d)) (by pointwise) ?_
  have e : R = ⟨min (16 * (t.val + 1)) 4607 * 16, by omega⟩ := Fin.ext (by show R.val = min (16 * (t.val + 1)) 4607 * 16; omega)
  rw [e]
  blk_ext [iblk, idx t]

theorem in_hn (c : Dev nD) (t : Fin cfg0.N) (d : Fin 1024) (R : Fin 73728) (h : R.val = (t.val + 1) * 256) :
    (View.ld (iblk m c 6 t) r0_2 : S1x1024.Idx → EReal) (ix2 (0 : Fin 1) d) = (V m c main_v3 : S73728x3072.Idx → EReal) (ix2 R ⟨2048 + d.val, by omega⟩) := by
  refine Eq.trans (b := (iblk m c 6 t : S16x1024.Idx → EReal) (ix2 (0 : Fin 16) d)) (by pointwise) ?_
  have e : R = ⟨min (16 * (t.val + 1)) 4607 * 16, by omega⟩ := Fin.ext (by show R.val = min (16 * (t.val + 1)) 4607 * 16; omega)
  rw [e]
  blk_ext [iblk, idx t]

/-- What a grid point computes at a row that lies at position `s` of a sequence `p` of `L` rows starting at row `base`. -/
theorem block (c : Dev nD) (t : Fin cfg0.N) (r : Fin 256) (j : Fin 1024) {L : ℕ} (p : Fin L → Fin 3072 → EReal) (base : ℕ) (hL : base + L ≤ 73728)
    (hp : ∀ (R : Fin 73728) (s : Fin L) (q : Fin 3072), R.val = base + s.val → (V m c main_v3 : S73728x3072.Idx → EReal) (ix2 R q) = p s q)
    (s : Fin L) (hs : t.val * 256 + r.val = base + s.val)
    (hf : r.val = 0 → ((t.val < 32 ∨ (t.val - 32) % 8 = 0) ↔ s.val = 0)) (hf' : r.val ≠ 0 → s.val ≠ 0)
    (hl : r.val = 255 → ((t.val < 32 ∨ (t.val - 32) % 8 = 7) ↔ s.val + 1 = L)) (hl' : r.val ≠ 255 → s.val + 1 ≠ L) :
    (k0_pay1 (k0_pay5 (k0_pay4 (iblk m c 1 t)) (iblk m c 2 t)) (k0_pay6 (iblk m c 0 t))
        (k0_pay7 (k0_pay3 (F := Ideal) (grid0.coords t)) (k0_pay4 (iblk m c 1 t)) (iblk m c 2 t) (View.ld (iblk m c 4 t) r0_2) (View.ld (iblk m c 6 t) r0_2))
        (k0_pay8 (k0_pay2 (F := Ideal) (grid0.coords t)) (k0_pay4 (iblk m c 1 t)) (iblk m c 2 t) (View.ld (iblk m c 3 t) r0_1) (View.ld (iblk m c 5 t) r0_1) (View.ld (iblk m c 7 t) r0_3))
        (View.ld (iblk m c 7 t) r0_4) (View.ld (iblk m c 7 t) r0_5) (iblk m c 9 t) (View.ld (iblk m c 10 t) r0_6) (iblk m c 8 t) : S256x1024.Idx → EReal) (ix2 r j)
      = mixed p (fun q d => (m ((c : Thread nD τ).loc main_arg2) : S3x1024.Idx → EReal) (ix2 q d)) ((iblk m c 9 t : S256x1024.Idx → EReal) (ix2 r j))
          ((View.ld (iblk m c 10 t) r0_6 : S1x1x1x1024.Idx → EReal) (ix4 (0 : Fin 1) (0 : Fin 1) (0 : Fin 1) j)) s
          (fun d => (m ((c : Thread nD τ).loc main_arg3) : S1024x1024.Idx → EReal) (ix2 d j)) := by
  have ht : t.val < 288 := t.isLt
  have hr := r.isLt
  have hsL := s.isLt
  have ec : ((grid0.coords t) 0).val = t.val := (idx t).1
  have row : ∀ (q : Fin 256) (s' : Fin L) (d : Fin 1024), t.val * 256 + q.val = base + s'.val →
      HMul.hMul (α := EReal) (β := EReal) (γ := EReal) ((iblk m c 1 t : S256x1024.Idx → EReal) (ix2 q d)) ((iblk m c 2 t : S256x1024.Idx → EReal) (ix2 q d)) = tap p s' d := fun q s' d e => by
    have hq := q.isLt
    rw [in_c m c t q d ⟨t.val * 256 + q.val, by omega⟩ rfl, in_h m c t q d ⟨t.val * 256 + q.val, by omega⟩ rfl, hp _ s' _ e, hp _ s' _ e]
    rfl
  refine (pay1_apply _ _ _ _ _ _ _ _ _ r j).trans ?_
  rw [mixed]
  refine congrArg (HAdd.hAdd (α := EReal) (β := EReal) (γ := EReal) _) (congrArg (HMul.hMul (α := EReal) (β := EReal) (γ := EReal) _) (Finset.sum_congr rfl fun d _ => ?_))
  refine congrArg₂ (· * ·) (congrArg₂ (· * ·) ?_ (congrArg₂ (· + ·) (congrArg₂ (· + ·) ?_ (congrArg₂ (· * ·) (in_k1 m c t d) ?_)) (congrArg₂ (· * ·) (in_k2 m c t d) ?_))) (in_w m c t d j)
  · refine (pay6_apply _ r d).trans ?_
    rw [in_b m c t r d ⟨t.val * 256 + r.val, by omega⟩ rfl]
    exact hp _ s _ hs
  · refine (pay8_apply _ _ _ _ _ _ r d).trans (congrArg₂ (· * ·) (in_k0 m c t d) ?_)
    by_cases h : r.val = 0
    · rw [dif_pos h, pay2_eq, ec]
      by_cases h2 : s.val = 0
      · rw [dif_pos h2, if_pos ((hf h).2 h2), mul_zero]
      · rw [dif_neg h2, if_neg (fun q => h2 ((hf h).1 q)), mul_one]
        rw [in_cp m c t d ⟨t.val * 256 - 1, by omega⟩ (by show t.val * 256 - 1 + 1 = t.val * 256; omega),
          in_hp m c t d ⟨t.val * 256 - 1, by omega⟩ (by show t.val * 256 - 1 + 1 = t.val * 256; omega),
          hp _ ⟨s.val - 1, by omega⟩ _ (by show t.val * 256 - 1 = base + (s.val - 1); omega),
          hp _ ⟨s.val - 1, by omega⟩ _ (by show t.val * 256 - 1 = base + (s.val - 1); omega)]
        rfl
    · have h2 := hf' h
      rw [dif_neg h, dif_neg h2]
      exact row ⟨r.val - 1, by omega⟩ ⟨s.val - 1, by omega⟩ d (by show t.val * 256 + (r.val - 1) = base + (s.val - 1); omega)
  · exact (pay5_apply _ _ r d).trans (row r s d hs)
  · refine (pay7_apply _ _ _ _ _ r d).trans ?_
    by_cases h : r.val = 255
    · rw [dif_pos h, pay3_eq, ec]
      by_cases h2 : s.val + 1 = L
      · rw [dif_pos h2, if_pos ((hl h).2 h2), mul_zero]
      · rw [dif_neg h2, if_neg (fun q => h2 ((hl h).1 q)), mul_one]
        rw [in_cn m c t d ⟨(t.val + 1) * 256, by omega⟩ rfl,
          in_hn m c t d ⟨(t.val + 1) * 256, by omega⟩ rfl,
          hp _ ⟨s.val + 1, by omega⟩ _ (by show (t.val + 1) * 256 = base + (s.val + 1); omega),
          hp _ ⟨s.val + 1, by omega⟩ _ (by show (t.val + 1) * 256 = base + (s.val + 1); omega)]
        rfl
    · have h2 := hl' h
      rw [dif_neg h, dif_neg h2]
      exact row ⟨r.val + 1, by omega⟩ ⟨s.val + 1, by omega⟩ d (by show t.val * 256 + (r.val + 1) = base + (s.val + 1); omega)

/-- What a grid point computes is the reference's array at the point's rows. -/
theorem point (c : Dev nD) (t : Fin cfg0.N) (r : Fin 256) (j : Fin 1024) :
    (k0_pay1 (k0_pay5 (k0_pay4 (iblk m c 1 t)) (iblk m c 2 t)) (k0_pay6 (iblk m c 0 t))
        (k0_pay7 (k0_pay3 (F := Ideal) (grid0.coords t)) (k0_pay4 (iblk m c 1 t)) (iblk m c 2 t) (View.ld (iblk m c 4 t) r0_2) (View.ld (iblk m c 6 t) r0_2))
        (k0_pay8 (k0_pay2 (F := Ideal) (grid0.coords t)) (k0_pay4 (iblk m c 1 t)) (iblk m c 2 t) (View.ld (iblk m c 3 t) r0_1) (View.ld (iblk m c 5 t) r0_1) (View.ld (iblk m c 7 t) r0_3))
        (View.ld (iblk m c 7 t) r0_4) (View.ld (iblk m c 7 t) r0_5) (iblk m c 9 t) (View.ld (iblk m c 10 t) r0_6) (iblk m c 8 t) : S256x1024.Idx → EReal) (ix2 r j)
      = goal m c (ix2 ⟨t.val * 256 + r.val, by have := t.isLt; have : cfg0.N = 288 := rfl; omega⟩ j) := by
  have ht : t.val < 288 := t.isLt
  have hr := r.isLt
  by_cases h : t.val < 32
  · refine Eq.trans ?_ (Cert.Reference4Ideal.Hand.streams_ctx (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) ⟨t.val, h⟩ r j).symm
    refine (block m c t r j (fun q d => (m ((c : Thread nD τ).loc main_arg1) : S32x256x3072.Idx → EReal) (ix3 ⟨t.val, h⟩ q d)) (t.val * 256) (by omega) ?_ r rfl
      (fun e => ⟨fun _ => e, fun _ => Or.inl h⟩) (fun e => e) (fun e => ⟨fun _ => by omega, fun _ => Or.inl h⟩) (fun e => by omega)).trans ?_
    · intro R s q e
      have : R = ⟨t.val * 256 + s.val, by omega⟩ := Fin.ext e
      rw [this]
      exact V_pc m c ⟨t.val, h⟩ s q
    · rw [in_gate m c t j (32 : Fin 40) (by unfold modRow; rw [if_pos h]; rfl), in_x m c t r j ⟨t.val * 256 + r.val, by omega⟩ rfl, V_xc m c ⟨t.val, h⟩ r j]
  · have hb : (t.val - 32) / 8 < 32 := by omega
    have hs : (t.val - 32) % 8 * 256 + r.val < 2048 := by omega
    have e0 : t.val * 256 + r.val = 8192 + (t.val - 32) / 8 * 2048 + ((t.val - 32) % 8 * 256 + r.val) := by omega
    simp only [e0]
    refine Eq.trans ?_ (Cert.Reference4Ideal.Hand.streams_lat (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) ⟨(t.val - 32) / 8, hb⟩ ⟨(t.val - 32) % 8 * 256 + r.val, hs⟩ j).symm
    refine (block m c t r j (fun q d => (m ((c : Thread nD τ).loc main_arg0) : S32x2048x3072.Idx → EReal) (ix3 ⟨(t.val - 32) / 8, hb⟩ q d)) (8192 + (t.val - 32) / 8 * 2048) (by omega) ?_
      ⟨(t.val - 32) % 8 * 256 + r.val, hs⟩ e0 (fun e => by dsimp only; omega) (fun e => by dsimp only; omega) (fun e => by dsimp only; omega) (fun e => by dsimp only; omega)).trans ?_
    · intro R s q e
      have : R = ⟨8192 + (t.val - 32) / 8 * 2048 + s.val, by omega⟩ := Fin.ext e
      rw [this]
      exact V_pl m c ⟨(t.val - 32) / 8, hb⟩ s q
    · rw [in_gate m c t j ⟨(t.val - 32) / 8, by omega⟩ (by unfold modRow; rw [if_neg h]),
        in_x m c t r j ⟨8192 + (t.val - 32) / 8 * 2048 + ((t.val - 32) % 8 * 256 + r.val), by omega⟩ e0.symm, V_xl m c ⟨(t.val - 32) / 8, hb⟩ ⟨(t.val - 32) % 8 * 256 + r.val, hs⟩ j]

theorem pay9_eq (i : grid0.Coords) (x0 x1 x2 : Vec Ideal S256x1024 .bf16) (x3 x4 x5 x6 : Vec Ideal S16x1024 .bf16) (x7 : Vec Ideal S3x1024 .f32)
    (x8 : Vec Ideal S1024x1024 .bf16) (x9 : Vec Ideal S256x1024 .f32) (x10 : Vec Ideal S1x6x1x1024 .f32) :
    k0_pay9 i x0 x1 x2 x3 x4 x5 x6 x7 x8 x9 x10 = k0_pay4 x1 := by
  unfold k0_pay9
  exact congrArg k0_pay4 (View.ld_unit_lit _ x1 (by decide))

/-- The array after the run. -/
theorem final (c : Dev nD) : ((dats m 0 c).arrAt 11 cfg0.N : S73728x1024.Idx → EReal) = goal m c := by
  refine (dats m 0 c).arrAt_eq_of_covers 11 _ (by decide +kernel) fun t hf y => ?_
  blk_simp
  rw [after0_11]
  frame_out
  simp only [pay9_eq]
  obtain ⟨r, j, rfl⟩ : ∃ (r : Fin 256) (j : Fin 1024), y = ix2 r j := ⟨y 0, y 1, eq_ix2 (n0 := 256) (n1 := 1024) y⟩
  refine (point m c t r j).trans (congrArg (goal m c) ?_)
  blk_ext [idx t]

end Cert.Kernel4Ideal.Hand

namespace Cert.Proof

open Idealize.ShloMosaic Idealize.ShloMosaic.TcCoe Idealize.SL.Sem

/-- The short convolution's value claim. -/
theorem algebraic4 : Cert.algebraic_Kernel4Ideal_Reference4Ideal := fun m g m' g' _ hm => by
  refine ⟨fun c => Cert.Kernel4Ideal.Hand.goal m c, ?_, ?_⟩
  · exact (θ_run _ _ _).mono (fun r h c => (h c).imp_left fun e => e.trans (Cert.Kernel4Ideal.Hand.final m c)) (Cert.Kernel4Ideal.Value.run_blocks (F := Ideal) m g)
  · refine (θ_run _ _ _).mono (fun r h c => (h c).imp_left fun e => e.trans ?_) (Cert.Reference4Ideal.Value.run (F := Ideal) m' g')
    obtain ⟨e0, e1, e2, e3, e4, e5, e6⟩ := hm c
    rw [Cert.Reference4Ideal.Hand.res_eq, e0, e1, e2, e3, e4, e5, e6]

end Cert.Proof

end
-- ==== Proof.MixOneKernel.lean ====
/- What one block of the output projection's call computes, both streams read from one array. -/
module

public import proofs.«01_k».proof.Proof.Gen.Kernel5Ideal.Value
public import proofs.«01_k».proof.Proof.MixSpec
public import Idealize.ShloMosaic.Lib.Pointwise

@[expose] public section

noncomputable section

namespace Cert.Kernel5Ideal.Hand

open Cert.Kernel5Ideal Cert.Kernel5Ideal.Gen Cert.MixSpec
open Idealize.ShloMosaic Idealize.ShloMosaic.TcCoe Idealize.ShloMosaic.StableHlo Idealize.SL.Sem

/-- The payload at a row and a column: the rows of the context at the first 32 points, of the samples behind them. -/
theorem pay_apply (i : grid0.Coords) (a0 a1 b0 b1 : Vec Ideal S256x512 .bf16) (u v : Vec Ideal S512x1024 .bf16) (x0 x1 : Vec Ideal S256x1024 .f32)
    (g : Vec Ideal S1x1x1x1024 .f32) (r : Fin 256) (j : Fin 1024) :
    (k0_pay1 i a0 a1 b0 b1 u v x0 x1 g : S256x1024.Idx → EReal) (ix2 r j)
      = mixed (if (i 0).val < 32 then x0 (ix2 r j) else x1 (ix2 r j)) (g (ix4 (0 : Fin 1) (0 : Fin 1) (0 : Fin 1) j))
          (fun d => if (i 0).val < 32 then a0 (ix2 r d) else a1 (ix2 r d)) (fun d => if (i 0).val < 32 then b0 (ix2 r d) else b1 (ix2 r d))
          (fun d => u (ix2 d j)) (fun d => v (ix2 d j)) := by
  have hs : ∀ a b : EReal, Scalar.select (Scalar.cmpi .slt (BitVec.ofNat 32 (i 0).val) 32#32) a b = if (i 0).val < 32 then a else b := fun a b => by
    have hi : (i 0).val < 288 := (i 0).isLt
    have hb : (BitVec.ofNat 32 (i 0).val).slt 32#32 = decide ((i 0).val < 32) := by
      have e : (BitVec.ofNat 32 (i 0).val).toInt = ((i 0).val : Int) := by
        rw [BitVec.toInt_eq_toNat_of_lt (by rw [BitVec.toNat_ofNat]; omega), BitVec.toNat_ofNat, Nat.mod_eq_of_lt (by omega)]
      rw [BitVec.slt, e]
      exact decide_eq_decide.mpr (by show ((i 0).val : Int) < 32 ↔ _; omega)
    show Scalar.select (BitVec.ofBool ((BitVec.ofNat 32 (i 0).val).slt 32#32)) a b = _
    rw [hb]
    by_cases h : (i 0).val < 32 <;> simp only [h, decide_true, decide_false, if_true, if_false] <;> rfl
  unfold mixed
  pointwise [k0_pay1]
  simp only [hs]

end Cert.Kernel5Ideal.Hand

end
-- ==== Proof.MixOneClaim.lean ====
/- The output projection's array, both streams read from one array, is the reference's, element by element, over the extended reals. -/
module

public import proofs.«01_k».proof.Defs
public import proofs.«01_k».proof.Proof.MixOneKernel
public import proofs.«01_k».proof.Proof.MixRef
public import Idealize.ShloMosaic.Lib.Pipeline.ValueKit
public import Idealize.ShloMosaic.Lib.Claim

@[expose] public section

set_option maxRecDepth 16384

noncomputable section

namespace Cert.Kernel5Ideal.Hand

open Cert.Kernel5Ideal Cert.Kernel5Ideal.Gen Cert.MixSpec
open Idealize.ShloMosaic Idealize.ShloMosaic.TcCoe Idealize.ShloMosaic.StableHlo Idealize.SL.Sem

variable (m : (ℓ : Loc nD τ sig) → Buf (Elt Ideal) ℓ)

/-- The reference's array of the kernel's arguments. -/
abbrev goal (c : Dev nD) : S73728x1024.Idx → EReal :=
  Cert.Reference3Ideal.Hand.streams (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Where each window's block lies at a grid point. -/
theorem idx : ∀ t : Fin cfg0.N, ((grid0.coords t) 0).val = t.val
    ∧ win0_0.index t = ![min t.val 31, 0] ∧ win0_1.index t = ![t.val - 32, 0] ∧ win0_2.index t = ![min t.val 31, 0] ∧ win0_3.index t = ![t.val - 32, 0]
    ∧ win0_4.index t = ![0, 0] ∧ win0_5.index t = ![1, 0] ∧ win0_6.index t = ![min t.val 31, 0] ∧ win0_7.index t = ![t.val - 32 + 32, 0]
    ∧ win0_8.index t = ![if t.val < 32 then 32 else (t.val - 32) / 8, 0, 0, 0] ∧ win0_9.index t = ![t.val, 0] :=
  (by decide +kernel : ∀ t : Fin grid0.N, ((grid0.coords t) 0).val = t.val
    ∧ win0_0.index t = ![min t.val 31, 0] ∧ win0_1.index t = ![t.val - 32, 0] ∧ win0_2.index t = ![min t.val 31, 0] ∧ win0_3.index t = ![t.val - 32, 0]
    ∧ win0_4.index t = ![0, 0] ∧ win0_5.index t = ![1, 0] ∧ win0_6.index t = ![min t.val 31, 0] ∧ win0_7.index t = ![t.val - 32 + 32, 0]
    ∧ win0_8.index t = ![if t.val < 32 then 32 else (t.val - 32) / 8, 0, 0, 0] ∧ win0_9.index t = ![t.val, 0])

/-! ## What the region finds in the arrays the host prepared -/

theorem V_w (c : Dev nD) (d : Fin 1024) (j : Fin 1024) :
    (V m c main_v11 : S1024x1024.Idx → EReal) (ix2 d j) = (m ((c : Thread nD τ).loc main_arg4) : S1024x1024.Idx → EReal) (ix2 d j) := by
  entry_read
  pointwise

theorem V_ac (c : Dev nD) (i : Fin 8192) (k : Fin 512) :
    (V m c main_v4 : S8192x512.Idx → EReal) (ix2 i k)
      = (m ((c : Thread nD τ).loc main_arg1) : S32x256x512.Idx → EReal) (ix3 ⟨i.val / 256, by omega⟩ ⟨i.val % 256, by omega⟩ k) := by
  entry_read
  pointwise

theorem V_al (c : Dev nD) (i : Fin 65536) (k : Fin 512) :
    (V m c main_v6 : S65536x512.Idx → EReal) (ix2 i k)
      = (m ((c : Thread nD τ).loc main_arg0) : S32x2048x512.Idx → EReal) (ix3 ⟨i.val / 2048, by omega⟩ ⟨i.val % 2048, by omega⟩ k) := by
  entry_read
  pointwise

theorem V_bc (c : Dev nD) (i : Fin 8192) (k : Fin 512) :
    (V m c main_v8 : S8192x512.Idx → EReal) (ix2 i k)
      = (m ((c : Thread nD τ).loc main_arg3) : S32x256x512.Idx → EReal) (ix3 ⟨i.val / 256, by omega⟩ ⟨i.val % 256, by omega⟩ k) := by
  entry_read
  pointwise

theorem V_bl (c : Dev nD) (i : Fin 65536) (k : Fin 512) :
    (V m c main_v10 : S65536x512.Idx → EReal) (ix2 i k)
      = (m ((c : Thread nD τ).loc main_arg2) : S32x2048x512.Idx → EReal) (ix3 ⟨i.val / 2048, by omega⟩ ⟨i.val % 2048, by omega⟩ k) := by
  entry_read
  pointwise

/-- The streams' rows, the context's first. -/
def stackX (a : FVec Ideal S32x256x1024 .f32) (b : FVec Ideal S32x2048x1024 .f32) : FVec Ideal S73728x1024 .f32 :=
  concatenate S73728x1024 0 [⟨S8192x1024, shapeCast _ a shapeCasts_S32x256x1024_S8192x1024⟩,
    ⟨S65536x1024, shapeCast _ b shapeCasts_S32x2048x1024_S65536x1024⟩] concatenates_S8192x1024_S65536x1024_S73728x1024_d0

theorem stackX_ctx (P : FVec Ideal S32x256x1024 .f32) (Q : FVec Ideal S32x2048x1024 .f32) (b : Fin 32) (s : Fin 256) (j : Fin 1024) :
    stackX P Q (ix2 (⟨b.val * 256 + s.val, by omega⟩ : Fin 73728) j) = P (ix3 b s j) := by
  pointwise [stackX]
  rw [dif_pos (by omega)]

theorem stackX_lat (P : FVec Ideal S32x256x1024 .f32) (Q : FVec Ideal S32x2048x1024 .f32) (b : Fin 32) (s : Fin 2048) (j : Fin 1024) :
    stackX P Q (ix2 (⟨8192 + b.val * 2048 + s.val, by omega⟩ : Fin 73728) j) = Q (ix3 b s j) := by
  pointwise [stackX]
  rw [dif_neg (by omega)]
  have eb : (8192 + b.val * 2048 + s.val - 8192) / 2048 = b.val := by omega
  have es : (8192 + b.val * 2048 + s.val - 8192) % 2048 = s.val := by omega
  simp only [eb, es]

theorem V_x (c : Dev nD) (R : Fin 73728) (q : Fin 1024) :
    (V m c main_v2 : S73728x1024.Idx → EReal) (ix2 R q) = stackX (m ((c : Thread nD τ).loc main_arg6)) (m ((c : Thread nD τ).loc main_arg5)) (ix2 R q) := by
  entry_read
  rfl

theorem V_xc (c : Dev nD) (b : Fin 32) (s : Fin 256) (q : Fin 1024) :
    (V m c main_v2 : S73728x1024.Idx → EReal) (ix2 (⟨b.val * 256 + s.val, by omega⟩ : Fin 73728) q)
      = (m ((c : Thread nD τ).loc main_arg6) : S32x256x1024.Idx → EReal) (ix3 b s q) := (V_x m c _ q).trans (stackX_ctx _ _ b s q)

theorem V_xl (c : Dev nD) (b : Fin 32) (s : Fin 2048) (q : Fin 1024) :
    (V m c main_v2 : S73728x1024.Idx → EReal) (ix2 (⟨8192 + b.val * 2048 + s.val, by omega⟩ : Fin 73728) q)
      = (m ((c : Thread nD τ).loc main_arg5) : S32x2048x1024.Idx → EReal) (ix3 b s q) := (V_x m c _ q).trans (stackX_lat _ _ b s q)

/-! ## The blocks -/

theorem in_u (c : Dev nD) (t : Fin cfg0.N) (d : Fin 512) (j : Fin 1024) :
    (iblk m c 4 t : S512x1024.Idx → EReal) (ix2 d j) = (m ((c : Thread nD τ).loc main_arg4) : S1024x1024.Idx → EReal) (ix2 ⟨d.val, by omega⟩ j) := by
  refine Eq.trans (b := (V m c main_v11 : S1024x1024.Idx → EReal) (ix2 ⟨d.val, by omega⟩ j)) ?_ (V_w m c _ j)
  blk_ext [iblk, idx t]

theorem in_v (c : Dev nD) (t : Fin cfg0.N) (d : Fin 512) (j : Fin 1024) :
    (iblk m c 5 t : S512x1024.Idx → EReal) (ix2 d j) = (m ((c : Thread nD τ).loc main_arg4) : S1024x1024.Idx → EReal) (ix2 ⟨512 + d.val, by omega⟩ j) := by
  refine Eq.trans (b := (V m c main_v11 : S1024x1024.Idx → EReal) (ix2 ⟨512 + d.val, by omega⟩ j)) ?_ (V_w m c _ j)
  blk_ext [iblk, idx t]

theorem in_ac (c : Dev nD) (t : Fin cfg0.N) (r : Fin 256) (k : Fin 512) (b : Fin 32) (hb : b.val = t.val) :
    (iblk m c 0 t : S256x512.Idx → EReal) (ix2 r k) = (m ((c : Thread nD τ).loc main_arg1) : S32x256x512.Idx → EReal) (ix3 b r k) := by
  have hr := r.isLt
  have hb' := b.isLt
  refine Eq.trans (b := (V m c main_v4 : S8192x512.Idx → EReal) (ix2 ⟨min t.val 31 * 256 + r.val, by omega⟩ k)) (by blk_ext [iblk, idx t])
    ((V_ac m c _ k).trans ?_)
  have e1 : (⟨(min t.val 31 * 256 + r.val) / 256, by omega⟩ : Fin 32) = b := Fin.ext (by show (min t.val 31 * 256 + r.val) / 256 = b.val; omega)
  have e2 : (⟨(min t.val 31 * 256 + r.val) % 256, by omega⟩ : Fin 256) = r := Fin.ext (by show (min t.val 31 * 256 + r.val) % 256 = r.val; omega)
  exact congrArg₂ (fun x y => (m ((c : Thread nD τ).loc main_arg1) : S32x256x512.Idx → EReal) (ix3 x y k)) e1 e2

theorem in_al (c : Dev nD) (t : Fin cfg0.N) (r : Fin 256) (k : Fin 512) (b : Fin 32) (s : Fin 2048)
    (h : (t.val - 32) * 256 + r.val = b.val * 2048 + s.val) :
    (iblk m c 1 t : S256x512.Idx → EReal) (ix2 r k) = (m ((c : Thread nD τ).loc main_arg0) : S32x2048x512.Idx → EReal) (ix3 b s k) := by
  have hs := s.isLt
  have hb := b.isLt
  refine Eq.trans (b := (V m c main_v6 : S65536x512.Idx → EReal) (ix2 ⟨(t.val - 32) * 256 + r.val, by omega⟩ k)) (by blk_ext [iblk, idx t])
    ((V_al m c _ k).trans ?_)
  have e1 : (⟨((t.val - 32) * 256 + r.val) / 2048, by omega⟩ : Fin 32) = b := Fin.ext (by show ((t.val - 32) * 256 + r.val) / 2048 = b.val; omega)
  have e2 : (⟨((t.val - 32) * 256 + r.val) % 2048, by omega⟩ : Fin 2048) = s := Fin.ext (by show ((t.val - 32) * 256 + r.val) % 2048 = s.val; omega)
  exact congrArg₂ (fun x y => (m ((c : Thread nD τ).loc main_arg0) : S32x2048x512.Idx → EReal) (ix3 x y k)) e1 e2

theorem in_bc (c : Dev nD) (t : Fin cfg0.N) (r : Fin 256) (k : Fin 512) (b : Fin 32) (hb : b.val = t.val) :
    (iblk m c 2 t : S256x512.Idx → EReal) (ix2 r k) = (m ((c : Thread nD τ).loc main_arg3) : S32x256x512.Idx → EReal) (ix3 b r k) := by
  have hr := r.isLt
  have hb' := b.isLt
  refine Eq.trans (b := (V m c main_v8 : S8192x512.Idx → EReal) (ix2 ⟨min t.val 31 * 256 + r.val, by omega⟩ k)) (by blk_ext [iblk, idx t])
    ((V_bc m c _ k).trans ?_)
  have e1 : (⟨(min t.val 31 * 256 + r.val) / 256, by omega⟩ : Fin 32) = b := Fin.ext (by show (min t.val 31 * 256 + r.val) / 256 = b.val; omega)
  have e2 : (⟨(min t.val 31 * 256 + r.val) % 256, by omega⟩ : Fin 256) = r := Fin.ext (by show (min t.val 31 * 256 + r.val) % 256 = r.val; omega)
  exact congrArg₂ (fun x y => (m ((c : Thread nD τ).loc main_arg3) : S32x256x512.Idx → EReal) (ix3 x y k)) e1 e2

theorem in_bl (c : Dev nD) (t : Fin cfg0.N) (r : Fin 256) (k : Fin 512) (b : Fin 32) (s : Fin 2048)
    (h : (t.val - 32) * 256 + r.val = b.val * 2048 + s.val) :
    (iblk m c 3 t : S256x512.Idx → EReal) (ix2 r k) = (m ((c : Thread nD τ).loc main_arg2) : S32x2048x512.Idx → EReal) (ix3 b s k) := by
  have hs := s.isLt
  have hb := b.isLt
  refine Eq.trans (b := (V m c main_v10 : S65536x512.Idx → EReal) (ix2 ⟨(t.val - 32) * 256 + r.val, by omega⟩ k)) (by blk_ext [iblk, idx t])
    ((V_bl m c _ k).trans ?_)
  have e1 : (⟨((t.val - 32) * 256 + r.val) / 2048, by omega⟩ : Fin 32) = b := Fin.ext (by show ((t.val - 32) * 256 + r.val) / 2048 = b.val; omega)
  have e2 : (⟨((t.val - 32) * 256 + r.val) % 2048, by omega⟩ : Fin 2048) = s := Fin.ext (by show ((t.val - 32) * 256 + r.val) % 2048 = s.val; omega)
  exact congrArg₂ (fun x y => (m ((c : Thread nD τ).loc main_arg2) : S32x2048x512.Idx → EReal) (ix3 x y k)) e1 e2

theorem in_xc (c : Dev nD) (t : Fin cfg0.N) (r : Fin 256) (k : Fin 1024) (b : Fin 32) (hb : b.val = t.val) :
    (iblk m c 6 t : S256x1024.Idx → EReal) (ix2 r k) = (m ((c : Thread nD τ).loc main_arg6) : S32x256x1024.Idx → EReal) (ix3 b r k) := by
  have hr := r.isLt
  have hb' := b.isLt
  refine Eq.trans (b := (V m c main_v2 : S73728x1024.Idx → EReal) (ix2 (⟨min t.val 31 * 256 + r.val, by omega⟩ : Fin 73728) k)) (by blk_ext [iblk, idx t]) ?_
  have e : (⟨min t.val 31 * 256 + r.val, by omega⟩ : Fin 73728) = ⟨b.val * 256 + r.val, by omega⟩ := Fin.ext (by show min t.val 31 * 256 + r.val = b.val * 256 + r.val; omega)
  rw [e]
  exact V_xc m c b r k

theorem in_xl (c : Dev nD) (t : Fin cfg0.N) (r : Fin 256) (k : Fin 1024) (b : Fin 32) (s : Fin 2048) (ht : 32 ≤ t.val)
    (h : (t.val - 32) * 256 + r.val = b.val * 2048 + s.val) :
    (iblk m c 7 t : S256x1024.Idx → EReal) (ix2 r k) = (m ((c : Thread nD τ).loc main_arg5) : S32x2048x1024.Idx → EReal) (ix3 b s k) := by
  have hs := s.isLt
  have hb := b.isLt
  refine Eq.trans (b := (V m c main_v2 : S73728x1024.Idx → EReal) (ix2 (⟨(t.val - 32 + 32) * 256 + r.val, by omega⟩ : Fin 73728) k)) (by blk_ext [iblk, idx t]) ?_
  have e : (⟨(t.val - 32 + 32) * 256 + r.val, by omega⟩ : Fin 73728) = ⟨8192 + b.val * 2048 + s.val, by omega⟩ :=
    Fin.ext (by show (t.val - 32 + 32) * 256 + r.val = 8192 + b.val * 2048 + s.val; omega)
  rw [e]
  exact V_xl m c b s k

/-- The modulations' row of a grid point. -/
def modRow (t : ℕ) : ℕ := if t < 32 then 32 else (t - 32) / 8

theorem in_gate (c : Dev nD) (t : Fin cfg0.N) (k : Fin 1024) (q : Fin 40) (h : q.val = modRow t.val) :
    (View.ld (iblk m c 8 t) r0_3 : S1x1x1x1024.Idx → EReal) (ix4 (0 : Fin 1) (0 : Fin 1) (0 : Fin 1) k)
      = (m ((c : Thread nD τ).loc main_arg7) : S40x6x1x1024.Idx → EReal) (ix4 q (2 : Fin 6) (0 : Fin 1) k) := by
  obtain ⟨q, hq⟩ := q
  subst h
  refine Eq.trans (b := (V m c main_arg7 : S40x6x1x1024.Idx → EReal) (ix4 ⟨modRow t.val, hq⟩ (2 : Fin 6) (0 : Fin 1) k)) ?_ (congrFun (V_main_arg7 m c) _)
  refine Eq.trans (b := (iblk m c 8 t : S1x6x1x1024.Idx → EReal) (ix4 (0 : Fin 1) (2 : Fin 6) (0 : Fin 1) k)) (by pointwise) ?_
  unfold modRow at hq ⊢
  blk_ext [iblk, idx t]

/-- What a grid point computes is the reference's array at the point's rows. -/
theorem point (c : Dev nD) (t : Fin cfg0.N) (r : Fin 256) (j : Fin 1024) :
    (k0_pay1 (grid0.coords t) (iblk m c 0 t) (iblk m c 1 t) (iblk m c 2 t) (iblk m c 3 t) (iblk m c 4 t) (iblk m c 5 t) (iblk m c 6 t) (iblk m c 7 t)
      (View.ld (iblk m c 8 t) r0_3) : S256x1024.Idx → EReal) (ix2 r j)
      = goal m c (ix2 ⟨t.val * 256 + r.val, by have := t.isLt; have : cfg0.N = 288 := rfl; omega⟩ j) := by
  have ht : t.val < 288 := t.isLt
  have hr := r.isLt
  rw [pay_apply, goal, (idx t).1]
  simp only [in_u, in_v]
  by_cases h : t.val < 32
  · have e1 : (32 : Fin 40).val = modRow t.val := by unfold modRow; rw [if_pos h]; rfl
    refine Eq.trans ?_ (Cert.Reference3Ideal.Hand.streams_ctx (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) ⟨t.val, h⟩ r j).symm
    simp only [h, if_true, fun d => in_ac m c t r d ⟨t.val, h⟩ rfl, fun d => in_bc m c t r d ⟨t.val, h⟩ rfl, fun d => in_xc m c t r d ⟨t.val, h⟩ rfl,
      fun d => in_gate m c t d (32 : Fin 40) e1]
  · have hb : (t.val - 32) / 8 < 32 := by omega
    have hs : (t.val - 32) % 8 * 256 + r.val < 2048 := by omega
    have e1 : (⟨(t.val - 32) / 8, by omega⟩ : Fin 40).val = modRow t.val := by unfold modRow; rw [if_neg h]
    have e0 : t.val * 256 + r.val = 8192 + (t.val - 32) / 8 * 2048 + ((t.val - 32) % 8 * 256 + r.val) := by omega
    have el : (t.val - 32) * 256 + r.val = (t.val - 32) / 8 * 2048 + ((t.val - 32) % 8 * 256 + r.val) := by omega
    simp only [e0]
    refine Eq.trans ?_ (Cert.Reference3Ideal.Hand.streams_lat (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
      ⟨(t.val - 32) / 8, hb⟩ ⟨(t.val - 32) % 8 * 256 + r.val, hs⟩ j).symm
    simp only [h, if_false, fun d => in_al m c t r d ⟨(t.val - 32) / 8, hb⟩ ⟨(t.val - 32) % 8 * 256 + r.val, hs⟩ el,
      fun d => in_bl m c t r d ⟨(t.val - 32) / 8, hb⟩ ⟨(t.val - 32) % 8 * 256 + r.val, hs⟩ el,
      fun d => in_xl m c t r d ⟨(t.val - 32) / 8, hb⟩ ⟨(t.val - 32) % 8 * 256 + r.val, hs⟩ (by omega) el, fun d => in_gate m c t d ⟨(t.val - 32) / 8, by omega⟩ e1]

/-- The array after the run. -/
theorem final (c : Dev nD) : ((dats m 0 c).arrAt 9 cfg0.N : S73728x1024.Idx → EReal) = goal m c := by
  refine (dats m 0 c).arrAt_eq_of_covers 9 _ (by decide +kernel) fun t hf y => ?_
  blk_simp
  rw [after0_9]
  frame_out
  obtain ⟨r, j, rfl⟩ : ∃ (r : Fin 256) (j : Fin 1024), y = ix2 r j := ⟨y 0, y 1, eq_ix2 (n0 := 256) (n1 := 1024) y⟩
  refine (point m c t r j).trans (congrArg (goal m c) ?_)
  blk_ext [idx t]

end Cert.Kernel5Ideal.Hand

namespace Cert.Proof

open Idealize.ShloMosaic Idealize.ShloMosaic.TcCoe Idealize.SL.Sem

/-- The value claim of the output projection that reads both streams from one array. -/
theorem algebraic5 : Cert.algebraic_Kernel5Ideal_Reference3Ideal := fun m g m' g' _ hm => by
  refine ⟨fun c => Cert.Kernel5Ideal.Hand.goal m c, ?_, ?_⟩
  · exact (θ_run _ _ _).mono (fun r h c => (h c).imp_left fun e => e.trans (Cert.Kernel5Ideal.Hand.final m c)) (Cert.Kernel5Ideal.Value.run_blocks (F := Ideal) m g)
  · refine (θ_run _ _ _).mono (fun r h c => (h c).imp_left fun e => e.trans ?_) (Cert.Reference3Ideal.Value.run (F := Ideal) m' g')
    obtain ⟨e0, e1, e2, e3, e4, e5, e6, e7⟩ := hm c
    rw [e0, e1, e2, e3, e4, e5, e6, e7]
    rfl

end Cert.Proof

end
-- ==== Proof.ConvLatKernel.lean ====
/- What one block of the latents' short convolution computes. -/
module

public import proofs.«01_k».proof.Proof.Gen.Kernel6Ideal.Value
public import Idealize.ShloMosaic.Lib.Pointwise

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.StableHlo Idealize.SL.Sem

/-! ## The flags of a sequence's first and last block -/

def firstBit (n : ℕ) : BitVec 1 :=
  let arg0 : BitVec 32 := BitVec.ofNat 32 n
  let v0 : BitVec 1 := Scalar.cmpi .eq 1#32 0#32
  let v1 : BitVec 32 := Scalar.select v0 1#32 1#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg0 0#32
  let v11 : BitVec 1 := Scalar.cmpi .eq 8#32 0#32
  let v12 : BitVec 32 := Scalar.select v11 1#32 8#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  let v21 : BitVec 1 := Scalar.cmpi .slt arg0 0#32
  let v22 : BitVec 1 := Scalar.cmpi .eq v9 0#32
  let v23 : BitVec 1 := Scalar.cmpi .eq v20 0#32
  let v24 : BitVec 1 := Scalar.select v21 v22 v23
  v24

def lastBit (n : ℕ) : BitVec 1 :=
  let arg0 : BitVec 32 := BitVec.ofNat 32 n
  let v0 : BitVec 1 := Scalar.cmpi .eq 1#32 0#32
  let v1 : BitVec 32 := Scalar.select v0 1#32 1#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg0 0#32
  let v11 : BitVec 1 := Scalar.cmpi .eq 8#32 0#32
  let v12 : BitVec 32 := Scalar.select v11 1#32 8#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  let v21 : BitVec 1 := Scalar.cmpi .slt arg0 0#32
  let v25 : BitVec 1 := Scalar.cmpi .eq v9 0#32
  let v26 : BitVec 1 := Scalar.cmpi .eq v20 7#32
  let v27 : BitVec 1 := Scalar.select v21 v25 v26
  v27

theorem firstBit_eq : ∀ n : Fin 256, firstBit n.val = if n.val % 8 = 0 then 1#1 else 0#1 := by decide +kernel

theorem lastBit_eq : ∀ n : Fin 256, lastBit n.val = if n.val % 8 = 7 then 1#1 else 0#1 := by decide +kernel

theorem pay2_eq (i : grid0.Coords) : k0_pay2 (F := Ideal) i = (if (i 0).val % 8 = 0 then (0 : EReal) else 1) := by
  have e : k0_pay2 (F := Ideal) i = (Scalar.select (firstBit (i 0).val) (Ideal.ofBits .f32 0x00000000#32) (Ideal.ofBits .f32 0x3F800000#32) : EReal) := rfl
  rw [e, firstBit_eq ⟨(i 0).val, (i 0).isLt⟩]
  dsimp only
  split
  · show Ideal.ofBits .f32 0x00000000#32 = 0
    simp
  · show Ideal.ofBits .f32 0x3F800000#32 = 1
    simp

theorem pay3_eq (i : grid0.Coords) : k0_pay3 (F := Ideal) i = (if (i 0).val % 8 = 7 then (0 : EReal) else 1) := by
  have e : k0_pay3 (F := Ideal) i = (Scalar.select (lastBit (i 0).val) (Ideal.ofBits .f32 0x00000000#32) (Ideal.ofBits .f32 0x3F800000#32) : EReal) := rfl
  rw [e, lastBit_eq ⟨(i 0).val, (i 0).isLt⟩]
  dsimp only
  split
  · show Ideal.ofBits .f32 0x00000000#32 = 0
    simp
  · show Ideal.ofBits .f32 0x3F800000#32 = 1
    simp

/-! ## The payloads, element by element -/

theorem isFirst : ∀ r : Fin 256, IntOp.cmpi CmpIPredicate.eq (BitVec.ofNat 32 r.val) 0#32 = if r.val = 0 then 1#1 else 0#1 := by decide +kernel

theorem isLast : ∀ r : Fin 256, IntOp.cmpi CmpIPredicate.eq (BitVec.ofNat 32 r.val) 255#32 = if r.val = 255 then 1#1 else 0#1 := by decide +kernel

theorem pay5_apply (x : Vec Ideal S256x1024 .bf16) (y : Vec Ideal S256x1024 .bf16) (r : Fin 256) (d : Fin 1024) :
    (k0_pay5 (k0_pay4 x) y : S256x1024.Idx → EReal) (ix2 r d) = x (ix2 r d) * y (ix2 r d) := by
  pointwise [k0_pay5, k0_pay4]

theorem pay6_apply (x : Vec Ideal S256x1024 .bf16) (r : Fin 256) (d : Fin 1024) :
    (k0_pay6 x : S256x1024.Idx → EReal) (ix2 r d) = x (ix2 r d) := by
  pointwise [k0_pay6]

theorem pay8_apply (k : EReal) (x y : Vec Ideal S256x1024 .bf16) (xp yp : Vec Ideal S1x1024 .bf16) (w : Vec Ideal S1x1024 .f32) (r : Fin 256) (d : Fin 1024) :
    (k0_pay8 k (k0_pay4 x) y xp yp w : S256x1024.Idx → EReal) (ix2 r d)
      = w (ix2 (0 : Fin 1) d) * (if h : r.val = 0 then xp (ix2 (0 : Fin 1) d) * yp (ix2 (0 : Fin 1) d) * k
          else x (ix2 ⟨r.val - 1, by omega⟩ d) * y (ix2 ⟨r.val - 1, by omega⟩ d)) := by
  pointwise [k0_pay8, k0_pay5, k0_pay4]
  rw [isFirst r]
  refine congrArg (w (ix2 (0 : Fin 1) d) * ·) ?_
  by_cases h : r.val = 0
  · rw [if_pos h, dif_pos h]
    rfl
  · rw [if_neg h, dif_neg h]
    have e : (⟨(r.val + 256 - 1) % 256, Nat.mod_lt _ (by omega)⟩ : Fin 256) = ⟨r.val - 1, by omega⟩ := Fin.ext (by show (r.val + 256 - 1) % 256 = r.val - 1; omega)
    exact congrArg (fun q : Fin 256 => x (ix2 q d) * y (ix2 q d)) e

theorem pay7_apply (k : EReal) (x y : Vec Ideal S256x1024 .bf16) (xn yn : Vec Ideal S1x1024 .bf16) (r : Fin 256) (d : Fin 1024) :
    (k0_pay7 k (k0_pay4 x) y xn yn : S256x1024.Idx → EReal) (ix2 r d)
      = if h : r.val = 255 then xn (ix2 (0 : Fin 1) d) * yn (ix2 (0 : Fin 1) d) * k
          else x (ix2 ⟨r.val + 1, by omega⟩ d) * y (ix2 ⟨r.val + 1, by omega⟩ d) := by
  pointwise [k0_pay7, k0_pay5, k0_pay4]
  rw [isLast r]
  by_cases h : r.val = 255
  · rw [if_pos h, dif_pos h]
    rfl
  · rw [if_neg h, dif_neg h]
    have e : (⟨(r.val + 256 - 255) % 256, Nat.mod_lt _ (by omega)⟩ : Fin 256) = ⟨r.val + 1, by omega⟩ := Fin.ext (by show (r.val + 256 - 255) % 256 = r.val + 1; omega)
    exact congrArg (fun q : Fin 256 => x (ix2 q d) * y (ix2 q d)) e

theorem pay1_apply (v36 v57 v70 v73 : FVec Ideal S256x1024 .f32) (w1 w2 : Vec Ideal S1x1024 .f32) (x : Vec Ideal S256x1024 .f32)
    (g : Vec Ideal S1x1x1x1024 .f32) (w : Vec Ideal S1024x1024 .bf16) (r : Fin 256) (j : Fin 1024) :
    (k0_pay1 v36 v57 v70 v73 w1 w2 x g w : S256x1024.Idx → EReal) (ix2 r j)
      = x (ix2 r j) + g (ix4 (0 : Fin 1) (0 : Fin 1) (0 : Fin 1) j)
          * ∑ d : Fin 1024, v57 (ix2 r d) * (v73 (ix2 r d) + w1 (ix2 (0 : Fin 1) d) * v36 (ix2 r d) + w2 (ix2 (0 : Fin 1) d) * v70 (ix2 r d)) * w (ix2 d j) := by
  pointwise [k0_pay1]

end Cert.Kernel6Ideal.Hand

end
-- ==== Proof.ConvLatRef.lean ====
/- The reference's short convolution mixer and gated sum of the latents alone, element by element. -/
module

public import proofs.«01_k».proof.Proof.Gen.Reference6Ideal.Run
public import proofs.«01_k».proof.Proof.ConvSpec
public import Idealize.ShloMosaic.Lib.Pointwise

@[expose] public section

set_option maxRecDepth 16384

noncomputable section

namespace Cert.Reference6Ideal.Hand

open Cert.Reference6Ideal Cert.Reference6Ideal.Gen Cert.ConvSpec
open Idealize.ShloMosaic Idealize.ShloMosaic.TcCoe Idealize.ShloMosaic.StableHlo Idealize.SL.Sem

variable (PL : FVec Ideal S32x2048x3072 .f32) (K : FVec Ideal S3x1024 .f32) (W : FVec Ideal S1024x1024 .f32)
  (X : FVec Ideal S32x2048x1024 .f32) (M : FVec Ideal S40x6x1x1024 .f32)

/-- The product of the second and the third part, with a row of zeros at each end. -/
def padL : FVec Ideal S32x2050x1024 .f32 :=
  pad S32x2050x1024 ![0, 1, 0] ![0, 1, 0] ![0, 0, 0] (mulf (extractStridedSlice S32x2048x1024 ![0, 0, 1024] PL slices_S32x2048x3072_S32x2048x1024_0_0_1024) (extractStridedSlice S32x2048x1024 ![0, 0, 2048] PL slices_S32x2048x3072_S32x2048x1024_0_0_2048)) (sitofp .f32 (constantI S_ 32 0#32)) pads_S32x2048x1024_S32x2050x1024_000_110_000 h_S_

/-- The gated convolution of a padded array. -/
def convL (Z : FVec Ideal S32x2050x1024 .f32) : FVec Ideal S32x2048x1024 .f32 :=
  mulf (extractStridedSlice S32x2048x1024 ![0, 0, 0] PL slices_S32x2048x3072_S32x2048x1024_0_0_0) (addf (addf (mulf (broadcastInDim S32x2048x1024 ![0, 1, 2] bcast_S1x1x1024_S32x2048x1024_0_1_2 (broadcastInDim S1x1x1024 ![2] bcast_S1024_S1x1x1024_2 (shapeCast _ (extractStridedSlice S1x1024 ![0, 0] K slices_S3x1024_S1x1024_0_0) shapeCasts_S1x1024_S1024))) (extractStridedSlice S32x2048x1024 ![0, 0, 0] Z slices_S32x2050x1024_S32x2048x1024_0_0_0)) (mulf (broadcastInDim S32x2048x1024 ![0, 1, 2] bcast_S1x1x1024_S32x2048x1024_0_1_2 (broadcastInDim S1x1x1024 ![2] bcast_S1024_S1x1x1024_2 (shapeCast _ (extractStridedSlice S1x1024 ![1, 0] K slices_S3x1024_S1x1024_1_0) shapeCasts_S1x1024_S1024))) (extractStridedSlice S32x2048x1024 ![0, 1, 0] Z slices_S32x2050x1024_S32x2048x1024_0_1_0))) (mulf (broadcastInDim S32x2048x1024 ![0, 1, 2] bcast_S1x1x1024_S32x2048x1024_0_1_2 (broadcastInDim S1x1x1024 ![2] bcast_S1024_S1x1x1024_2 (shapeCast _ (extractStridedSlice S1x1024 ![2, 0] K slices_S3x1024_S1x1024_2_0) shapeCasts_S1x1024_S1024))) (extractStridedSlice S32x2048x1024 ![0, 2, 0] Z slices_S32x2050x1024_S32x2048x1024_0_2_0)))

/-- The samples' gated sum. -/
def gatedL (Y : FVec Ideal S32x2048x1024 .f32) : FVec Ideal S32x2048x1024 .f32 :=
  addf X (mulf (broadcastInDim S32x2048x1024 ![0, 1, 2] bcast_S32x1x1024_S32x2048x1024_0_1_2 (shapeCast _ (extractStridedSlice S32x1x1x1024 ![0, 2, 0, 0] M slices_S40x6x1x1024_S32x1x1x1024_0_2_0_0) shapeCasts_S32x1x1x1024_S32x1x1024)) (Host.dotGeneral dot_S32x2048x1024_S1024x1024_S32x2048x1024_2_0_01_1_n_n none Y W))

/-- The stream after the mixer. -/
def streams : FVec Ideal S65536x1024 .f32 :=
  shapeCast _ (gatedL W X M (convL PL K (padL PL))) shapeCasts_S32x2048x1024_S65536x1024

theorem padL_apply (b : Fin 32) (q : Fin 2050) (d : Fin 1024) :
    padL PL (ix3 b q d) = if h : 1 ≤ q.val ∧ q.val - 1 < 2048 then
      PL (ix3 b (⟨q.val - 1, by omega⟩ : Fin 2048) (⟨1024 + d.val, by omega⟩ : Fin 3072)) * PL (ix3 b (⟨q.val - 1, by omega⟩ : Fin 2048) (⟨2048 + d.val, by omega⟩ : Fin 3072)) else 0 := by
  pointwise [padL]
  have z : (FloatOps.sitofp FTy.f32 (0#32) : Ideal FTy.f32) = (0 : EReal) := by
    show (((0#32).toInt : ℝ) : EReal) = 0
    simp
  rw [z]

theorem convL_apply (Z : FVec Ideal S32x2050x1024 .f32) (b : Fin 32) (s : Fin 2048) (d : Fin 1024) :
    convL PL K Z (ix3 b s d) = PL (ix3 b s (⟨d.val, by omega⟩ : Fin 3072)) * (K (ix2 (0 : Fin 3) d) * Z (ix3 b (⟨s.val, by omega⟩ : Fin 2050) d)
      + K (ix2 (1 : Fin 3) d) * Z (ix3 b (⟨1 + s.val, by omega⟩ : Fin 2050) d) + K (ix2 (2 : Fin 3) d) * Z (ix3 b (⟨2 + s.val, by omega⟩ : Fin 2050) d)) := by
  pointwise [convL]

theorem gatedL_apply (Y : FVec Ideal S32x2048x1024 .f32) (b : Fin 32) (s : Fin 2048) (j : Fin 1024) :
    gatedL W X M Y (ix3 b s j) = X (ix3 b s j) + M (ix4 (⟨b.val, by omega⟩ : Fin 40) (2 : Fin 6) (0 : Fin 1) j) * ∑ d : Fin 1024, Y (ix3 b s d) * W (ix2 d j) := by
  pointwise [gatedL]

theorem flat_apply (Q : FVec Ideal S32x2048x1024 .f32) (b : Fin 32) (s : Fin 2048) (j : Fin 1024) :
    (shapeCast _ Q shapeCasts_S32x2048x1024_S65536x1024 : S65536x1024.Idx → EReal) (ix2 (⟨b.val * 2048 + s.val, by omega⟩ : Fin 65536) j) = Q (ix3 b s j) := by
  pointwise

theorem streams_lat (b : Fin 32) (s : Fin 2048) (j : Fin 1024) :
    streams PL K W X M (ix2 (⟨b.val * 2048 + s.val, by omega⟩ : Fin 65536) j)
      = mixed (fun q d => PL (ix3 b q d)) (fun q d => K (ix2 q d)) (X (ix3 b s j)) (M (ix4 (⟨b.val, by omega⟩ : Fin 40) (2 : Fin 6) (0 : Fin 1) j)) s (fun d => W (ix2 d j)) := by
  rw [streams, flat_apply, gatedL_apply, mixed]
  refine congrArg (fun q => X (ix3 b s j) + M (ix4 (⟨b.val, by omega⟩ : Fin 40) (2 : Fin 6) (0 : Fin 1) j) * q) (Finset.sum_congr rfl fun d _ => congrArg (· * W (ix2 d j)) ?_)
  have hs := s.isLt
  rw [convL_apply, padL_apply, padL_apply, padL_apply]
  unfold tap
  refine congrArg (PL (ix3 b s (⟨d.val, by omega⟩ : Fin 3072)) * ·) (congrArg₂ (· + ·) (congrArg₂ (· + ·) (congrArg (K (ix2 (0 : Fin 3) d) * ·) ?_)
    (congrArg (K (ix2 (1 : Fin 3) d) * ·) ?_)) (congrArg (K (ix2 (2 : Fin 3) d) * ·) ?_))
  · by_cases h : s.val = 0
    · rw [dif_neg (by dsimp only; omega), dif_pos h]
    · rw [dif_pos (by dsimp only; omega), dif_neg h]
  · rw [dif_pos (by dsimp only; omega)]
    have e : (⟨1 + s.val - 1, by omega⟩ : Fin 2048) = s := Fin.ext (by show 1 + s.val - 1 = s.val; omega)
    exact congrArg (fun q => PL (ix3 b q (⟨1024 + d.val, by omega⟩ : Fin 3072)) * PL (ix3 b q (⟨2048 + d.val, by omega⟩ : Fin 3072))) e
  · by_cases h : s.val + 1 = 2048
    · rw [dif_neg (by dsimp only; omega), dif_pos h]
    · rw [dif_pos (by dsimp only; omega), dif_neg h]
      have e : (⟨2 + s.val - 1, by omega⟩ : Fin 2048) = ⟨s.val + 1, by omega⟩ := Fin.ext (by show 2 + s.val - 1 = s.val + 1; omega)
      exact congrArg (fun q => PL (ix3 b q (⟨1024 + d.val, by omega⟩ : Fin 3072)) * PL (ix3 b q (⟨2048 + d.val, by omega⟩ : Fin 3072))) e

end Cert.Reference6Ideal.Hand

end
-- ==== Proof.ConvLatClaim.lean ====
/- The latents' short convolution's array is the reference's, element by element, over the extended reals. -/
module

public import proofs.«01_k».proof.Defs
public import proofs.«01_k».proof.Proof.ConvLatKernel
public import proofs.«01_k».proof.Proof.ConvLatRef
public import Idealize.ShloMosaic.Lib.Pipeline.ValueKit
public import Idealize.ShloMosaic.Lib.Claim

@[expose] public section

set_option maxRecDepth 16384

noncomputable section

namespace Cert.Kernel6Ideal.Hand

open Cert.Kernel6Ideal Cert.Kernel6Ideal.Gen Cert.ConvSpec
open Idealize.ShloMosaic Idealize.ShloMosaic.TcCoe Idealize.ShloMosaic.StableHlo Idealize.SL.Sem

variable (m : (ℓ : Loc nD τ sig) → Buf (Elt Ideal) ℓ)

/-- The reference's array of the kernel's arguments. -/
abbrev goal (c : Dev nD) : S65536x1024.Idx → EReal :=
  Cert.Reference6Ideal.Hand.streams (m ((c : Thread nD τ).loc main_arg0)) (m ((c : Thread nD τ).loc main_arg1)) (m ((c : Thread nD τ).loc main_arg2)) (m ((c : Thread nD τ).loc main_arg3)) (m ((c : Thread nD τ).loc main_arg4))

/-- Where each window's block lies at a grid point. -/
theorem idx : ∀ t : Fin cfg0.N, ((grid0.coords t) 0).val = t.val
    ∧ win0_0.index t = ![t.val, 0] ∧ win0_1.index t = ![t.val, 1] ∧ win0_2.index t = ![t.val, 2] ∧ win0_3.index t = ![16 * t.val - 1, 1]
    ∧ win0_4.index t = ![min (16 * (t.val + 1)) 4095, 1] ∧ win0_5.index t = ![16 * t.val - 1, 2] ∧ win0_6.index t = ![min (16 * (t.val + 1)) 4095, 2]
    ∧ win0_7.index t = ![0, 0] ∧ win0_8.index t = ![0, 0] ∧ win0_9.index t = ![t.val, 0]
    ∧ win0_10.index t = ![t.val / 8, 0, 0, 0] ∧ win0_11.index t = ![t.val, 0] :=
  (by decide +kernel : ∀ t : Fin grid0.N, ((grid0.coords t) 0).val = t.val
    ∧ win0_0.index t = ![t.val, 0] ∧ win0_1.index t = ![t.val, 1] ∧ win0_2.index t = ![t.val, 2] ∧ win0_3.index t = ![16 * t.val - 1, 1]
    ∧ win0_4.index t = ![min (16 * (t.val + 1)) 4095, 1] ∧ win0_5.index t = ![16 * t.val - 1, 2] ∧ win0_6.index t = ![min (16 * (t.val + 1)) 4095, 2]
    ∧ win0_7.index t = ![0, 0] ∧ win0_8.index t = ![0, 0] ∧ win0_9.index t = ![t.val, 0]
    ∧ win0_10.index t = ![t.val / 8, 0, 0, 0] ∧ win0_11.index t = ![t.val, 0])

/-! ## What the region finds in the arrays the host prepared -/

theorem V_w (c : Dev nD) (d : Fin 1024) (j : Fin 1024) :
    (V m c main_v2 : S1024x1024.Idx → EReal) (ix2 d j) = (m ((c : Thread nD τ).loc main_arg2) : S1024x1024.Idx → EReal) (ix2 d j) := by
  entry_read
  pointwise

theorem V_pl (c : Dev nD) (b : Fin 32) (s : Fin 2048) (q : Fin 3072) :
    (V m c main_v1 : S65536x3072.Idx → EReal) (ix2 (⟨b.val * 2048 + s.val, by omega⟩ : Fin 65536) q)
      = (m ((c : Thread nD τ).loc main_arg0) : S32x2048x3072.Idx → EReal) (ix3 b s q) := by
  entry_read
  pointwise
  have eb : (b.val * 2048 + s.val) / 2048 = b.val := by omega
  have es : (b.val * 2048 + s.val) % 2048 = s.val := by omega
  simp only [eb, es]

theorem V_xl (c : Dev nD) (b : Fin 32) (s : Fin 2048) (q : Fin 1024) :
    (V m c main_v3 : S65536x1024.Idx → EReal) (ix2 (⟨b.val * 2048 + s.val, by omega⟩ : Fin 65536) q)
      = (m ((c : Thread nD τ).loc main_arg3) : S32x2048x1024.Idx → EReal) (ix3 b s q) := by
  entry_read
  pointwise

/-! ## The blocks -/

/-- The modulations' row of a grid point. -/
def modRow (t : ℕ) : ℕ := t / 8

theorem in_gate (c : Dev nD) (t : Fin cfg0.N) (k : Fin 1024) (q : Fin 40) (h : q.val = modRow t.val) :
    (View.ld (iblk m c 10 t) r0_6 : S1x1x1x1024.Idx → EReal) (ix4 (0 : Fin 1) (0 : Fin 1) (0 : Fin 1) k)
      = (m ((c : Thread nD τ).loc main_arg4) : S40x6x1x1024.Idx → EReal) (ix4 q (2 : Fin 6) (0 : Fin 1) k) := by
  obtain ⟨q, hq⟩ := q
  subst h
  refine Eq.trans (b := (V m c main_arg4 : S40x6x1x1024.Idx → EReal) (ix4 ⟨modRow t.val, hq⟩ (2 : Fin 6) (0 : Fin 1) k)) ?_ (congrFun (V_main_arg4 m c) _)
  refine Eq.trans (b := (iblk m c 10 t : S1x6x1x1024.Idx → EReal) (ix4 (0 : Fin 1) (2 : Fin 6) (0 : Fin 1) k)) (by pointwise) ?_
  unfold modRow at hq ⊢
  blk_ext [iblk, idx t]

theorem in_w (c : Dev nD) (t : Fin cfg0.N) (d : Fin 1024) (j : Fin 1024) :
    (iblk m c 8 t : S1024x1024.Idx → EReal) (ix2 d j) = (m ((c : Thread nD τ).loc main_arg2) : S1024x1024.Idx → EReal) (ix2 d j) := by
  refine Eq.trans (b := (V m c main_v2 : S1024x1024.Idx → EReal) (ix2 d j)) ?_ (V_w m c d j)
  blk_ext [iblk, idx t]

theorem in_k (c : Dev nD) (t : Fin cfg0.N) (q : Fin 3) (d : Fin 1024) :
    (iblk m c 7 t : S3x1024.Idx → EReal) (ix2 q d) = (m ((c : Thread nD τ).loc main_arg1) : S3x1024.Idx → EReal) (ix2 q d) := by
  refine Eq.trans (b := (V m c main_arg1 : S3x1024.Idx → EReal) (ix2 q d)) ?_ (congrFun (V_main_arg1 m c) _)
  blk_ext [iblk, idx t]

theorem in_k0 (c : Dev nD) (t : Fin cfg0.N) (d : Fin 1024) :
    (View.ld (iblk m c 7 t) r0_3 : S1x1024.Idx → EReal) (ix2 (0 : Fin 1) d) = (m ((c : Thread nD τ).loc main_arg1) : S3x1024.Idx → EReal) (ix2 (0 : Fin 3) d) :=
  Eq.trans (b := (iblk m c 7 t : S3x1024.Idx → EReal) (ix2 (0 : Fin 3) d)) (by pointwise) (in_k m c t 0 d)

theorem in_k1 (c : Dev nD) (t : Fin cfg0.N) (d : Fin 1024) :
    (View.ld (iblk m c 7 t) r0_4 : S1x1024.Idx → EReal) (ix2 (0 : Fin 1) d) = (m ((c : Thread nD τ).loc main_arg1) : S3x1024.Idx → EReal) (ix2 (1 : Fin 3) d) :=
  Eq.trans (b := (iblk m c 7 t : S3x1024.Idx → EReal) (ix2 (1 : Fin 3) d)) (by pointwise) (in_k m c t 1 d)

theorem in_k2 (c : Dev nD) (t : Fin cfg0.N) (d : Fin 1024) :
    (View.ld (iblk m c 7 t) r0_5 : S1x1024.Idx → EReal) (ix2 (0 : Fin 1) d) = (m ((c : Thread nD τ).loc main_arg1) : S3x1024.Idx → EReal) (ix2 (2 : Fin 3) d) :=
  Eq.trans (b := (iblk m c 7 t : S3x1024.Idx → EReal) (ix2 (2 : Fin 3) d)) (by pointwise) (in_k m c t 2 d)

theorem in_x (c : Dev nD) (t : Fin cfg0.N) (r : Fin 256) (d : Fin 1024) (R : Fin 65536) (h : R.val = t.val * 256 + r.val) :
    (iblk m c 9 t : S256x1024.Idx → EReal) (ix2 r d) = (V m c main_v3 : S65536x1024.Idx → EReal) (ix2 R d) := by
  obtain ⟨R, hR⟩ := R
  subst h
  blk_ext [iblk, idx t]

theorem in_b (c : Dev nD) (t : Fin cfg0.N) (r : Fin 256) (d : Fin 1024) (R : Fin 65536) (h : R.val = t.val * 256 + r.val) :
    (iblk m c 0 t : S256x1024.Idx → EReal) (ix2 r d) = (V m c main_v1 : S65536x3072.Idx → EReal) (ix2 R ⟨d.val, by omega⟩) := by
  obtain ⟨R, hR⟩ := R
  subst h
  blk_ext [iblk, idx t]

theorem in_c (c : Dev nD) (t : Fin cfg0.N) (r : Fin 256) (d : Fin 1024) (R : Fin 65536) (h : R.val = t.val * 256 + r.val) :
    (iblk m c 1 t : S256x1024.Idx → EReal) (ix2 r d) = (V m c main_v1 : S65536x3072.Idx → EReal) (ix2 R ⟨1024 + d.val, by omega⟩) := by
  obtain ⟨R, hR⟩ := R
  subst h
  blk_ext [iblk, idx t]

theorem in_h (c : Dev nD) (t : Fin cfg0.N) (r : Fin 256) (d : Fin 1024) (R : Fin 65536) (h : R.val = t.val * 256 + r.val) :
    (iblk m c 2 t : S256x1024.Idx → EReal) (ix2 r d) = (V m c main_v1 : S65536x3072.Idx → EReal) (ix2 R ⟨2048 + d.val, by omega⟩) := by
  obtain ⟨R, hR⟩ := R
  subst h
  blk_ext [iblk, idx t]

theorem in_cp (c : Dev nD) (t : Fin cfg0.N) (d : Fin 1024) (R : Fin 65536) (h : R.val + 1 = t.val * 256) :
    (View.ld (iblk m c 3 t) r0_1 : S1x1024.Idx → EReal) (ix2 (0 : Fin 1) d) = (V m c main_v1 : S65536x3072.Idx → EReal) (ix2 R ⟨1024 + d.val, by omega⟩) := by
  refine Eq.trans (b := (iblk m c 3 t : S16x1024.Idx → EReal) (ix2 (15 : Fin 16) d)) (by pointwise) ?_
  have e : R = ⟨(16 * t.val - 1) * 16 + 15, by omega⟩ := Fin.ext (by show R.val = (16 * t.val - 1) * 16 + 15; omega)
  rw [e]
  blk_ext [iblk, idx t]

theorem in_hp (c : Dev nD) (t : Fin cfg0.N) (d : Fin 1024) (R : Fin 65536) (h : R.val + 1 = t.val * 256) :
    (View.ld (iblk m c 5 t) r0_1 : S1x1024.Idx → EReal) (ix2 (0 : Fin 1) d) = (V m c main_v1 : S65536x3072.Idx → EReal) (ix2 R ⟨2048 + d.val, by omega⟩) := by
  refine Eq.trans (b := (iblk m c 5 t : S16x1024.Idx → EReal) (ix2 (15 : Fin 16) d)) (by pointwise) ?_
  have e : R = ⟨(16 * t.val - 1) * 16 + 15, by omega⟩ := Fin.ext (by show R.val = (16 * t.val - 1) * 16 + 15; omega)
  rw [e]
  blk_ext [iblk, idx t]

theorem in_cn (c : Dev nD) (t : Fin cfg0.N) (d : Fin 1024) (R : Fin 65536) (h : R.val = (t.val + 1) * 256) :
    (View.ld (iblk m c 4 t) r0_2 : S1x1024.Idx → EReal) (ix2 (0 : Fin 1) d) = (V m c main_v1 : S65536x3072.Idx → EReal) (ix2 R ⟨1024 + d.val, by omega⟩) := by
  refine Eq.trans (b := (iblk m c 4 t : S16x1024.Idx → EReal) (ix2 (0 : Fin 16) d)) (by pointwise) ?_
  have e : R = ⟨min (16 * (t.val + 1)) 4095 * 16, by omega⟩ := Fin.ext (by show R.val = min (16 * (t.val + 1)) 4095 * 16; omega)
  rw [e]
  blk_ext [iblk, idx t]

theorem in_hn (c : Dev nD) (t : Fin cfg0.N) (d : Fin 1024) (R : Fin 65536) (h : R.val = (t.val + 1) * 256) :
    (View.ld (iblk m c 6 t) r0_2 : S1x1024.Idx → EReal) (ix2 (0 : Fin 1) d) = (V m c main_v1 : S65536x3072.Idx → EReal) (ix2 R ⟨2048 + d.val, by omega⟩) := by
  refine Eq.trans (b := (iblk m c 6 t : S16x1024.Idx → EReal) (ix2 (0 : Fin 16) d)) (by pointwise) ?_
  have e : R = ⟨min (16 * (t.val + 1)) 4095 * 16, by omega⟩ := Fin.ext (by show R.val = min (16 * (t.val + 1)) 4095 * 16; omega)
  rw [e]
  blk_ext [iblk, idx t]

/-- What a grid point computes at a row that lies at position `s` of a sequence `p` of `L` rows starting at row `base`. -/
theorem block (c : Dev nD) (t : Fin cfg0.N) (r : Fin 256) (j : Fin 1024) {L : ℕ} (p : Fin L → Fin 3072 → EReal) (base : ℕ) (hL : base + L ≤ 65536)
    (hp : ∀ (R : Fin 65536) (s : Fin L) (q : Fin 3072), R.val = base + s.val → (V m c main_v1 : S65536x3072.Idx → EReal) (ix2 R q) = p s q)
    (s : Fin L) (hs : t.val * 256 + r.val = base + s.val)
    (hf : r.val = 0 → (t.val % 8 = 0 ↔ s.val = 0)) (hf' : r.val ≠ 0 → s.val ≠ 0)
    (hl : r.val = 255 → (t.val % 8 = 7 ↔ s.val + 1 = L)) (hl' : r.val ≠ 255 → s.val + 1 ≠ L) :
    (k0_pay1 (k0_pay5 (k0_pay4 (iblk m c 1 t)) (iblk m c 2 t)) (k0_pay6 (iblk m c 0 t))
        (k0_pay7 (k0_pay3 (F := Ideal) (grid0.coords t)) (k0_pay4 (iblk m c 1 t)) (iblk m c 2 t) (View.ld (iblk m c 4 t) r0_2) (View.ld (iblk m c 6 t) r0_2))
        (k0_pay8 (k0_pay2 (F := Ideal) (grid0.coords t)) (k0_pay4 (iblk m c 1 t)) (iblk m c 2 t) (View.ld (iblk m c 3 t) r0_1) (View.ld (iblk m c 5 t) r0_1) (View.ld (iblk m c 7 t) r0_3))
        (View.ld (iblk m c 7 t) r0_4) (View.ld (iblk m c 7 t) r0_5) (iblk m c 9 t) (View.ld (iblk m c 10 t) r0_6) (iblk m c 8 t) : S256x1024.Idx → EReal) (ix2 r j)
      = mixed p (fun q d => (m ((c : Thread nD τ).loc main_arg1) : S3x1024.Idx → EReal) (ix2 q d)) ((iblk m c 9 t : S256x1024.Idx → EReal) (ix2 r j))
          ((View.ld (iblk m c 10 t) r0_6 : S1x1x1x1024.Idx → EReal) (ix4 (0 : Fin 1) (0 : Fin 1) (0 : Fin 1) j)) s
          (fun d => (m ((c : Thread nD τ).loc main_arg2) : S1024x1024.Idx → EReal) (ix2 d j)) := by
  have ht : t.val < 256 := t.isLt
  have hr := r.isLt
  have hsL := s.isLt
  have ec : ((grid0.coords t) 0).val = t.val := (idx t).1
  have row : ∀ (q : Fin 256) (s' : Fin L) (d : Fin 1024), t.val * 256 + q.val = base + s'.val →
      HMul.hMul (α := EReal) (β := EReal) (γ := EReal) ((iblk m c 1 t : S256x1024.Idx → EReal) (ix2 q d)) ((iblk m c 2 t : S256x1024.Idx → EReal) (ix2 q d)) = tap p s' d := fun q s' d e => by
    have hq := q.isLt
    rw [in_c m c t q d ⟨t.val * 256 + q.val, by omega⟩ rfl, in_h m c t q d ⟨t.val * 256 + q.val, by omega⟩ rfl, hp _ s' _ e, hp _ s' _ e]
    rfl
  refine (pay1_apply _ _ _ _ _ _ _ _ _ r j).trans ?_
  rw [mixed]
  refine congrArg (HAdd.hAdd (α := EReal) (β := EReal) (γ := EReal) _) (congrArg (HMul.hMul (α := EReal) (β := EReal) (γ := EReal) _) (Finset.sum_congr rfl fun d _ => ?_))
  refine congrArg₂ (· * ·) (congrArg₂ (· * ·) ?_ (congrArg₂ (· + ·) (congrArg₂ (· + ·) ?_ (congrArg₂ (· * ·) (in_k1 m c t d) ?_)) (congrArg₂ (· * ·) (in_k2 m c t d) ?_))) (in_w m c t d j)
  · refine (pay6_apply _ r d).trans ?_
    rw [in_b m c t r d ⟨t.val * 256 + r.val, by omega⟩ rfl]
    exact hp _ s _ hs
  · refine (pay8_apply _ _ _ _ _ _ r d).trans (congrArg₂ (· * ·) (in_k0 m c t d) ?_)
    by_cases h : r.val = 0
    · rw [dif_pos h, pay2_eq, ec]
      by_cases h2 : s.val = 0
      · rw [dif_pos h2, if_pos ((hf h).2 h2), mul_zero]
      · rw [dif_neg h2, if_neg (fun q => h2 ((hf h).1 q)), mul_one]
        rw [in_cp m c t d ⟨t.val * 256 - 1, by omega⟩ (by show t.val * 256 - 1 + 1 = t.val * 256; omega),
          in_hp m c t d ⟨t.val * 256 - 1, by omega⟩ (by show t.val * 256 - 1 + 1 = t.val * 256; omega),
          hp _ ⟨s.val - 1, by omega⟩ _ (by show t.val * 256 - 1 = base + (s.val - 1); omega),
          hp _ ⟨s.val - 1, by omega⟩ _ (by show t.val * 256 - 1 = base + (s.val - 1); omega)]
        rfl
    · have h2 := hf' h
      rw [dif_neg h, dif_neg h2]
      exact row ⟨r.val - 1, by omega⟩ ⟨s.val - 1, by omega⟩ d (by show t.val * 256 + (r.val - 1) = base + (s.val - 1); omega)
  · exact (pay5_apply _ _ r d).trans (row r s d hs)
  · refine (pay7_apply _ _ _ _ _ r d).trans ?_
    by_cases h : r.val = 255
    · rw [dif_pos h, pay3_eq, ec]
      by_cases h2 : s.val + 1 = L
      · rw [dif_pos h2, if_pos ((hl h).2 h2), mul_zero]
      · rw [dif_neg h2, if_neg (fun q => h2 ((hl h).1 q)), mul_one]
        rw [in_cn m c t d ⟨(t.val + 1) * 256, by omega⟩ rfl,
          in_hn m c t d ⟨(t.val + 1) * 256, by omega⟩ rfl,
          hp _ ⟨s.val + 1, by omega⟩ _ (by show (t.val + 1) * 256 = base + (s.val + 1); omega),
          hp _ ⟨s.val + 1, by omega⟩ _ (by show (t.val + 1) * 256 = base + (s.val + 1); omega)]
        rfl
    · have h2 := hl' h
      rw [dif_neg h, dif_neg h2]
      exact row ⟨r.val + 1, by omega⟩ ⟨s.val + 1, by omega⟩ d (by show t.val * 256 + (r.val + 1) = base + (s.val + 1); omega)

/-- What a grid point computes is the reference's array at the point's rows. -/
theorem point (c : Dev nD) (t : Fin cfg0.N) (r : Fin 256) (j : Fin 1024) :
    (k0_pay1 (k0_pay5 (k0_pay4 (iblk m c 1 t)) (iblk m c 2 t)) (k0_pay6 (iblk m c 0 t))
        (k0_pay7 (k0_pay3 (F := Ideal) (grid0.coords t)) (k0_pay4 (iblk m c 1 t)) (iblk m c 2 t) (View.ld (iblk m c 4 t) r0_2) (View.ld (iblk m c 6 t) r0_2))
        (k0_pay8 (k0_pay2 (F := Ideal) (grid0.coords t)) (k0_pay4 (iblk m c 1 t)) (iblk m c 2 t) (View.ld (iblk m c 3 t) r0_1) (View.ld (iblk m c 5 t) r0_1) (View.ld (iblk m c 7 t) r0_3))
        (View.ld (iblk m c 7 t) r0_4) (View.ld (iblk m c 7 t) r0_5) (iblk m c 9 t) (View.ld (iblk m c 10 t) r0_6) (iblk m c 8 t) : S256x1024.Idx → EReal) (ix2 r j)
      = goal m c (ix2 ⟨t.val * 256 + r.val, by have := t.isLt; have : cfg0.N = 256 := rfl; omega⟩ j) := by
  have ht : t.val < 256 := t.isLt
  have hr := r.isLt
  have hb : t.val / 8 < 32 := by omega
  have hs : t.val % 8 * 256 + r.val < 2048 := by omega
  have e0 : t.val * 256 + r.val = t.val / 8 * 2048 + (t.val % 8 * 256 + r.val) := by omega
  simp only [e0]
  refine Eq.trans ?_ (Cert.Reference6Ideal.Hand.streams_lat (m ((c : Thread nD τ).loc main_arg0)) (m ((c : Thread nD τ).loc main_arg1)) (m ((c : Thread nD τ).loc main_arg2)) (m ((c : Thread nD τ).loc main_arg3)) (m ((c : Thread nD τ).loc main_arg4))
    ⟨t.val / 8, hb⟩ ⟨t.val % 8 * 256 + r.val, hs⟩ j).symm
  refine (block m c t r j (fun q d => (m ((c : Thread nD τ).loc main_arg0) : S32x2048x3072.Idx → EReal) (ix3 ⟨t.val / 8, hb⟩ q d)) (t.val / 8 * 2048) (by omega) ?_
    ⟨t.val % 8 * 256 + r.val, hs⟩ e0 (fun e => by dsimp only; omega) (fun e => by dsimp only; omega) (fun e => by dsimp only; omega) (fun e => by dsimp only; omega)).trans ?_
  · intro R s q e
    have : R = ⟨t.val / 8 * 2048 + s.val, by omega⟩ := Fin.ext e
    rw [this]
    exact V_pl m c ⟨t.val / 8, hb⟩ s q
  · rw [in_gate m c t j ⟨t.val / 8, by omega⟩ rfl,
      in_x m c t r j ⟨t.val / 8 * 2048 + (t.val % 8 * 256 + r.val), by omega⟩ e0.symm, V_xl m c ⟨t.val / 8, hb⟩ ⟨t.val % 8 * 256 + r.val, hs⟩ j]

theorem pay9_eq (i : grid0.Coords) (x0 x1 x2 : Vec Ideal S256x1024 .bf16) (x3 x4 x5 x6 : Vec Ideal S16x1024 .bf16) (x7 : Vec Ideal S3x1024 .f32)
    (x8 : Vec Ideal S1024x1024 .bf16) (x9 : Vec Ideal S256x1024 .f32) (x10 : Vec Ideal S1x6x1x1024 .f32) :
    k0_pay9 i x0 x1 x2 x3 x4 x5 x6 x7 x8 x9 x10 = k0_pay4 x1 := by
  unfold k0_pay9
  exact congrArg k0_pay4 (View.ld_unit_lit _ x1 (by decide))

/-- The array after the run. -/
theorem final (c : Dev nD) : ((dats m 0 c).arrAt 11 cfg0.N : S65536x1024.Idx → EReal) = goal m c := by
  refine (dats m 0 c).arrAt_eq_of_covers 11 _ (by decide +kernel) fun t hf y => ?_
  blk_simp
  rw [after0_11]
  frame_out
  simp only [pay9_eq]
  obtain ⟨r, j, rfl⟩ : ∃ (r : Fin 256) (j : Fin 1024), y = ix2 r j := ⟨y 0, y 1, eq_ix2 (n0 := 256) (n1 := 1024) y⟩
  refine (point m c t r j).trans (congrArg (goal m c) ?_)
  blk_ext [idx t]

end Cert.Kernel6Ideal.Hand

namespace Cert.Proof

open Idealize.ShloMosaic Idealize.ShloMosaic.TcCoe Idealize.SL.Sem

/-- The latents' short convolution's value claim. -/
theorem algebraic6 : Cert.algebraic_Kernel6Ideal_Reference6Ideal := fun m g m' g' _ hm => by
  refine ⟨fun c => Cert.Kernel6Ideal.Hand.goal m c, ?_, ?_⟩
  · exact (θ_run _ _ _).mono (fun r h c => (h c).imp_left fun e => e.trans (Cert.Kernel6Ideal.Hand.final m c)) (Cert.Kernel6Ideal.Value.run_blocks (F := Ideal) m g)
  · refine (θ_run _ _ _).mono (fun r h c => (h c).imp_left fun e => e.trans ?_) (Cert.Reference6Ideal.Value.run (F := Ideal) m' g')
    obtain ⟨e0, e1, e2, e3, e4⟩ := hm c
    rw [e0, e1, e2, e3, e4]
    rfl

end Cert.Proof

end
-- ==== Proof.lean ====
/- The experts call's certificate: the kernel's run at both instances, the reference's, and their results equal. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_routed
public import proofs.«01_k».proof.Proof.Pre
public import proofs.«01_k».proof.Proof.Ref
public import proofs.«01_k».proof.Proof.Claim
public import proofs.«01_k».proof.Proof.NormClaim
public import proofs.«01_k».proof.Proof.MixClaim
public import proofs.«01_k».proof.Proof.ConvClaim
public import proofs.«01_k».proof.Proof.MixOneClaim
public import proofs.«01_k».proof.Proof.ConvLatClaim

@[expose] public section

noncomputable section

namespace Cert.Proof

open Idealize.ShloMosaic Idealize.SL.Sem

/-- The two printed kernels are one text: their bodies, their tables, their mains. -/
theorem body_eq : Cert.Kernel.cc0_experts (F := Bits) = Cert.KernelIdeal.cc0_experts (F := Bits) := rfl

theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) table_eq

theorem main_eq : Cert.Kernel.main (F := Bits) = Cert.KernelIdeal.main (F := Bits) := rfl

/-- The printed kernel's frame, its run the one stated over any floats. -/
theorem frame_kernel : Cert.quiescent_Kernel := fun m ρ hp => by
  have h := Cert.KernelIdeal.Hand.frame_run (F := Bits) (m := m) (Cert.KernelIdeal.Hand.routed_of (hp 0)) ρ
  rw [defs_eq, main_eq]
  exact h

/-- The idealized kernel's frame. -/
theorem frame_ideal : Cert.quiescent_KernelIdeal := fun m ρ hp =>
  Cert.KernelIdeal.Hand.frame_run (F := Ideal) (m := m) (Cert.KernelIdeal.Hand.routed_of (hp 0)) ρ

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hand.run_main (F := Ideal) m ρ)

/-- The projection reference's frame: it declares no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection reference's frame: it declares no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The short convolution reference's frame: it declares no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The latents' short convolution reference's frame: it declares no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Kernel6.Gen.facts, Cert.Kernel6Ideal.Gen.facts, Cert.Reference6Ideal.Gen.facts, Cert.Pre_routed.Gen.facts,
    frame_kernel, frame_ideal, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ,
    fun m ρ _ => Cert.Kernel6.Gen.frame m ρ, fun m ρ _ => Cert.Kernel6Ideal.Gen.frame m ρ, frame_reference6,
    trivial, algebraic, trivial, algebraic2, trivial, algebraic3, trivial, algebraic4, trivial, algebraic5, trivial, algebraic6⟩

end Cert.Proof

end
